-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_tables : Cert.Pre_tables.Facts] (m : (ℓ : Loc Cert.Kernel2.nD Cert.Kernel2.τ Cert.Kernel2.sig) → Buf (Elt Bits) ℓ) : Prop :=
  ∀ c : Dev Cert.Kernel2.nD,
    (Cert.Pre_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))) = (fun _ => 1#1)

def Pre_Kernel2Ideal [hPre_tables : Cert.Pre_tables.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables [hPre_tables : Cert.Pre_tables.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] [hPre_tables : Cert.Pre_tables.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_tables : Cert.Pre_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_tables [hReference2Ideal : Cert.Reference2Ideal.Facts] [hPre_tables : Cert.Pre_tables.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] [hPre_tables : Cert.Pre_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v75) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v19_0)) (v1 : (c : Dev Cert.Kernel3Ideal.nD) → Buf (Elt Ideal) ((c.tc : Thread Cert.Kernel3Ideal.nD Cert.Kernel3Ideal.τ).loc Cert.Kernel3Ideal.main_v19_1)) (v2 : (c : Dev Cert.Kernel3Ideal.nD) → Buf (Elt Ideal) ((c.tc : Thread Cert.Kernel3Ideal.nD Cert.Kernel3Ideal.τ).loc Cert.Kernel3Ideal.main_v19_3)) (v3 : (c : Dev Cert.Kernel3Ideal.nD) → Buf (Elt Ideal) ((c.tc : Thread Cert.Kernel3Ideal.nD Cert.Kernel3Ideal.τ).loc Cert.Kernel3Ideal.main_v19_4)) (v4 : (c : Dev Cert.Kernel3Ideal.nD) → Buf (Elt Ideal) ((c.tc : Thread Cert.Kernel3Ideal.nD Cert.Kernel3Ideal.τ).loc Cert.Kernel3Ideal.main_v19_5)) (v5 : (c : Dev Cert.Kernel3Ideal.nD) → Buf (Elt Ideal) ((c.tc : Thread Cert.Kernel3Ideal.nD Cert.Kernel3Ideal.τ).loc Cert.Kernel3Ideal.main_v19_6)) (v6 : (c : Dev Cert.Kernel3Ideal.nD) → Buf (Elt Ideal) ((c.tc : Thread Cert.Kernel3Ideal.nD Cert.Kernel3Ideal.τ).loc Cert.Kernel3Ideal.main_v19_7)) (v7 : (c : Dev Cert.Kernel3Ideal.nD) → Buf (Elt Ideal) ((c.tc : Thread Cert.Kernel3Ideal.nD Cert.Kernel3Ideal.τ).loc Cert.Kernel3Ideal.main_v19_8)) (v8 : (c : Dev Cert.Kernel3Ideal.nD) → Buf (Elt Ideal) ((c.tc : Thread Cert.Kernel3Ideal.nD Cert.Kernel3Ideal.τ).loc Cert.Kernel3Ideal.main_v19_9)) (v9 : (c : Dev Cert.Kernel3Ideal.nD) → Buf (Elt Ideal) ((c.tc : Thread Cert.Kernel3Ideal.nD Cert.Kernel3Ideal.τ).loc Cert.Kernel3Ideal.main_v19_10)) (v10 : (c : Dev Cert.Kernel3Ideal.nD) → Buf (Elt Ideal) ((c.tc : Thread Cert.Kernel3Ideal.nD Cert.Kernel3Ideal.τ).loc Cert.Kernel3Ideal.main_v19_11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19_0) = v0 c
          ∧ r.2.mem ((c.tc : Thread Cert.Kernel3Ideal.nD Cert.Kernel3Ideal.τ).loc Cert.Kernel3Ideal.main_v19_1) = v1 c
          ∧ r.2.mem ((c.tc : Thread Cert.Kernel3Ideal.nD Cert.Kernel3Ideal.τ).loc Cert.Kernel3Ideal.main_v19_3) = v2 c
          ∧ r.2.mem ((c.tc : Thread Cert.Kernel3Ideal.nD Cert.Kernel3Ideal.τ).loc Cert.Kernel3Ideal.main_v19_4) = v3 c
          ∧ r.2.mem ((c.tc : Thread Cert.Kernel3Ideal.nD Cert.Kernel3Ideal.τ).loc Cert.Kernel3Ideal.main_v19_5) = v4 c
          ∧ r.2.mem ((c.tc : Thread Cert.Kernel3Ideal.nD Cert.Kernel3Ideal.τ).loc Cert.Kernel3Ideal.main_v19_6) = v5 c
          ∧ r.2.mem ((c.tc : Thread Cert.Kernel3Ideal.nD Cert.Kernel3Ideal.τ).loc Cert.Kernel3Ideal.main_v19_7) = v6 c
          ∧ r.2.mem ((c.tc : Thread Cert.Kernel3Ideal.nD Cert.Kernel3Ideal.τ).loc Cert.Kernel3Ideal.main_v19_8) = v7 c
          ∧ r.2.mem ((c.tc : Thread Cert.Kernel3Ideal.nD Cert.Kernel3Ideal.τ).loc Cert.Kernel3Ideal.main_v19_9) = v8 c
          ∧ r.2.mem ((c.tc : Thread Cert.Kernel3Ideal.nD Cert.Kernel3Ideal.τ).loc Cert.Kernel3Ideal.main_v19_10) = v9 c
          ∧ r.2.mem ((c.tc : Thread Cert.Kernel3Ideal.nD Cert.Kernel3Ideal.τ).loc Cert.Kernel3Ideal.main_v19_11) = v10 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_v37) = v2 c
          ∧ r.2.mem ((c.tc : Thread Cert.Reference3Ideal.nD Cert.Reference3Ideal.τ).loc Cert.Reference3Ideal.main_v39) = v3 c
          ∧ r.2.mem ((c.tc : Thread Cert.Reference3Ideal.nD Cert.Reference3Ideal.τ).loc Cert.Reference3Ideal.main_v41) = v4 c
          ∧ r.2.mem ((c.tc : Thread Cert.Reference3Ideal.nD Cert.Reference3Ideal.τ).loc Cert.Reference3Ideal.main_v42) = v5 c
          ∧ r.2.mem ((c.tc : Thread Cert.Reference3Ideal.nD Cert.Reference3Ideal.τ).loc Cert.Reference3Ideal.main_v44) = v6 c
          ∧ r.2.mem ((c.tc : Thread Cert.Reference3Ideal.nD Cert.Reference3Ideal.τ).loc Cert.Reference3Ideal.main_v45) = v7 c
          ∧ r.2.mem ((c.tc : Thread Cert.Reference3Ideal.nD Cert.Reference3Ideal.τ).loc Cert.Reference3Ideal.main_v46) = v8 c
          ∧ r.2.mem ((c.tc : Thread Cert.Reference3Ideal.nD Cert.Reference3Ideal.τ).loc Cert.Reference3Ideal.main_v61) = v9 c
          ∧ r.2.mem ((c.tc : Thread Cert.Reference3Ideal.nD Cert.Reference3Ideal.τ).loc Cert.Reference3Ideal.main_v63) = v10 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_tables : Cert.Pre_tables.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_tables := hPre_tables)
    ∧ quiescent_Kernel2Ideal (hKernel2Ideal := hKernel2Ideal) (hPre_tables := hPre_tables)
    ∧ quiescent_Reference2Ideal (hReference2Ideal := hReference2Ideal)
    ∧ quiescent_Reference2Ideal_pre_tables (hReference2Ideal := hReference2Ideal) (hPre_tables := hPre_tables)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_tables := hPre_tables)
    ∧ preserves_Kernel3_Kernel3Ideal
    ∧ algebraic_Kernel3Ideal_Reference3Ideal (hKernel3Ideal := hKernel3Ideal) (hReference3Ideal := hReference3Ideal)
-- ==== Pre_tables.lean ====
abbrev S162 : Shape := ⟨1, ![162]⟩
abbrev S2x2x82944x256 : Shape := ⟨4, ![2, 2, 82944, 256]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S_ : Shape := ⟨0, ![]⟩
abbrev S1 : Shape := ⟨1, ![1]⟩
abbrev S161 : Shape := ⟨1, ![161]⟩

class Facts : Prop where
  bcast_S_S1 : S_.BroadcastsInDim S1 (![] : Fin 0 → Fin S1.rank)
  slices_S162_S161_1 : S162.Slices ![1] S161
  slices_S162_S161_0 : S162.Slices ![0] S161
  concatenates_S1_S161_S162_d0 : Shape.Concatenates [S1, S161] S162 0
  bcast_S_S162 : S_.BroadcastsInDim S162 (![] : Fin 0 → Fin S162.rank)

variable [Facts]

def fn {F : FTy → Type} [FloatOps F] (main_arg0 : IVec S162 32) (main_arg1 : IVec S162 32) (main_arg2 : IVec S162 32) (main_arg3 : FVec F S2x2x82944x256 .bf16) (main_arg4 : FVec F S2x32x1024x2048 .f32) (main_arg5 : FVec F S2x32x2048 .f32) (main_arg6 : FVec F S2x32x1024x1024 .f32) (main_arg7 : FVec F S2x32x1024 .f32) : IVec S162 1 :=
  let main_c : IVec S_ 1 := constantI S_ 1 0#1
  let main_v0 : IVec S1 1 := broadcastInDim S1 ![] bcast_S_S1 main_c
  let main_v1 : IVec S161 32 := (extractStridedSlice S161 ![1] · slices_S162_S161_1) main_arg0
  let main_v2 : IVec S161 32 := (extractStridedSlice S161 ![0] · slices_S162_S161_0) main_arg0
  let main_v3 : IVec S161 1 := cmpi .eq main_v1 main_v2
  let main_v4 : IVec S162 1 := (fun a b => concatenate S162 0 [⟨S1, a⟩, ⟨S161, b⟩] concatenates_S1_S161_S162_d0) main_v0 main_v3
  let main_c_0 : IVec S_ 32 := constantI S_ 32 0#32
  let main_v5 : IVec S162 32 := broadcastInDim S162 ![] bcast_S_S162 main_c_0
  let main_v6 : IVec S162 1 := cmpi .sge main_arg0 main_v5
  let main_c_1 : IVec S_ 32 := constantI S_ 32 32#32
  let main_v7 : IVec S162 32 := broadcastInDim S162 ![] bcast_S_S162 main_c_1
  let main_v8 : IVec S162 1 := cmpi .slt main_arg0 main_v7
  let main_v9 : IVec S162 1 := andi main_v6 main_v8
  let main_c_2 : IVec S_ 32 := constantI S_ 32 0#32
  let main_v10 : IVec S162 32 := broadcastInDim S162 ![] bcast_S_S162 main_c_2
  let main_v11 : IVec S162 1 := cmpi .sge main_arg2 main_v10
  let main_v12 : IVec S162 1 := andi main_v9 main_v11
  let main_c_3 : IVec S_ 32 := constantI S_ 32 1#32
  let main_v13 : IVec S162 32 := broadcastInDim S162 ![] bcast_S_S162 main_c_3
  let main_v14 : IVec S162 1 := cmpi .eq main_arg1 main_v13
  let main_v15 : IVec S162 1 := ori main_v14 main_v4
  let main_v16 : IVec S162 1 := andi main_v12 main_v15
  main_v16
-- ==== Kernel.lean ====
abbrev S4x4096x512 : Shape := ⟨3, ![4, 4096, 512]⟩
abbrev S4x3x512 : Shape := ⟨3, ![4, 3, 512]⟩
abbrev S4x512 : Shape := ⟨2, ![4, 512]⟩
abbrev S512 : Shape := ⟨1, ![512]⟩
abbrev S8x64x64 : Shape := ⟨3, ![8, 64, 64]⟩
abbrev S_ : Shape := ⟨0, ![]⟩
abbrev S8x512 : Shape := ⟨2, ![8, 512]⟩
abbrev S1x512 : Shape := ⟨2, ![1, 512]⟩
abbrev S8x8 : Shape := ⟨2, ![8, 8]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S4x8x512 : Shape := ⟨3, ![4, 8, 512]⟩
abbrev S4x1x512 : Shape := ⟨3, ![4, 1, 512]⟩
abbrev S1x256x512 : Shape := ⟨3, ![1, 256, 512]⟩
abbrev S1x8x512 : Shape := ⟨3, ![1, 8, 512]⟩
abbrev S1x1x512 : Shape := ⟨3, ![1, 1, 512]⟩
abbrev S264x512 : Shape := ⟨2, ![264, 512]⟩
abbrev S256x512 : Shape := ⟨2, ![256, 512]⟩

abbrev nBuf : Space → Nat
  | .hbm => 52
  | .vmem => 23
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .bf16⟩
  | .hbm, ⟨2, _⟩ => ⟨S4x3x512, .f32⟩
  | .hbm, ⟨3, _⟩ => ⟨S4x512, .f32⟩
  | .hbm, ⟨4, _⟩ => ⟨S4x512, .f32⟩
  | .hbm, ⟨5, _⟩ => ⟨S512, .f32⟩
  | .hbm, ⟨6, _⟩ => ⟨S8x64x64, .f32⟩
  | .hbm, ⟨7, _⟩ => ⟨S512, .f32⟩
  | .hbm, ⟨8, _⟩ => ⟨S8x64x64, .f32⟩
  | .hbm, ⟨9, _⟩ => ⟨S512, .f32⟩
  | .hbm, ⟨10, _⟩ => ⟨S512, .f32⟩
  | .hbm, ⟨11, _⟩ => ⟨S_, .i32⟩
  | .hbm, ⟨12, _⟩ => ⟨S_, .f32⟩
  | .hbm, ⟨13, _⟩ => ⟨S8x512, .f32⟩
  | .hbm, ⟨14, _⟩ => ⟨S1x512, .f32⟩
  | .hbm, ⟨15, _⟩ => ⟨S8x8, .i32⟩
  | .hbm, ⟨16, _⟩ => ⟨S8x8, .i32⟩
  | .hbm, ⟨17, _⟩ => ⟨S_, .i32⟩
  | .hbm, ⟨18, _⟩ => ⟨S8x8, .i32⟩
  | .hbm, ⟨19, _⟩ => ⟨S8x8, .i32⟩
  | .hbm, ⟨20, _⟩ => ⟨S8x8, .i1⟩
  | .hbm, ⟨21, _⟩ => ⟨S8x8, .f32⟩
  | .hbm, ⟨22, _⟩ => ⟨S8x64x1x64, .f32⟩
  | .hbm, ⟨23, _⟩ => ⟨S8x1x8x1, .f32⟩
  | .hbm, ⟨24, _⟩ => ⟨S8x64x8x64, .f32⟩
  | .hbm, ⟨25, _⟩ => ⟨S8x64x8x64, .f32⟩
  | .hbm, ⟨26, _⟩ => ⟨S8x64x8x64, .f32⟩
  | .hbm, ⟨27, _⟩ => ⟨S512x512, .f32⟩
  | .hbm, ⟨28, _⟩ => ⟨S512x512, .bf16⟩
  | .hbm, ⟨29, _⟩ => ⟨S1x512, .f32⟩
  | .hbm, ⟨30, _⟩ => ⟨S8x8, .i32⟩
  | .hbm, ⟨31, _⟩ => ⟨S8x8, .i32⟩
  | .hbm, ⟨32, _⟩ => ⟨S_, .i32⟩
  | .hbm, ⟨33, _⟩ => ⟨S8x8, .i32⟩
  | .hbm, ⟨34, _⟩ => ⟨S8x8, .i32⟩
  | .hbm, ⟨35, _⟩ => ⟨S8x8, .i1⟩
  | .hbm, ⟨36, _⟩ => ⟨S8x8, .f32⟩
  | .hbm, ⟨37, _⟩ => ⟨S8x64x1x64, .f32⟩
  | .hbm, ⟨38, _⟩ => ⟨S8x1x8x1, .f32⟩
  | .hbm, ⟨39, _⟩ => ⟨S8x64x8x64, .f32⟩
  | .hbm, ⟨40, _⟩ => ⟨S8x64x8x64, .f32⟩
  | .hbm, ⟨41, _⟩ => ⟨S8x64x8x64, .f32⟩
  | .hbm, ⟨42, _⟩ => ⟨S512x512, .f32⟩
  | .hbm, ⟨43, _⟩ => ⟨S512x512, .bf16⟩
  | .hbm, ⟨44, _⟩ => ⟨S1x512, .f32⟩
  | .hbm, ⟨45, _⟩ => ⟨S1x512, .f32⟩
  | .hbm, ⟨46, _⟩ => ⟨S_, .i32⟩
  | .hbm, ⟨47, _⟩ => ⟨S_, .f32⟩
  | .hbm, ⟨48, _⟩ => ⟨S4x8x512, .f32⟩
  | .hbm, ⟨49, _⟩ => ⟨S4x1x512, .f32⟩
  | .hbm, ⟨50, _⟩ => ⟨S4x4096x512, .bf16⟩
  | .hbm, ⟨51, _⟩ => ⟨S4x1x512, .f32⟩
  | .local _ .vmem, ⟨0, _⟩ => ⟨S1x256x512, .f32⟩
  | .local _ .vmem, ⟨1, _⟩ => ⟨S1x256x512, .f32⟩
  | .local _ .vmem, ⟨2, _⟩ => ⟨S1x8x512, .f32⟩
  | .local _ .vmem, ⟨3, _⟩ => ⟨S1x8x512, .f32⟩
  | .local _ .vmem, ⟨4, _⟩ => ⟨S1x8x512, .f32⟩
  | .local _ .vmem, ⟨5, _⟩ => ⟨S1x8x512, .f32⟩
  | .local _ .vmem, ⟨6, _⟩ => ⟨S1x256x512, .bf16⟩
  | .local _ .vmem, ⟨7, _⟩ => ⟨S1x256x512, .bf16⟩
  | .local _ .vmem, ⟨8, _⟩ => ⟨S1x1x512, .f32⟩
  | .local _ .vmem, ⟨9, _⟩ => ⟨S1x1x512, .f32⟩
  | .local _ .vmem, ⟨10, _⟩ => ⟨S8x512, .f32⟩
  | .local _ .vmem, ⟨11, _⟩ => ⟨S1x512, .f32⟩
  | .local _ .vmem, ⟨12, _⟩ => ⟨S512x512, .bf16⟩
  | .local _ .vmem, ⟨13, _⟩ => ⟨S1x512, .f32⟩
  | .local _ .vmem, ⟨14, _⟩ => ⟨S512x512, .bf16⟩
  | .local _ .vmem, ⟨15, _⟩ => ⟨S1x512, .f32⟩
  | .local _ .vmem, ⟨16, _⟩ => ⟨S1x512, .f32⟩
  | .local _ .vmem, ⟨17, _⟩ => ⟨S1x256x512, .bf16⟩
  | .local _ .vmem, ⟨18, _⟩ => ⟨S1x256x512, .bf16⟩
  | .local _ .vmem, ⟨19, _⟩ => ⟨S1x1x512, .f32⟩
  | .local _ .vmem, ⟨20, _⟩ => ⟨S1x1x512, .f32⟩
  | .local _ .vmem, ⟨21, _⟩ => ⟨S264x512, .f32⟩
  | .local _ .vmem, ⟨22, _⟩ => ⟨S8x512, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_2 : Ref sig .tc := ⟨.hbm, 46, rfl⟩
abbrev main_call1_v0 : Ref sig .tc := ⟨.hbm, 47, rfl⟩
abbrev main_v31 : Ref sig .tc := ⟨.hbm, 48, rfl⟩
abbrev main_v32 : Ref sig .tc := ⟨.hbm, 49, rfl⟩
abbrev main_v33_0 : Ref sig .tc := ⟨.hbm, 50, rfl⟩
abbrev main_v33_1 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S4x4096x512 : Shape := ⟨3, ![4, 4096, 512]⟩
abbrev S4x3x512 : Shape := ⟨3, ![4, 3, 512]⟩
abbrev S4x512 : Shape := ⟨2, ![4, 512]⟩
abbrev S512 : Shape := ⟨1, ![512]⟩
abbrev S8x64x64 : Shape := ⟨3, ![8, 64, 64]⟩
abbrev S4x4099x512 : Shape := ⟨3, ![4, 4099, 512]⟩
abbrev S1x512 : Shape := ⟨2, ![1, 512]⟩
abbrev S1x1x512 : Shape := ⟨3, ![1, 1, 512]⟩
abbrev S4x4096x8x64 : Shape := ⟨4, ![4, 4096, 8, 64]⟩
abbrev S8x64x4x4096 : Shape := ⟨4, ![8, 64, 4, 4096]⟩
abbrev S_ : Shape := ⟨0, ![]⟩
abbrev S4096x4x512 : Shape := ⟨3, ![4096, 4, 512]⟩
abbrev S1x4x512 : Shape := ⟨3, ![1, 4, 512]⟩
abbrev S4x1x512 : Shape := ⟨3, ![4, 1, 512]⟩

abbrev nBuf : Space → Nat
  | .hbm => 134
  | .vmem => 0
  | .smem => 0
  | _ => 0

abbrev hbmTy0_0 (i : Nat) : BufTy := match i % 128 with
  | 0 => ⟨S4x4096x512, .f32⟩
  | 1 => ⟨S4x4096x512, .bf16⟩
  | 2 => ⟨S4x3x512, .f32⟩
  | 3 => ⟨S4x512, .f32⟩
  | 4 => ⟨S4x512, .f32⟩
  | 5 => ⟨S512, .f32⟩
  | 6 => ⟨S8x64x64, .f32⟩
  | 7 => ⟨S512, .f32⟩
  | 8 => ⟨S8x64x64, .f32⟩
  | 9 => ⟨S512, .f32⟩
  | 10 => ⟨S512, .f32⟩
  | 11 => ⟨S4x4099x512, .f32⟩
  | 12 => ⟨S1x512, .f32⟩
  | 13 => ⟨S512, .f32⟩
  | 14 => ⟨S4x4096x512, .f32⟩
  | 15 => ⟨S1x1x512, .f32⟩
  | 16 => ⟨S4x4096x512, .f32⟩
  | 17 => ⟨S4x4096x512, .f32⟩
  | 18 => ⟨S1x512, .f32⟩
  | 19 => ⟨S512, .f32⟩
  | 20 => ⟨S4x4096x512, .f32⟩
  | 21 => ⟨S1x1x512, .f32⟩
  | 22 => ⟨S4x4096x512, .f32⟩
  | 23 => ⟨S4x4096x512, .f32⟩
  | 24 => ⟨S4x4096x512, .f32⟩
  | 25 => ⟨S1x512, .f32⟩
  | 26 => ⟨S512, .f32⟩
  | 27 => ⟨S4x4096x512, .f32⟩
  | 28 => ⟨S1x1x512, .f32⟩
  | 29 => ⟨S4x4096x512, .f32⟩
  | 30 => ⟨S4x4096x512, .f32⟩
  | 31 => ⟨S4x4096x512, .f32⟩
  | 32 => ⟨S1x512, .f32⟩
  | 33 => ⟨S512, .f32⟩
  | 34 => ⟨S4x4096x512, .f32⟩
  | 35 => ⟨S1x1x512, .f32⟩
  | 36 => ⟨S4x4096x512, .f32⟩
  | 37 => ⟨S4x4096x512, .f32⟩
  | 38 => ⟨S4x4096x512, .f32⟩
  | 39 => ⟨S1x1x512, .f32⟩
  | 40 => ⟨S4x4096x512, .f32⟩
  | 41 => ⟨S4x4096x512, .f32⟩
  | 42 => ⟨S4x4096x8x64, .f32⟩
  | 43 => ⟨S8x64x4x4096, .f32⟩
  | 44 => ⟨S4x4096x8x64, .f32⟩
  | 45 => ⟨S4x4096x512, .f32⟩
  | 46 => ⟨S1x1x512, .f32⟩
  | 47 => ⟨S4x4096x512, .f32⟩
  | 48 => ⟨S4x4096x512, .f32⟩
  | 49 => ⟨S4x4096x512, .f32⟩
  | 50 => ⟨S4x4096x512, .f32⟩
  | 51 => ⟨S_, .f32⟩
  | 52 => ⟨S4x4096x512, .f32⟩
  | 53 => ⟨S4x4096x512, .f32⟩
  | 54 => ⟨S_, .f32⟩
  | 55 => ⟨S4x4096x512, .f32⟩
  | 56 => ⟨S4x4096x512, .f32⟩
  | 57 => ⟨S8x64x4x4096, .f32⟩
  | 58 => ⟨S4x4096x8x64, .f32⟩
  | 59 => ⟨S4x4096x512, .f32⟩
  | 60 => ⟨S1x1x512, .f32⟩
  | 61 => ⟨S4x4096x512, .f32⟩
  | 62 => ⟨S4x4096x512, .f32⟩
  | 63 => ⟨S4x4096x512, .f32⟩
  | 64 => ⟨S4x4096x512, .f32⟩
  | 65 => ⟨S_, .f32⟩
  | 66 => ⟨S4x4096x512, .f32⟩
  | 67 => ⟨S4x4096x512, .f32⟩
  | 68 => ⟨S_, .f32⟩
  | 69 => ⟨S4x4096x512, .f32⟩
  | 70 => ⟨S4x4096x512, .f32⟩
  | 71 => ⟨S_, .f32⟩
  | 72 => ⟨S4x4096x512, .f32⟩
  | 73 => ⟨S4x4096x512, .f32⟩
  | 74 => ⟨S512, .f32⟩
  | 75 => ⟨S_, .f32⟩
  | 76 => ⟨S512, .f32⟩
  | 77 => ⟨S512, .f32⟩
  | 78 => ⟨S512, .f32⟩
  | 79 => ⟨S512, .f32⟩
  | 80 => ⟨S512, .i1⟩
  | 81 => ⟨S512, .f32⟩
  | 82 => ⟨S512, .f32⟩
  | 83 => ⟨S512, .f32⟩
  | 84 => ⟨S512, .f32⟩
  | 85 => ⟨S512, .f32⟩
  | 86 => ⟨S512, .f32⟩
  | 87 => ⟨S512, .f32⟩
  | 88 => ⟨S512, .f32⟩
  | 89 => ⟨S1x1x512, .f32⟩
  | 90 => ⟨S4x4096x512, .f32⟩
  | 91 => ⟨S4x4096x512, .f32⟩
  | 92 => ⟨S4x4096x512, .f32⟩
  | 93 => ⟨S_, .f32⟩
  | 94 => ⟨S4x4096x512, .f32⟩
  | 95 => ⟨S4x4096x512, .f32⟩
  | 96 => ⟨S4x4096x512, .f32⟩
  | 97 => ⟨S4x4096x512, .f32⟩
  | 98 => ⟨S4x4096x512, .f32⟩
  | 99 => ⟨S4x4096x512, .f32⟩
  | 100 => ⟨S4x4096x512, .f32⟩
  | 101 => ⟨S4096x4x512, .f32⟩
  | 102 => ⟨S4096x4x512, .f32⟩
  | 103 => ⟨S_, .f32⟩
  | 104 => ⟨S4096x4x512, .f32⟩
  | 105 => ⟨S_, .i32⟩
  | 106 => ⟨S4096x4x512, .f32⟩
  | 107 => ⟨S4096x4x512, .f32⟩
  | 108 => ⟨S_, .i32⟩
  | 109 => ⟨S4x512, .f32⟩
  | 110 => ⟨S4096x4x512, .f32⟩
  | 111 => ⟨S_, .i32⟩
  | 112 => ⟨S_, .i1⟩
  | 113 => ⟨S_, .i32⟩
  | 114 => ⟨S_, .i32⟩
  | 115 => ⟨S1x4x512, .f32⟩
  | 116 => ⟨S4x512, .f32⟩
  | 117 => ⟨S_, .i32⟩
  | 118 => ⟨S_, .i32⟩
  | 119 => ⟨S1x4x512, .f32⟩
  | 120 => ⟨S4x512, .f32⟩
  | 121 => ⟨S4x512, .f32⟩
  | 122 => ⟨S4x512, .f32⟩
  | 123 => ⟨S1x4x512, .f32⟩
  | 124 => ⟨S_, .i32⟩
  | 125 => ⟨S_, .i32⟩
  | 126 => ⟨S4096x4x512, .f32⟩
  | 127 => ⟨S_, .i32⟩
  | _ => ⟨S4x4096x512, .f32⟩

abbrev hbmTy0_1 (i : Nat) : BufTy := match i % 128 with
  | 0 => ⟨S_, .i32⟩
  | 1 => ⟨S4x4096x512, .f32⟩
  | 2 => ⟨S4x4096x512, .f32⟩
  | 3 => ⟨S4x4096x512, .f32⟩
  | 4 => ⟨S4x4096x512, .bf16⟩
  | 5 => ⟨S4x1x512, .f32⟩
  | _ => ⟨S4x4096x512, .f32⟩

abbrev hbmTy (i : Nat) : BufTy := match i / 128 with
  | 0 => hbmTy0_0 i
  | 1 => hbmTy0_1 i
  | _ => ⟨S4x4096x512, .f32⟩

abbrev bufTy : (tb : Table) → Fin (tcTables nBuf tb) → BufTy
  | .hbm, ⟨i, _⟩ => hbmTy i
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst : Ref sig .tc := ⟨.hbm, 51, rfl⟩
abbrev main_v40 : Ref sig .tc := ⟨.hbm, 52, rfl⟩
abbrev main_v41 : Ref sig .tc := ⟨.hbm, 53, rfl⟩
abbrev main_cst_0 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_1 : Ref sig .tc := ⟨.hbm, 65, rfl⟩
abbrev main_v52 : Ref sig .tc := ⟨.hbm, 66, rfl⟩
abbrev main_v53 : Ref sig .tc := ⟨.hbm, 67, rfl⟩
abbrev main_cst_2 : Ref sig .tc := ⟨.hbm, 68, rfl⟩
abbrev main_v54 : Ref sig .tc := ⟨.hbm, 69, rfl⟩
abbrev main_v55 : Ref sig .tc := ⟨.hbm, 70, rfl⟩
abbrev main_cst_3 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_call0_cst : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_v8 : Ref sig .tc := ⟨.hbm, 84, rfl⟩
abbrev main_call0_v9 : Ref sig .tc := ⟨.hbm, 85, rfl⟩
abbrev main_call0_v10 : Ref sig .tc := ⟨.hbm, 86, rfl⟩
abbrev main_call0_v11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_4 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_5 : Ref sig .tc := ⟨.hbm, 103, rfl⟩
abbrev main_v73 : Ref sig .tc := ⟨.hbm, 104, rfl⟩
abbrev main_c : Ref sig .tc := ⟨.hbm, 105, rfl⟩
abbrev main_v74_0 : Ref sig .tc := ⟨.hbm, 106, rfl⟩
abbrev main_v74_1 : Ref sig .tc := ⟨.hbm, 107, rfl⟩
abbrev main_v74_2 : Ref sig .tc := ⟨.hbm, 108, rfl⟩
abbrev main_v74_3 : Ref sig .tc := ⟨.hbm, 109, rfl⟩
abbrev main_v74_4 : Ref sig .tc := ⟨.hbm, 110, rfl⟩
abbrev main_while0c_c_10 : Ref sig .tc := ⟨.hbm, 111, rfl⟩
abbrev main_while0c_v80 : Ref sig .tc := ⟨.hbm, 112, rfl⟩
abbrev main_while0b_call1_c : Ref sig .tc := ⟨.hbm, 113, rfl⟩
abbrev main_while0b_call1_c_0 : Ref sig .tc := ⟨.hbm, 114, rfl⟩
abbrev main_while0b_call1_v0 : Ref sig .tc := ⟨.hbm, 115, rfl⟩
abbrev main_while0b_v80 : Ref sig .tc := ⟨.hbm, 116, rfl⟩
abbrev main_while0b_call2_c : Ref sig .tc := ⟨.hbm, 117, rfl⟩
abbrev main_while0b_call2_c_0 : Ref sig .tc := ⟨.hbm, 118, rfl⟩
abbrev main_while0b_call2_v0 : Ref sig .tc := ⟨.hbm, 119, rfl⟩
abbrev main_while0b_v81 : Ref sig .tc := ⟨.hbm, 120, rfl⟩
abbrev main_while0b_v82 : Ref sig .tc := ⟨.hbm, 121, rfl⟩
abbrev main_while0b_v83 : Ref sig .tc := ⟨.hbm, 122, rfl⟩
abbrev main_while0b_call3_v0 : Ref sig .tc := ⟨.hbm, 123, rfl⟩
abbrev main_while0b_call3_c : Ref sig .tc := ⟨.hbm, 124, rfl⟩
abbrev main_while0b_call3_c_0 : Ref sig .tc := ⟨.hbm, 125, rfl⟩
abbrev main_while0b_v84 : Ref sig .tc := ⟨.hbm, 126, rfl⟩
abbrev main_while0b_c_10 : Ref sig .tc := ⟨.hbm, 127, rfl⟩
abbrev main_while0b_v85 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S162 : Shape := ⟨1, ![162]⟩
abbrev S2x2x82944x256 : Shape := ⟨4, ![2, 2, 82944, 256]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S64x1x2048 : Shape := ⟨3, ![64, 1, 2048]⟩
abbrev S64x1x1024 : Shape := ⟨3, ![64, 1, 1024]⟩
abbrev S2x2x512x256 : Shape := ⟨4, ![2, 2, 512, 256]⟩
abbrev S1x1x1024x2048 : Shape := ⟨4, ![1, 1, 1024, 2048]⟩
abbrev S1 : Shape := ⟨1, ![1]⟩
abbrev S1x1x2048 : Shape := ⟨3, ![1, 1, 2048]⟩
abbrev S1x1x1024x1024 : Shape := ⟨4, ![1, 1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x256 : Shape := ⟨2, ![512, 256]⟩
abbrev S1x2048 : Shape := ⟨2, ![1, 2048]⟩
abbrev S1x1x512x256 : Shape := ⟨4, ![1, 1, 512, 256]⟩
abbrev S256x2048 : Shape := ⟨2, ![256, 2048]⟩
abbrev S512x2048 : Shape := ⟨2, ![512, 2048]⟩
abbrev S512x1024 : Shape := ⟨2, ![512, 1024]⟩
abbrev S1x1024 : Shape := ⟨2, ![1, 1024]⟩

abbrev nBuf : Space → Nat
  | .hbm => 8
  | .vmem => 14
  | .smem => 3
  | _ => 0

abbrev bufTy : (tb : Table) → Fin (tcTables nBuf tb) → BufTy
  | .hbm, ⟨0, _⟩ => ⟨S2x2x82944x256, .bf16⟩
  | .hbm, ⟨1, _⟩ => ⟨S2x32x1024x2048, .f32⟩
  | .hbm, ⟨2, _⟩ => ⟨S2x32x2048, .f32⟩
  | .hbm, ⟨3, _⟩ => ⟨S2x32x1024x1024, .f32⟩
  | .hbm, ⟨4, _⟩ => ⟨S2x32x1024, .f32⟩
  | .hbm, ⟨5, _⟩ => ⟨S64x1x2048, .f32⟩
  | .hbm, ⟨6, _⟩ => ⟨S64x1x1024, .f32⟩
  | .hbm, ⟨7, _⟩ => ⟨S2x2x82944x256, .bf16⟩
  | .local _ .vmem, ⟨0, _⟩ => ⟨S2x2x512x256, .bf16⟩
  | .local _ .vmem, ⟨1, _⟩ => ⟨S2x2x512x256, .bf16⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S2x2x512x256, .bf16⟩
  | .local _ .vmem, ⟨11, _⟩ => ⟨S2x2x512x256, .bf16⟩
  | .local _ .vmem, ⟨12, _⟩ => ⟨S1024x2048, .bf16⟩
  | .local _ .vmem, ⟨13, _⟩ => ⟨S1024x1024, .bf16⟩
  | .local _ .smem, ⟨0, _⟩ => ⟨S162, .i32⟩
  | .local _ .smem, ⟨1, _⟩ => ⟨S162, .i32⟩
  | .local _ .smem, ⟨2, _⟩ => ⟨S162, .i32⟩
  | _, _ => ⟨S2x2x82944x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![162], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (i : grid0.Coords) : Fin 1 → Nat :=
  let arg0 : BitVec 32 := BitVec.ofNat 32 (i 0).val
  let v16 : Index := Scalar.indexCast arg0
  ![v16.toNat]
def k0_off4 (i : grid0.Coords) : Fin 1 → Nat :=
  let arg0 : BitVec 32 := BitVec.ofNat 32 (i 0).val
  let v10 : Index := Scalar.indexCast arg0
  ![v10.toNat]
def k0_cond2 (v6 : BitVec 32) : BitVec 1 :=
  let c0_i32_0 : BitVec 32 := 0#32
  let v7 : BitVec 1 := Scalar.cmpi .sgt v6 c0_i32_0
  let v8 : BitVec 32 := Scalar.extui v7
  let c0_i32_1 : BitVec 32 := 0#32
  let v9 : BitVec 1 := Scalar.cmpi .ne v8 c0_i32_1
  v9

def k0_cond3 (v11 : BitVec 32) : BitVec 1 :=
  let c0_i32_2 : BitVec 32 := 0#32
  let v12 : BitVec 1 := Scalar.cmpi .eq v11 c0_i32_2
  let v13 : BitVec 32 := Scalar.extui v12
  let c0_i32_3 : BitVec 32 := 0#32
  let v14 : BitVec 1 := Scalar.cmpi .ne v13 c0_i32_3
  v14

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S162.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_3 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S162.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S2x2x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x2x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S162 : Shape := ⟨1, ![162]⟩
abbrev S2x2x82944x256 : Shape := ⟨4, ![2, 2, 82944, 256]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S82944x2x2x256 : Shape := ⟨4, ![82944, 2, 2, 256]⟩
abbrev S162x512x1024 : Shape := ⟨3, ![162, 512, 1024]⟩
abbrev S162x512x1 : Shape := ⟨3, ![162, 512, 1]⟩
abbrev S162x1x1 : Shape := ⟨3, ![162, 1, 1]⟩
abbrev S_ : Shape := ⟨0, ![]⟩
abbrev S1x32x1024x2048 : Shape := ⟨4, ![1, 32, 1024, 2048]⟩
abbrev S32x1024x2048 : Shape := ⟨3, ![32, 1024, 2048]⟩
abbrev S162x1 : Shape := ⟨2, ![162, 1]⟩
abbrev S162x1024x2048 : Shape := ⟨3, ![162, 1024, 2048]⟩
abbrev S162x512x2048 : Shape := ⟨3, ![162, 512, 2048]⟩
abbrev S1x32x2048 : Shape := ⟨3, ![1, 32, 2048]⟩
abbrev S32x2048 : Shape := ⟨2, ![32, 2048]⟩
abbrev S162x2048 : Shape := ⟨2, ![162, 2048]⟩
abbrev S162x1x2048 : Shape := ⟨3, ![162, 1, 2048]⟩
abbrev S1x32x1024x1024 : Shape := ⟨4, ![1, 32, 1024, 1024]⟩
abbrev S32x1024x1024 : Shape := ⟨3, ![32, 1024, 1024]⟩
abbrev S162x1024x1024 : Shape := ⟨3, ![162, 1024, 1024]⟩
abbrev S1x32x1024 : Shape := ⟨3, ![1, 32, 1024]⟩
abbrev S32x1024 : Shape := ⟨2, ![32, 1024]⟩
abbrev S162x1024 : Shape := ⟨2, ![162, 1024]⟩
abbrev S162x1x1024 : Shape := ⟨3, ![162, 1, 1024]⟩

abbrev nBuf : Space → Nat
  | .hbm => 113
  | .vmem => 0
  | .smem => 0
  | _ => 0

abbrev bufTy : (tb : Table) → Fin (tcTables nBuf tb) → BufTy
  | .hbm, ⟨0, _⟩ => ⟨S162, .i32⟩
  | .hbm, ⟨1, _⟩ => ⟨S162, .i32⟩
  | .hbm, ⟨2, _⟩ => ⟨S162, .i32⟩
  | .hbm, ⟨3, _⟩ => ⟨S2x2x82944x256, .bf16⟩
  | .hbm, ⟨4, _⟩ => ⟨S2x32x1024x2048, .f32⟩
  | .hbm, ⟨5, _⟩ => ⟨S2x32x2048, .f32⟩
  | .hbm, ⟨6, _⟩ => ⟨S2x32x1024x1024, .f32⟩
  | .hbm, ⟨7, _⟩ => ⟨S2x32x1024, .f32⟩
  | .hbm, ⟨8, _⟩ => ⟨S82944x2x2x256, .bf16⟩
  | .hbm, ⟨9, _⟩ => ⟨S162x512x1024, .bf16⟩
  | .hbm, ⟨10, _⟩ => ⟨S162x512x1, .i32⟩
  | .hbm, ⟨11, _⟩ => ⟨S162x1x1, .i32⟩
  | .hbm, ⟨12, _⟩ => ⟨S162x512x1, .i32⟩
  | .hbm, ⟨13, _⟩ => ⟨S162x512x1, .i1⟩
  | .hbm, ⟨14, _⟩ => ⟨S_, .i32⟩
  | .hbm, ⟨15, _⟩ => ⟨S_, .bf16⟩
  | .hbm, ⟨16, _⟩ => ⟨S162x512x1024, .i1⟩
  | .hbm, ⟨17, _⟩ => ⟨S162x512x1024, .bf16⟩
  | .hbm, ⟨18, _⟩ => ⟨S162x512x1024, .bf16⟩
  | .hbm, ⟨19, _⟩ => ⟨S162x512x1024, .f32⟩
  | .hbm, ⟨20, _⟩ => ⟨S1x32x1024x2048, .f32⟩
  | .hbm, ⟨21, _⟩ => ⟨S32x1024x2048, .f32⟩
  | .hbm, ⟨22, _⟩ => ⟨S_, .i32⟩
  | .hbm, ⟨23, _⟩ => ⟨S162, .i32⟩
  | .hbm, ⟨24, _⟩ => ⟨S162, .i1⟩
  | .hbm, ⟨25, _⟩ => ⟨S_, .i32⟩
  | .hbm, ⟨26, _⟩ => ⟨S162, .i32⟩
  | .hbm, ⟨27, _⟩ => ⟨S162, .i32⟩
  | .hbm, ⟨28, _⟩ => ⟨S162, .i32⟩
  | .hbm, ⟨29, _⟩ => ⟨S162x1, .i32⟩
  | .hbm, ⟨30, _⟩ => ⟨S162x1024x2048, .f32⟩
  | .hbm, ⟨31, _⟩ => ⟨S162x512x2048, .f32⟩
  | .hbm, ⟨32, _⟩ => ⟨S1x32x2048, .f32⟩
  | .hbm, ⟨33, _⟩ => ⟨S32x2048, .f32⟩
  | .hbm, ⟨34, _⟩ => ⟨S_, .i32⟩
  | .hbm, ⟨35, _⟩ => ⟨S162, .i32⟩
  | .hbm, ⟨36, _⟩ => ⟨S162, .i1⟩
  | .hbm, ⟨37, _⟩ => ⟨S_, .i32⟩
  | .hbm, ⟨38, _⟩ => ⟨S162, .i32⟩
  | .hbm, ⟨39, _⟩ => ⟨S162, .i32⟩
  | .hbm, ⟨40, _⟩ => ⟨S162, .i32⟩
  | .hbm, ⟨41, _⟩ => ⟨S162x1, .i32⟩
  | .hbm, ⟨42, _⟩ => ⟨S162x2048, .f32⟩
  | .hbm, ⟨43, _⟩ => ⟨S162x1x2048, .f32⟩
  | .hbm, ⟨44, _⟩ => ⟨S162x512x2048, .f32⟩
  | .hbm, ⟨45, _⟩ => ⟨S162x512x2048, .f32⟩
  | .hbm, ⟨46, _⟩ => ⟨S162x512x1024, .f32⟩
  | .hbm, ⟨47, _⟩ => ⟨S_, .f32⟩
  | .hbm, ⟨48, _⟩ => ⟨S162x512x1024, .f32⟩
  | .hbm, ⟨49, _⟩ => ⟨S162x512x1024, .f32⟩
  | .hbm, ⟨50, _⟩ => ⟨S162x512x1024, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S162x512x1024, .f32⟩
  | .hbm, ⟨55, _⟩ => ⟨S162x512x1024, .f32⟩
  | .hbm, ⟨56, _⟩ => ⟨S_, .f32⟩
  | .hbm, ⟨57, _⟩ => ⟨S162x512x1024, .f32⟩
  | .hbm, ⟨58, _⟩ => ⟨S162x512x1024, .f32⟩
  | .hbm, ⟨59, _⟩ => ⟨S_, .f32⟩
  | .hbm, ⟨60, _⟩ => ⟨S162x512x1024, .f32⟩
  | .hbm, ⟨61, _⟩ => ⟨S162x512x1024, .f32⟩
  | .hbm, ⟨62, _⟩ => ⟨S162x512x1024, .f32⟩
  | .hbm, ⟨63, _⟩ => ⟨S_, .f32⟩
  | .hbm, ⟨64, _⟩ => ⟨S162x512x1024, .f32⟩
  | .hbm, ⟨65, _⟩ => ⟨S162x512x1024, .f32⟩
  | .hbm, ⟨66, _⟩ => ⟨S162x512x1024, .f32⟩
  | .hbm, ⟨67, _⟩ => ⟨S162x512x1024, .f32⟩
  | .hbm, ⟨68, _⟩ => ⟨S_, .f32⟩
  | .hbm, ⟨69, _⟩ => ⟨S162x512x1024, .f32⟩
  | .hbm, ⟨70, _⟩ => ⟨S162x512x1024, .f32⟩
  | .hbm, ⟨71, _⟩ => ⟨S_, .f32⟩
  | .hbm, ⟨72, _⟩ => ⟨S162x512x1024, .f32⟩
  | .hbm, ⟨73, _⟩ => ⟨S162x512x1024, .f32⟩
  | .hbm, ⟨74, _⟩ => ⟨S162x512x1024, .f32⟩
  | .hbm, ⟨75, _⟩ => ⟨S1x32x1024x1024, .f32⟩
  | .hbm, ⟨76, _⟩ => ⟨S32x1024x1024, .f32⟩
  | .hbm, ⟨77, _⟩ => ⟨S_, .i32⟩
  | .hbm, ⟨78, _⟩ => ⟨S162, .i32⟩
  | .hbm, ⟨79, _⟩ => ⟨S162, .i1⟩
  | .hbm, ⟨80, _⟩ => ⟨S_, .i32⟩
  | .hbm, ⟨81, _⟩ => ⟨S162, .i32⟩
  | .hbm, ⟨82, _⟩ => ⟨S162, .i32⟩
  | .hbm, ⟨83, _⟩ => ⟨S162, .i32⟩
  | .hbm, ⟨84, _⟩ => ⟨S162x1, .i32⟩
  | .hbm, ⟨85, _⟩ => ⟨S162x1024x1024, .f32⟩
  | .hbm, ⟨86, _⟩ => ⟨S162x512x1024, .f32⟩
  | .hbm, ⟨87, _⟩ => ⟨S1x32x1024, .f32⟩
  | .hbm, ⟨88, _⟩ => ⟨S32x1024, .f32⟩
  | .hbm, ⟨89, _⟩ => ⟨S_, .i32⟩
  | .hbm, ⟨90, _⟩ => ⟨S162, .i32⟩
  | .hbm, ⟨91, _⟩ => ⟨S162, .i1⟩
  | .hbm, ⟨92, _⟩ => ⟨S_, .i32⟩
  | .hbm, ⟨93, _⟩ => ⟨S162, .i32⟩
  | .hbm, ⟨94, _⟩ => ⟨S162, .i32⟩
  | .hbm, ⟨95, _⟩ => ⟨S162, .i32⟩
  | .hbm, ⟨96, _⟩ => ⟨S162x1, .i32⟩
  | .hbm, ⟨97, _⟩ => ⟨S162x1024, .f32⟩
  | .hbm, ⟨98, _⟩ => ⟨S162x1x1024, .f32⟩
  | .hbm, ⟨99, _⟩ => ⟨S162x512x1024, .f32⟩
  | .hbm, ⟨100, _⟩ => ⟨S162x512x1024, .f32⟩
  | .hbm, ⟨101, _⟩ => ⟨S_, .i32⟩
  | .hbm, ⟨102, _⟩ => ⟨S162, .i32⟩
  | .hbm, ⟨103, _⟩ => ⟨S162, .i1⟩
  | .hbm, ⟨104, _⟩ => ⟨S162x1x1, .i1⟩
  | .hbm, ⟨105, _⟩ => ⟨S_, .f32⟩
  | .hbm, ⟨106, _⟩ => ⟨S_, .f32⟩
  | .hbm, ⟨107, _⟩ => ⟨S162x512x1024, .i1⟩
  | .hbm, ⟨108, _⟩ => ⟨S162x512x1024, .f32⟩
  | .hbm, ⟨109, _⟩ => ⟨S162x512x1024, .f32⟩
  | .hbm, ⟨110, _⟩ => ⟨S162x512x1024, .bf16⟩
  | .hbm, ⟨111, _⟩ => ⟨S82944x2x2x256, .bf16⟩
  | .hbm, ⟨112, _⟩ => ⟨S2x2x82944x256, .bf16⟩
  | _, _ => ⟨S162, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_cst_5 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_10 : Ref sig .tc := ⟨.hbm, 77, rfl⟩
abbrev main_v49 : Ref sig .tc := ⟨.hbm, 78, rfl⟩
abbrev main_v50 : Ref sig .tc := ⟨.hbm, 79, rfl⟩
abbrev main_c_11 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_12 : Ref sig .tc := ⟨.hbm, 89, rfl⟩
abbrev main_v59 : Ref sig .tc := ⟨.hbm, 90, rfl⟩
abbrev main_v60 : Ref sig .tc := ⟨.hbm, 91, rfl⟩
abbrev main_c_13 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_14 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_15 : Ref sig .tc := ⟨.hbm, 105, rfl⟩
abbrev main_call2_v0 : Ref sig .tc := ⟨.hbm, 106, rfl⟩
abbrev main_call2_v1 : Ref sig .tc := ⟨.hbm, 107, rfl⟩
abbrev main_call2_v2 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024x6664 : Shape := ⟨2, ![1024, 6664]⟩
abbrev S8 : Shape := ⟨1, ![8]⟩
abbrev S1024x8 : Shape := ⟨2, ![1024, 8]⟩
abbrev S1024x1024 : Shape := ⟨2, ![1024, 1024]⟩
abbrev S1024x1536 : Shape := ⟨2, ![1024, 1536]⟩
abbrev S1536x1024 : Shape := ⟨2, ![1536, 1024]⟩
abbrev S_ : Shape := ⟨0, ![]⟩
abbrev S1024x128 : Shape := ⟨2, ![1024, 128]⟩
abbrev S8x1024 : Shape := ⟨2, ![8, 1024]⟩
abbrev S1x8 : Shape := ⟨2, ![1, 8]⟩
abbrev S8x1 : Shape := ⟨2, ![8, 1]⟩
abbrev S1024x3072 : Shape := ⟨2, ![1024, 3072]⟩
abbrev S16384x1024 : Shape := ⟨2, ![16384, 1024]⟩
abbrev S16384x512 : Shape := ⟨2, ![16384, 512]⟩
abbrev S8x128x16384 : Shape := ⟨3, ![8, 128, 16384]⟩
abbrev S1x4x512x4096 : Shape := ⟨4, ![1, 4, 512, 4096]⟩
abbrev S4x512x4096 : Shape := ⟨3, ![4, 512, 4096]⟩
abbrev S16384x8 : Shape := ⟨2, ![16384, 8]⟩
abbrev S1x4x8x4096 : Shape := ⟨4, ![1, 4, 8, 4096]⟩
abbrev S16384x3072 : Shape := ⟨2, ![16384, 3072]⟩
abbrev S256x1024 : Shape := ⟨2, ![256, 1024]⟩
abbrev S256x512 : Shape := ⟨2, ![256, 512]⟩
abbrev S8x128x256 : Shape := ⟨3, ![8, 128, 256]⟩
abbrev S1x1x512x256 : Shape := ⟨4, ![1, 1, 512, 256]⟩
abbrev S1x512x256 : Shape := ⟨3, ![1, 512, 256]⟩
abbrev S256x8 : Shape := ⟨2, ![256, 8]⟩
abbrev S1x1x8x256 : Shape := ⟨4, ![1, 1, 8, 256]⟩
abbrev S256x3072 : Shape := ⟨2, ![256, 3072]⟩
abbrev S1536x256 : Shape := ⟨2, ![1536, 256]⟩
abbrev S512x256 : Shape := ⟨2, ![512, 256]⟩
abbrev S128x256 : Shape := ⟨2, ![128, 256]⟩
abbrev S1x128x256 : Shape := ⟨3, ![1, 128, 256]⟩
abbrev S256x128 : Shape := ⟨2, ![256, 128]⟩
abbrev S8x256 : Shape := ⟨2, ![8, 256]⟩

abbrev nBuf : Space → Nat
  | .hbm => 36
  | .vmem => 35
  | .smem => 0
  | _ => 0

abbrev bufTy : (tb : Table) → Fin (tcTables nBuf tb) → BufTy
  | .hbm, ⟨0, _⟩ => ⟨S4x4096x1024, .f32⟩
  | .hbm, ⟨1, _⟩ => ⟨S1024x6664, .f32⟩
  | .hbm, ⟨2, _⟩ => ⟨S8, .f32⟩
  | .hbm, ⟨3, _⟩ => ⟨S1024x8, .f32⟩
  | .hbm, ⟨4, _⟩ => ⟨S1024x1024, .f32⟩
  | .hbm, ⟨5, _⟩ => ⟨S1024x1024, .bf16⟩
  | .hbm, ⟨6, _⟩ => ⟨S1024x1536, .f32⟩
  | .hbm, ⟨7, _⟩ => ⟨S1536x1024, .f32⟩
  | .hbm, ⟨8, _⟩ => ⟨S1536x1024, .bf16⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S8x1024, .f32⟩
  | .hbm, ⟨14, _⟩ => ⟨S8x1024, .bf16⟩
  | .hbm, ⟨15, _⟩ => ⟨S1x8, .f32⟩
  | .hbm, ⟨16, _⟩ => ⟨S8x1, .f32⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1024x3072, .f32⟩
  | .hbm, ⟨22, _⟩ => ⟨S1024x3072, .bf16⟩
  | .hbm, ⟨23, _⟩ => ⟨S16384x1024, .f32⟩
  | .hbm, ⟨24, _⟩ => ⟨S16384x512, .bf16⟩
  | .hbm, ⟨25, _⟩ => ⟨S16384x512, .bf16⟩
  | .hbm, ⟨26, _⟩ => ⟨S8x128x16384, .bf16⟩
  | .hbm, ⟨27, _⟩ => ⟨S1x4x512x4096, .f32⟩
  | .hbm, ⟨28, _⟩ => ⟨S1x4x512x4096, .f32⟩
  | .hbm, ⟨29, _⟩ => ⟨S4x512x4096, .bf16⟩
  | .hbm, ⟨30, _⟩ => ⟨S16384x8, .f32⟩
  | .hbm, ⟨31, _⟩ => ⟨S1x4x8x4096, .f32⟩
  | .hbm, ⟨32, _⟩ => ⟨S16384x512, .f32⟩
  | .hbm, ⟨33, _⟩ => ⟨S16384x512, .f32⟩
  | .hbm, ⟨34, _⟩ => ⟨S16384x512, .bf16⟩
  | .hbm, ⟨35, _⟩ => ⟨S16384x3072, .bf16⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1536x1024, .bf16⟩
  | .local _ .vmem, ⟨4, _⟩ => ⟨S1024x128, .bf16⟩
  | .local _ .vmem, ⟨5, _⟩ => ⟨S8x1024, .bf16⟩
  | .local _ .vmem, ⟨6, _⟩ => ⟨S1x8, .f32⟩
  | .local _ .vmem, ⟨7, _⟩ => ⟨S8x1, .f32⟩
  | .local _ .vmem, ⟨8, _⟩ => ⟨S1024x1024, .bf16⟩
  | .local _ .vmem, ⟨9, _⟩ => ⟨S1024x1024, .bf16⟩
  | .local _ .vmem, ⟨10, _⟩ => ⟨S1024x3072, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S8x128x256, .bf16⟩
  | .local _ .vmem, ⟨16, _⟩ => ⟨S8x128x256, .bf16⟩
  | .local _ .vmem, ⟨17, _⟩ => ⟨S1x1x512x256, .f32⟩
  | .local _ .vmem, ⟨18, _⟩ => ⟨S1x1x512x256, .f32⟩
  | .local _ .vmem, ⟨19, _⟩ => ⟨S1x1x512x256, .f32⟩
  | .local _ .vmem, ⟨20, _⟩ => ⟨S1x1x512x256, .f32⟩
  | .local _ .vmem, ⟨21, _⟩ => ⟨S1x512x256, .bf16⟩
  | .local _ .vmem, ⟨22, _⟩ => ⟨S1x512x256, .bf16⟩
  | .local _ .vmem, ⟨23, _⟩ => ⟨S256x8, .f32⟩
  | .local _ .vmem, ⟨24, _⟩ => ⟨S256x8, .f32⟩
  | .local _ .vmem, ⟨25, _⟩ => ⟨S1x1x8x256, .f32⟩
  | .local _ .vmem, ⟨26, _⟩ => ⟨S1x1x8x256, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S256x512, .bf16⟩
  | .local _ .vmem, ⟨32, _⟩ => ⟨S256x512, .bf16⟩
  | .local _ .vmem, ⟨33, _⟩ => ⟨S256x3072, .bf16⟩
  | .local _ .vmem, ⟨34, _⟩ => ⟨S256x3072, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev main_v19_2 : Ref sig .tc := ⟨.hbm, 26, rfl⟩
abbrev main_v19_3 : Ref sig .tc := ⟨.hbm, 27, rfl⟩
abbrev main_v19_4 : Ref sig .tc := ⟨.hbm, 28, rfl⟩
abbrev main_v19_5 : Ref sig .tc := ⟨.hbm, 29, rfl⟩
abbrev main_v19_6 : Ref sig .tc := ⟨.hbm, 30, rfl⟩
abbrev main_v19_7 : Ref sig .tc := ⟨.hbm, 31, rfl⟩
abbrev main_v19_8 : Ref sig .tc := ⟨.hbm, 32, rfl⟩
abbrev main_v19_9 : Ref sig .tc := ⟨.hbm, 33, rfl⟩
abbrev main_v19_10 : Ref sig .tc := ⟨.hbm, 34, rfl⟩
abbrev main_v19_11 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_14 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_15 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x8 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x8x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x3072 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference3Ideal.lean ====
abbrev S4x4096x1024 : Shape := ⟨3, ![4, 4096, 1024]⟩
abbrev S1024x6664 : Shape := ⟨2, ![1024, 6664]⟩
abbrev S8 : Shape := ⟨1, ![8]⟩
abbrev S4x4096x6664 : Shape := ⟨3, ![4, 4096, 6664]⟩
abbrev S4x4096x512 : Shape := ⟨3, ![4, 4096, 512]⟩
abbrev S4x4096x8x64 : Shape := ⟨4, ![4, 4096, 8, 64]⟩
abbrev S_ : Shape := ⟨0, ![]⟩
abbrev S4x4096x8 : Shape := ⟨3, ![4, 4096, 8]⟩
abbrev S1x1x8 : Shape := ⟨3, ![1, 1, 8]⟩
abbrev S4x4096x3072 : Shape := ⟨3, ![4, 4096, 3072]⟩
abbrev S4x4096x3x1024 : Shape := ⟨4, ![4, 4096, 3, 1024]⟩
abbrev S16384x512 : Shape := ⟨2, ![16384, 512]⟩
abbrev S4x512x4096 : Shape := ⟨3, ![4, 512, 4096]⟩
abbrev S1x4x512x4096 : Shape := ⟨4, ![1, 4, 512, 4096]⟩
abbrev S16384x8 : Shape := ⟨2, ![16384, 8]⟩
abbrev S4x8x4096 : Shape := ⟨3, ![4, 8, 4096]⟩
abbrev S1x4x8x4096 : Shape := ⟨4, ![1, 4, 8, 4096]⟩
abbrev S16384x3072 : Shape := ⟨2, ![16384, 3072]⟩

abbrev nBuf : Space → Nat
  | .hbm => 91
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x6664, .f32⟩
  | .hbm, ⟨2, _⟩ => ⟨S8, .f32⟩
  | .hbm, ⟨3, _⟩ => ⟨S4x4096x6664, .f32⟩
  | .hbm, ⟨4, _⟩ => ⟨S4x4096x512, .f32⟩
  | .hbm, ⟨5, _⟩ => ⟨S4x4096x8x64, .f32⟩
  | .hbm, ⟨6, _⟩ => ⟨S_, .f32⟩
  | .hbm, ⟨7, _⟩ => ⟨S4x4096x8x64, .f32⟩
  | .hbm, ⟨8, _⟩ => ⟨S4x4096x8x64, .f32⟩
  | .hbm, ⟨9, _⟩ => ⟨S4x4096x512, .f32⟩
  | .hbm, ⟨10, _⟩ => ⟨S4x4096x512, .f32⟩
  | .hbm, ⟨11, _⟩ => ⟨S4x4096x8, .f32⟩
  | .hbm, ⟨12, _⟩ => ⟨S1x1x8, .f32⟩
  | .hbm, ⟨13, _⟩ => ⟨S4x4096x8, .f32⟩
  | .hbm, ⟨14, _⟩ => ⟨S4x4096x8, .f32⟩
  | .hbm, ⟨15, _⟩ => ⟨S4x4096x8, .f32⟩
  | .hbm, ⟨16, _⟩ => ⟨S_, .f32⟩
  | .hbm, ⟨17, _⟩ => ⟨S4x4096x8, .f32⟩
  | .hbm, ⟨18, _⟩ => ⟨S4x4096x8, .f32⟩
  | .hbm, ⟨19, _⟩ => ⟨S4x4096x8, .f32⟩
  | .hbm, ⟨20, _⟩ => ⟨S4x4096x8, .f32⟩
  | .hbm, ⟨21, _⟩ => ⟨S4x4096x8, .i1⟩
  | .hbm, ⟨22, _⟩ => ⟨S4x4096x8, .f32⟩
  | .hbm, ⟨23, _⟩ => ⟨S4x4096x8, .f32⟩
  | .hbm, ⟨24, _⟩ => ⟨S4x4096x8, .f32⟩
  | .hbm, ⟨25, _⟩ => ⟨S4x4096x8, .f32⟩
  | .hbm, ⟨26, _⟩ => ⟨S4x4096x8, .f32⟩
  | .hbm, ⟨27, _⟩ => ⟨S4x4096x8, .f32⟩
  | .hbm, ⟨28, _⟩ => ⟨S4x4096x8, .f32⟩
  | .hbm, ⟨29, _⟩ => ⟨S4x4096x8, .f32⟩
  | .hbm, ⟨30, _⟩ => ⟨S4x4096x8, .f32⟩
  | .hbm, ⟨31, _⟩ => ⟨S4x4096x1024, .f32⟩
  | .hbm, ⟨32, _⟩ => ⟨S4x4096x512, .f32⟩
  | .hbm, ⟨33, _⟩ => ⟨S4x4096x512, .f32⟩
  | .hbm, ⟨34, _⟩ => ⟨S4x4096x3072, .f32⟩
  | .hbm, ⟨35, _⟩ => ⟨S4x4096x3x1024, .f32⟩
  | .hbm, ⟨36, _⟩ => ⟨S4x4096x3x1024, .f32⟩
  | .hbm, ⟨37, _⟩ => ⟨S4x4096x3x1024, .f32⟩
  | .hbm, ⟨38, _⟩ => ⟨S_, .f32⟩
  | .hbm, ⟨39, _⟩ => ⟨S4x4096x3x1024, .f32⟩
  | .hbm, ⟨40, _⟩ => ⟨S4x4096x3x1024, .f32⟩
  | .hbm, ⟨41, _⟩ => ⟨S_, .f32⟩
  | .hbm, ⟨42, _⟩ => ⟨S4x4096x3x1024, .f32⟩
  | .hbm, ⟨43, _⟩ => ⟨S4x4096x3x1024, .f32⟩
  | .hbm, ⟨44, _⟩ => ⟨S4x4096x512, .f32⟩
  | .hbm, ⟨45, _⟩ => ⟨S4x4096x512, .f32⟩
  | .hbm, ⟨46, _⟩ => ⟨S4x4096x512, .f32⟩
  | .hbm, ⟨47, _⟩ => ⟨S4x4096x512, .f32⟩
  | .hbm, ⟨48, _⟩ => ⟨S_, .f32⟩
  | .hbm, ⟨49, _⟩ => ⟨S4x4096x512, .f32⟩
  | .hbm, ⟨50, _⟩ => ⟨S4x4096x512, .f32⟩
  | .hbm, ⟨51, _⟩ => ⟨S_, .f32⟩
  | .hbm, ⟨52, _⟩ => ⟨S4x4096x512, .f32⟩
  | .hbm, ⟨53, _⟩ => ⟨S4x4096x512, .f32⟩
  | .hbm, ⟨54, _⟩ => ⟨S4x4096x512, .f32⟩
  | .hbm, ⟨55, _⟩ => ⟨S16384x512, .f32⟩
  | .hbm, ⟨56, _⟩ => ⟨S16384x512, .bf16⟩
  | .hbm, ⟨57, _⟩ => ⟨S16384x512, .f32⟩
  | .hbm, ⟨58, _⟩ => ⟨S16384x512, .bf16⟩
  | .hbm, ⟨59, _⟩ => ⟨S4x512x4096, .f32⟩
  | .hbm, ⟨60, _⟩ => ⟨S1x4x512x4096, .f32⟩
  | .hbm, ⟨61, _⟩ => ⟨S4x512x4096, .f32⟩
  | .hbm, ⟨62, _⟩ => ⟨S1x4x512x4096, .f32⟩
  | .hbm, ⟨63, _⟩ => ⟨S4x512x4096, .f32⟩
  | .hbm, ⟨64, _⟩ => ⟨S4x512x4096, .bf16⟩
  | .hbm, ⟨65, _⟩ => ⟨S16384x8, .f32⟩
  | .hbm, ⟨66, _⟩ => ⟨S4x8x4096, .f32⟩
  | .hbm, ⟨67, _⟩ => ⟨S1x4x8x4096, .f32⟩
  | .hbm, ⟨68, _⟩ => ⟨S16384x512, .f32⟩
  | .hbm, ⟨69, _⟩ => ⟨S16384x512, .f32⟩
  | .hbm, ⟨70, _⟩ => ⟨S4x4096x512, .f32⟩
  | .hbm, ⟨71, _⟩ => ⟨S4x4096x512, .f32⟩
  | .hbm, ⟨72, _⟩ => ⟨S_, .f32⟩
  | .hbm, ⟨73, _⟩ => ⟨S4x4096x512, .f32⟩
  | .hbm, ⟨74, _⟩ => ⟨S4x4096x512, .f32⟩
  | .hbm, ⟨75, _⟩ => ⟨S4x4096x512, .f32⟩
  | .hbm, ⟨76, _⟩ => ⟨S_, .f32⟩
  | .hbm, ⟨77, _⟩ => ⟨S4x4096x512, .f32⟩
  | .hbm, ⟨78, _⟩ => ⟨S4x4096x512, .f32⟩
  | .hbm, ⟨79, _⟩ => ⟨S4x4096x512, .f32⟩
  | .hbm, ⟨80, _⟩ => ⟨S_, .f32⟩
  | .hbm, ⟨81, _⟩ => ⟨S4x4096x512, .f32⟩
  | .hbm, ⟨82, _⟩ => ⟨S4x4096x512, .f32⟩
  | .hbm, ⟨83, _⟩ => ⟨S_, .f32⟩
  | .hbm, ⟨84, _⟩ => ⟨S4x4096x512, .f32⟩
  | .hbm, ⟨85, _⟩ => ⟨S4x4096x512, .f32⟩
  | .hbm, ⟨86, _⟩ => ⟨S4x4096x512, .f32⟩
  | .hbm, ⟨87, _⟩ => ⟨S16384x512, .f32⟩
  | .hbm, ⟨88, _⟩ => ⟨S16384x512, .bf16⟩
  | .hbm, ⟨89, _⟩ => ⟨S16384x3072, .f32⟩
  | .hbm, ⟨90, _⟩ => ⟨S16384x3072, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_0 : Ref sig .tc := ⟨.hbm, 38, rfl⟩
abbrev main_v19 : Ref sig .tc := ⟨.hbm, 39, rfl⟩
abbrev main_v20 : Ref sig .tc := ⟨.hbm, 40, rfl⟩
abbrev main_cst_1 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_2 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_4 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_5 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_6 : Ref sig .tc := ⟨.hbm, 80, rfl⟩
abbrev main_v55 : Ref sig .tc := ⟨.hbm, 81, rfl⟩
abbrev main_v56 : Ref sig .tc := ⟨.hbm, 82, rfl⟩
abbrev main_cst_7 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩

abbrev nD : Nat := 1
abbrev τ : Topo := Topo.v7x

variable {F : FTy → Type} [FloatOps F]
-- ==== Proof.RgScalar.lean ====
module

public import Idealize.ShloMosaic.PureOps.Ideal.Laws
public import Mathlib.Data.EReal.Inv

/-! The scalar facts of the gated linear recurrence over the extended reals: the softplus is not negative, the
    logistic is not negative, so the decay is a real number in `[0, ∞)` and multiplication by it distributes; and
    the two spellings of `1 - a²`. -/

@[expose] public section

noncomputable section

namespace Cert.RgLru

open Idealize.ShloMosaic

/-- `exp` is never negative. -/
theorem exp_nonneg (x : EReal) : 0 ≤ Ideal.exp x := by
  induction x using EReal.rec with
  | bot => exact le_refl _
  | top => exact le_top
  | coe r => exact EReal.coe_nonneg.mpr (Real.exp_pos r).le

/-- `log1p` of something not negative is not negative. -/
theorem log1p_nonneg {x : EReal} (h : 0 ≤ x) : 0 ≤ Ideal.log1p x := by
  induction x using EReal.rec with
  | bot => exact absurd h (by simp)
  | top =>
    have e : (1 : EReal) + ⊤ = ⊤ := EReal.add_top_of_ne_bot (EReal.coe_ne_bot 1)
    unfold Ideal.log1p
    rw [e]
    exact le_top
  | coe r =>
    have hr : 0 ≤ r := EReal.coe_nonneg.mp h
    have e : (1 : EReal) + (r : EReal) = ((1 + r : ℝ) : EReal) := by push_cast; rfl
    unfold Ideal.log1p
    rw [e]
    show 0 ≤ (if 1 + r ≤ 0 then ⊥ else (Real.log (1 + r) : EReal))
    rw [if_neg (by linarith)]
    exact EReal.coe_nonneg.mpr (Real.log_nonneg (by linarith))

/-- The softplus as both programs compute it: `max z 0 + log1p (exp (-|z|))`. -/
def softplus (z : EReal) : EReal := max z 0 + Ideal.log1p (Ideal.exp (-(max z (-z))))

theorem softplus_nonneg (z : EReal) : 0 ≤ softplus z :=
  add_nonneg (le_max_right _ _) (log1p_nonneg (exp_nonneg _))

/-- The logistic is not negative. -/
theorem logistic_nonneg (x : EReal) : 0 ≤ Ideal.logistic x := by
  have h : (0 : EReal) < 1 + Ideal.exp (-x) :=
    lt_of_lt_of_le zero_lt_one (le_add_of_nonneg_right (exp_nonneg _))
  unfold Ideal.logistic Ideal.div
  rw [if_neg h.ne', one_mul]
  exact EReal.inv_nonneg_of_nonneg h.le

/-- The pattern of `-8`. -/
theorem ofBits_neg_eight : Ideal.ofBits .f32 0xC1000000#32 = -((8 : ℝ) : EReal) := by
  simp [Ideal.ofBits, Ideal.ieee]
  rw [← EReal.coe_mul]
  norm_num

/-- The pattern of `2`. -/
theorem ofBits_two : Ideal.ofBits .f32 0x40000000#32 = ((2 : ℝ) : EReal) := by
  simp [Ideal.ofBits, Ideal.ieee]
  rw [← EReal.coe_mul]
  norm_num

/-- The logarithm of the decay: `-8 · r · softplus (-λ)`. -/
def logDecay (r lam : EReal) : EReal := Ideal.ofBits .f32 0xC1000000#32 * r * softplus (-lam)

/-- With a gate that is not negative the logarithm of the decay is not positive. -/
theorem logDecay_nonpos {r : EReal} (hr : 0 ≤ r) (lam : EReal) : logDecay r lam ≤ 0 := by
  unfold logDecay
  rw [ofBits_neg_eight, EReal.neg_mul, EReal.neg_mul, EReal.neg_le, neg_zero]
  exact mul_nonneg (mul_nonneg (by exact_mod_cast (by norm_num : (0 : ℝ) ≤ 8)) hr) (softplus_nonneg _)

/-- `exp` is `⊤` only at `⊤`. -/
theorem exp_ne_top {x : EReal} (h : x ≤ 0) : Ideal.exp x ≠ ⊤ := by
  induction x using EReal.rec with
  | bot => exact EReal.zero_ne_top
  | top => exact absurd h (by simp)
  | coe r => exact EReal.coe_ne_top _

/-- The two spellings of one minus the squared decay: `-tanh x · (1 + eˣ·eˣ) = -(e²ˣ - 1)` for `x ≤ 0`. -/
theorem tanh_form {x : EReal} (h : x ≤ 0) :
    (-Ideal.tanh x) * (1 + Ideal.exp x * Ideal.exp x) = -Ideal.expm1 (Ideal.ofBits .f32 0x40000000#32 * x) := by
  rw [ofBits_two]
  induction x using EReal.rec with
  | bot =>
    have e : ((2 : ℝ) : EReal) * ⊥ = ⊥ := EReal.coe_mul_bot_of_pos (by norm_num)
    rw [e]
    show (-(-1 : EReal)) * (1 + 0 * 0) = -((0 : EReal) - 1)
    simp
  | top => exact absurd h (by simp)
  | coe r =>
    have e : ((2 : ℝ) : EReal) * (r : EReal) = ((2 * r : ℝ) : EReal) := by push_cast; rfl
    rw [e]
    show (-(Real.tanh r : EReal)) * (1 + (Real.exp r : EReal) * (Real.exp r : EReal)) = -((Real.exp (2 * r) : EReal) - 1)
    have key : (-Real.tanh r) * (1 + Real.exp r * Real.exp r) = -(Real.exp (2 * r) - 1) := by
      have h1 : Real.exp r ≠ 0 := (Real.exp_pos r).ne'
      have h2 : Real.exp r * Real.exp r + 1 ≠ 0 := by positivity
      have h3 : Real.exp (2 * r) = Real.exp r * Real.exp r := by rw [two_mul, Real.exp_add]
      rw [Real.tanh_eq_sinh_div_cosh, Real.sinh_eq, Real.cosh_eq, Real.exp_neg, h3]
      field_simp
      ring
    exact_mod_cast congrArg ((↑) : ℝ → EReal) key

end Cert.RgLru

end
-- ==== Proof.RgScan.lean ====
module

public import Mathlib.Data.EReal.Inv

/-! The logarithmic scan of a linear recurrence. `aff a u lo n h` runs `h ↦ a k · h + u k` over the `n` positions from
    `lo`; doubling the window of a pair `(A, U)` that stands for such a run keeps it one, because a coefficient that is
    a real number not below zero distributes over sums of extended reals. -/

@[expose] public section

noncomputable section

namespace Cert.RgLru

/-- The recurrence `h ↦ a k · h + u k`, run over the positions `lo, …, lo + n - 1`. -/
def aff (a u : ℕ → EReal) (lo : ℕ) : ℕ → EReal → EReal
  | 0, h => h
  | n + 1, h => a (lo + n) * aff a u lo n h + u (lo + n)

/-- A run of `n + k` positions is the run of the last `k` after the run of the first `n`. -/
theorem aff_add (a u : ℕ → EReal) (lo n k : ℕ) (h : EReal) :
    aff a u lo (n + k) h = aff a u (lo + n) k (aff a u lo n h) := by
  induction k with
  | zero => rfl
  | succ k ih => show a (lo + (n + k)) * aff a u lo (n + k) h + u (lo + (n + k)) = _; rw [ih, ← Nat.add_assoc]; rfl

/-- The run of a shifted pair is the pair's run from the shifted start. -/
theorem aff_shift (a u : ℕ → EReal) (s lo n : ℕ) (h : EReal) :
    aff (fun k => a (s + k)) (fun k => u (s + k)) lo n h = aff a u (s + lo) n h := by
  induction n with
  | zero => rfl
  | succ n ih => show a (s + (lo + n)) * _ + u (s + (lo + n)) = a (s + lo + n) * _ + u (s + lo + n); rw [ih, Nat.add_assoc]

/-- Runs of pairs that agree on the positions met agree. -/
theorem aff_congr {a u a' u' : ℕ → EReal} {lo n : ℕ} (ha : ∀ k, lo ≤ k → k < lo + n → a k = a' k)
    (hu : ∀ k, lo ≤ k → k < lo + n → u k = u' k) (h : EReal) : aff a u lo n h = aff a' u' lo n h := by
  induction n with
  | zero => rfl
  | succ n ih =>
    show a (lo + n) * _ + u (lo + n) = a' (lo + n) * _ + u' (lo + n)
    rw [ih (fun k h1 h2 => ha k h1 (by omega)) (fun k h1 h2 => hu k h1 (by omega)), ha (lo + n) (by omega) (by omega),
      hu (lo + n) (by omega) (by omega)]

/-- One doubling of the coefficients: rows from `d` on take the product with the row `d` above (the rotation's row). -/
def dblA (d : ℕ) (A : Fin 256 → EReal) (i : Fin 256) : EReal :=
  if d ≤ i.val then A i * A ⟨(i.val + 256 - d) % 256, Nat.mod_lt _ (by decide)⟩ else A i

/-- One doubling of the offsets. -/
def dblU (d : ℕ) (A U : Fin 256 → EReal) (i : Fin 256) : EReal :=
  if d ≤ i.val then A i * U ⟨(i.val + 256 - d) % 256, Nat.mod_lt _ (by decide)⟩ + U i else U i

/-- The pair `(A, U)` holds the recurrence's runs over the last `d` positions up to each row. -/
def Window (a u : ℕ → EReal) (d : ℕ) (A U : Fin 256 → EReal) : Prop :=
  ∀ i : Fin 256, (0 ≤ A i ∧ A i ≠ ⊤) ∧
    ∀ h, A i * h + U i = aff a u (i.val + 1 - d) (i.val + 1 - (i.val + 1 - d)) h

/-- The pair itself is its window of length one. -/
theorem window_one (a u : ℕ → EReal) (A U : Fin 256 → EReal) (hA : ∀ i, A i = a i.val) (hU : ∀ i, U i = u i.val)
    (h0 : ∀ i, 0 ≤ A i ∧ A i ≠ ⊤) : Window a u 1 A U := by
  intro i
  refine ⟨h0 i, fun h => ?_⟩
  rw [show i.val + 1 - 1 = i.val from rfl, show i.val + 1 - i.val = 1 by omega, hA, hU]
  rfl

/-- A doubling turns the window of length `d` into the window of length `2 d`. -/
theorem window_dbl {a u : ℕ → EReal} {d : ℕ} {A U : Fin 256 → EReal} (hw : Window a u d A U) (hd : d ≤ 256) :
    Window a u (2 * d) (dblA d A) (dblU d A U) := by
  intro i
  have hi := i.isLt
  obtain ⟨hA, hr⟩ := hw i
  by_cases h : d ≤ i.val
  · have hk : (i.val + 256 - d) % 256 = i.val - d := by omega
    obtain ⟨hB, hs⟩ := hw ⟨(i.val + 256 - d) % 256, Nat.mod_lt _ (by decide)⟩
    simp only [dblA, dblU, if_pos h]
    refine ⟨⟨mul_nonneg hA.1 hB.1, (EReal.mul_ne_top _ _).mpr ⟨Or.inr hB.1, Or.inl hA.1, Or.inl hA.2, Or.inr hB.2⟩⟩,
      fun x => ?_⟩
    rw [mul_assoc, ← add_assoc, ← EReal.left_distrib_of_nonneg_of_ne_top hA.1 hA.2, hs x, hr]
    simp only [hk]
    have e := aff_add a u (i.val + 1 - 2 * d) (i.val - d + 1 - (i.val - d + 1 - d)) d x
    rw [show i.val + 1 - 2 * d + (i.val - d + 1 - (i.val - d + 1 - d)) = i.val + 1 - d by omega,
      show i.val - d + 1 - (i.val - d + 1 - d) + d = i.val + 1 - (i.val + 1 - 2 * d) by omega] at e
    rw [e, show i.val + 1 - (i.val + 1 - d) = d by omega, show i.val - d + 1 - d = i.val + 1 - 2 * d by omega]
  · simp only [dblA, dblU, if_neg h]
    refine ⟨hA, fun x => ?_⟩
    rw [hr x, show i.val + 1 - d = 0 by omega, show i.val + 1 - 2 * d = 0 by omega]

/-- A window of length 256 reaches from the tile's first row to each row. -/
theorem window_full {a u : ℕ → EReal} {A U : Fin 256 → EReal} (hw : Window a u 256 A U) (i : Fin 256) (h : EReal) :
    A i * h + U i = aff a u 0 (i.val + 1) h := by
  have hi := i.isLt
  rw [(hw i).2 h, show i.val + 1 - 256 = 0 by omega, Nat.sub_zero]

end Cert.RgLru

end
-- ==== Proof.RgSpec.lean ====
module

public import proofs.«01_k».proof.Proof.RgScalar
public import proofs.«01_k».proof.Proof.RgScan
public import Idealize.ShloMosaic.Lib.Pointwise

/-! The recurrence of the gated linear unit, index by index: the causal convolution over the history and the sequence,
    the block-diagonal gates, the log decay, and the gated input. -/

@[expose] public section

noncomputable section

namespace Cert.RgLru

open Idealize.ShloMosaic

/-- The sequence with its three rows of history in front, at position `n`. -/
def tap (x : Fin 4 → Fin 4096 → Fin 512 → EReal) (hist : Fin 4 → Fin 3 → Fin 512 → EReal) (b : Fin 4) (n : ℕ) (c : Fin 512) : EReal :=
  if h : n < 3 then hist b ⟨n, h⟩ c else x b ⟨(n - 3) % 4096, Nat.mod_lt _ (by decide)⟩ c

/-- The causal convolution of width four, with its bias. -/
def conv (x : Fin 4 → Fin 4096 → Fin 512 → EReal) (hist : Fin 4 → Fin 3 → Fin 512 → EReal) (w : Fin 4 → Fin 512 → EReal) (bias : Fin 512 → EReal)
    (b : Fin 4) (n : Fin 4096) (c : Fin 512) : EReal :=
  w 0 c * tap x hist b n.val c + w 1 c * tap x hist b (n.val + 1) c + w 2 c * tap x hist b (n.val + 2) c + w 3 c * tap x hist b (n.val + 3) c + bias c

/-- A block-diagonal gate of one row: eight heads of 64 channels, each with its own matrix. -/
def gate (W : Fin 8 → Fin 64 → Fin 64 → EReal) (bias : Fin 512 → EReal) (xc : Fin 512 → EReal) (c : Fin 512) : EReal :=
  Ideal.logistic (∑ k : Fin 64, W ⟨c.val / 64, by omega⟩ k ⟨c.val % 64, Nat.mod_lt _ (by decide)⟩ * xc ⟨c.val / 64 * 64 + k.val, by omega⟩ + bias c)

/-- The gated input's first factor, of the log decay. -/
def scaleOf (l : EReal) : EReal := Ideal.sqrt (-(Ideal.expm1 (Ideal.ofBits .f32 0x40000000#32 * l)))

end Cert.RgLru

end
-- ==== Proof.RgTile.lean ====
module

public import proofs.«01_k».proof.Proof.Gen.KernelIdeal.Skeleton
public import proofs.«01_k».proof.Proof.RgSpec
public import Idealize.ShloMosaic.Lib.Pointwise

/-! What one tile of the recurrence kernel computes: eight doublings of the pair of decay and gated input, row by row
    a run of the recurrence from the tile's start; then the run applied to the carried state. -/

@[expose] public section

set_option maxRecDepth 16384

noncomputable section

namespace Cert.KernelIdeal.Tile

open Idealize.ShloMosaic Idealize.SL.Sem Cert.KernelIdeal Cert.KernelIdeal.Gen Cert.RgLru

/-- The row numbers of a tile. -/
def rowIx : IVec S256x512 32 := iota .tc S256x512 32 [0] iota_S256x512_d0_w32

/-- One doubling of the coefficients, on the whole tile. -/
def stA (d : BitVec 32) (A : FVec Ideal S256x512 .f32) : FVec Ideal S256x512 .f32 :=
  select (cmpi .sge rowIx (broadcast S256x512 d)) (mulf A (dynamicRotate 0 d none A rotates_S256x512_d0)) A

/-- One doubling of the offsets, on the whole tile. -/
def stU (d : BitVec 32) (A U : FVec Ideal S256x512 .f32) : FVec Ideal S256x512 .f32 :=
  select (cmpi .sge rowIx (broadcast S256x512 d)) (addf (mulf A (dynamicRotate 0 d none U rotates_S256x512_d0)) U) U

/-- A column of a tile, by row. -/
def colT (X : FVec Ideal S256x512 .f32) (c : Fin 512) (i : Fin 256) : EReal := X (ix2 i c)

/-- The choice by a row mask is the choice by the row's number. -/
theorem sel_ge (i : Fin 256) (d : ℕ) (hd : d ≤ 128) (x y : EReal) :
    Scalar.select (IntOp.cmpi CmpIPredicate.sge (BitVec.ofNat 32 i.val) (BitVec.ofNat 32 d)) x y = if d ≤ i.val then x else y := by
  have e1 : (BitVec.ofNat 32 i.val).toInt = (i.val : ℤ) := by
    rw [BitVec.toInt_eq_toNat_of_lt (by simp; omega)]; simp; omega
  have e2 : (BitVec.ofNat 32 d).toInt = (d : ℤ) := by
    rw [BitVec.toInt_eq_toNat_of_lt (by simp; omega)]; simp; omega
  have e : IntOp.cmpi CmpIPredicate.sge (BitVec.ofNat 32 i.val) (BitVec.ofNat 32 d) = BitVec.ofBool (decide (d ≤ i.val)) := by
    show BitVec.ofBool ((BitVec.ofNat 32 d).sle (BitVec.ofNat 32 i.val)) = _
    rw [BitVec.sle, e1, e2]
    simp only [Nat.cast_le]
  unfold Scalar.select
  rw [e]
  by_cases h : d ≤ i.val
  · rw [decide_eq_true h, if_pos h]; rfl
  · rw [decide_eq_false h, if_neg h]; rfl

theorem rot_amount (d : ℕ) (hd : d ≤ 128) : (BitVec.ofNat 32 d).toNat % 256 = d := by
  simp; omega

/-- A doubling of the coefficients, column by column. -/
theorem stA_at (A : FVec Ideal S256x512 .f32) (d : ℕ) (hd : d ≤ 128) (c : Fin 512) :
    colT (stA (BitVec.ofNat 32 d) A) c = dblA d (colT A c) := by
  funext i
  unfold colT dblA
  pointwise [stA, rowIx]
  simp only [rot_amount d hd]
  rw [sel_ge i d hd]

/-- A doubling of the offsets, column by column. -/
theorem stU_at (A U : FVec Ideal S256x512 .f32) (d : ℕ) (hd : d ≤ 128) (c : Fin 512) :
    colT (stU (BitVec.ofNat 32 d) A U) c = dblU d (colT A c) (colT U c) := by
  funext i
  unfold colT dblU
  pointwise [stU, rowIx]
  simp only [rot_amount d hd]
  rw [sel_ge i d hd]

/-- A doubling keeps a pair of tiles a window, column by column. -/
theorem window_st {a u : ℕ → EReal} {A U : FVec Ideal S256x512 .f32} {c : Fin 512} (d : ℕ) (hd : d ≤ 128)
    (h : Window a u d (colT A c) (colT U c)) :
    Window a u (2 * d) (colT (stA (BitVec.ofNat 32 d) A) c) (colT (stU (BitVec.ofNat 32 d) A U) c) := by
  rw [stA_at A d hd, stU_at A U d hd]
  exact window_dbl h (by omega)

/-- The gated input of a tile, as the kernel forms it from the log decay and its exponential. -/
def inU (L A v44 v61 : FVec Ideal S256x512 .f32) : FVec Ideal S256x512 .f32 :=
  mulf (sqrt (mulf (subf (broadcast S256x512 (Scalar.ofBits .f32 0x00000000#32)) (tanh L))
    (addf (broadcast S256x512 (Scalar.ofBits .f32 0x3F800000#32)) (mulf A A)))) (mulf v61 v44)

/-- The kernel's form of the gated input is the reference's where the log decay is not above zero. -/
theorem inU_at (L v44 v61 : FVec Ideal S256x512 .f32) (i : Fin 256) (c : Fin 512) (hL : L (ix2 i c) ≤ 0) :
    inU L (exp L) v44 v61 (ix2 i c) = scaleOf (L (ix2 i c)) * (v61 (ix2 i c) * v44 (ix2 i c)) := by
  pointwise [inU]
  unfold scaleOf
  rw [← tanh_form hL]
  simp only [zero_sub]

variable (v44 v61 v63 : FVec Ideal S256x512 .f32) (v65 v66 : FVec Ideal S1x512 .f32)

/-- The tile's coefficients after the doublings by 1 and 2, and the offsets. -/
theorem pay18_eq : k0_pay18 v63 v65 v66 = exp (k0_pay17 v63 v65 v66) := rfl
theorem pay23_eq : k0_pay23 v63 v65 v66 = stA 2#32 (stA 1#32 (k0_pay18 v63 v65 v66)) := rfl
theorem pay22_eq : k0_pay22 v44 v61 v63 v65 v66 =
    stU 2#32 (stA 1#32 (k0_pay18 v63 v65 v66)) (stU 1#32 (k0_pay18 v63 v65 v66) (inU (k0_pay17 v63 v65 v66) (k0_pay18 v63 v65 v66) v44 v61)) := rfl

/-- What the tile's last operation computes: the run of the recurrence up to each row, over the carried state. -/
def tileH (h : FVec Ideal S1x512 .f32) : FVec Ideal S256x512 .f32 :=
  k0_pay1 (k0_pay35 rowIx (k0_pay22 v44 v61 v63 v65 v66) (k0_pay23 v63 v65 v66) (k0_pay24 v63 v65 v66) k0_pay25 (k0_pay26 v44 v61 v63 v65 v66))
    (k0_pay36 rowIx (k0_pay23 v63 v65 v66) (k0_pay24 v63 v65 v66) k0_pay25)
    (k0_pay37 rowIx (k0_pay23 v63 v65 v66) (k0_pay24 v63 v65 v66) k0_pay25) (k0_pay38 rowIx)
    (k0_pay39 rowIx (k0_pay22 v44 v61 v63 v65 v66) (k0_pay23 v63 v65 v66) (k0_pay24 v63 v65 v66) k0_pay25 (k0_pay26 v44 v61 v63 v65 v66)) h

/-- A pair of tiles applied to a state, row by row. -/
def applyH (A U : FVec Ideal S256x512 .f32) (h : FVec Ideal S1x512 .f32) : FVec Ideal S256x512 .f32 :=
  addf (mulf A (broadcastTo S256x512 h broadcasts_S1x512_S256x512)) U

theorem applyH_at (A U : FVec Ideal S256x512 .f32) (h : FVec Ideal S1x512 .f32) (i : Fin 256) (c : Fin 512) :
    applyH A U h (ix2 i c) = A (ix2 i c) * h (ix2 0 c) + U (ix2 i c) := by
  pointwise [applyH]

/-- The doublings by 4 up to 128, from the pair after the first two. -/
def late (A U : FVec Ideal S256x512 .f32) : FVec Ideal S256x512 .f32 × FVec Ideal S256x512 .f32 :=
  let A3 := stA 4#32 A; let U3 := stU 4#32 A U
  let A4 := stA 8#32 A3; let U4 := stU 8#32 A3 U3
  let A5 := stA 16#32 A4; let U5 := stU 16#32 A4 U4
  let A6 := stA 32#32 A5; let U6 := stU 32#32 A5 U5
  let A7 := stA 64#32 A6; let U7 := stU 64#32 A6 U6
  (stA 128#32 A7, stU 128#32 A7 U7)

theorem tileH_eq (h : FVec Ideal S1x512 .f32) : tileH v44 v61 v63 v65 v66 h =
    applyH (late (k0_pay23 v63 v65 v66) (k0_pay22 v44 v61 v63 v65 v66)).1 (late (k0_pay23 v63 v65 v66) (k0_pay22 v44 v61 v63 v65 v66)).2 h := rfl

theorem late_window {a u : ℕ → EReal} {A U : FVec Ideal S256x512 .f32} {c : Fin 512} (h : Window a u 4 (colT A c) (colT U c)) :
    Window a u 256 (colT (late A U).1 c) (colT (late A U).2 c) :=
  window_st 128 (by decide) (window_st 64 (by decide) (window_st 32 (by decide) (window_st 16 (by decide)
    (window_st 8 (by decide) (window_st 4 (by decide) h)))))

/-- The tile's row `i` is the recurrence run over the tile's first `i + 1` positions. -/
theorem tileH_at (h : FVec Ideal S1x512 .f32) (c : Fin 512) (L u : ℕ → EReal)
    (hL : ∀ i : Fin 256, k0_pay17 v63 v65 v66 (ix2 i c) = L i.val) (h0 : ∀ i : Fin 256, L i.val ≤ 0)
    (hu : ∀ i : Fin 256, u i.val = scaleOf (L i.val) * (v61 (ix2 i c) * v44 (ix2 i c))) (i : Fin 256) :
    tileH v44 v61 v63 v65 v66 h (ix2 i c) = aff (fun k => Ideal.exp (L k)) u 0 (i.val + 1) (h (ix2 0 c)) := by
  rw [tileH_eq, applyH_at]
  refine window_full (A := colT _ c) (U := colT _ c) (late_window ?_) i _
  rw [pay23_eq, pay22_eq]
  refine window_st 2 (by decide) (window_st 1 (by decide) ?_)
  refine window_one _ _ _ _ (fun j => ?_) (fun j => ?_) (fun j => ?_)
  · show Ideal.exp (k0_pay17 v63 v65 v66 (ix2 j c)) = _
    rw [hL j]
  · show inU (k0_pay17 v63 v65 v66) (exp (k0_pay17 v63 v65 v66)) v44 v61 (ix2 j c) = _
    rw [inU_at _ _ _ _ _ (by rw [hL j]; exact h0 j), hu j, hL j]
  · show 0 ≤ Ideal.exp (k0_pay17 v63 v65 v66 (ix2 j c)) ∧ Ideal.exp (k0_pay17 v63 v65 v66 (ix2 j c)) ≠ ⊤
    rw [hL j]
    exact ⟨exp_nonneg _, exp_ne_top (h0 j)⟩

end Cert.KernelIdeal.Tile

end
-- ==== Proof.RgPoint.lean ====
module

public import proofs.«01_k».proof.Proof.Gen.KernelIdeal.Frame
public import proofs.«01_k».proof.Proof.RgTile
public import Idealize.ShloMosaic.Lib.Pipeline.ValueKit
public import Idealize.ShloMosaic.Lib.Pipeline.ReadBack
public import Idealize.ShloMosaic.Lib.Pointwise

/-! What one grid point of the recurrence kernel leaves: the tile's rows times their gate, the last state, and the carried
    state, each over the point's input blocks and the state the point starts from. -/

@[expose] public section

set_option maxRecDepth 16384

noncomputable section

namespace Cert.KernelIdeal.Tile

open Idealize.ShloMosaic Idealize.ShloMosaic.TcCoe Idealize.SL.Sem Cert.KernelIdeal Cert.KernelIdeal.Gen Cert.RgLru

/-- The tile's rows behind its eight rows of history, read from row `o` on. -/
def extRead (X : FVec Ideal S256x512 .f32) (H : FVec Ideal S8x512 .f32) (o : ℕ) : FVec Ideal S256x512 .f32 := fun y =>
  if h : (y 0).val + o < 8 then H (ix2 ⟨(y 0).val + o, h⟩ (y 1)) else X (ix2 ⟨((y 0).val + o - 8) % 256, Nat.mod_lt _ (by decide)⟩ (y 1))

/-- A row of an array of eight rows. -/
def rowOf (X : FVec Ideal S8x512 .f32) (k : Fin 8) : FVec Ideal S1x512 .f32 := fun y => X (ix2 k (y 1))

/-- The buffer that holds history and tile, at a place. -/
theorem ext_canon (X : FVec Ideal S256x512 .f32) (H : FVec Ideal S8x512 .f32) (h1 h2) (p : S264x512.Idx) :
    View.canon (Val := Elt Ideal)
      [(⟨Rect.unit (s := S264x512) ![8, 0] ![256, 512] h1, X⟩ : View.Piece (Elt Ideal) S264x512 .f32), ⟨Rect.unit (s := S264x512) ![0, 0] ![8, 512] h2, H⟩] p
      = if h : (p 0).val < 8 then H (ix2 ⟨(p 0).val, h⟩ (p 1)) else X (ix2 ⟨((p 0).val - 8) % 256, Nat.mod_lt _ (by decide)⟩ (p 1)) := by
  by_cases h : (p 0).val < 8
  · rw [dif_pos h, View.canon_cons_of_not_mem _ _ (Rect.not_mem_set_of_axis _ p 0 8 256 rfl rfl rfl (Or.inl h))]
    have he : (Rect.unit (s := S264x512) ![0, 0] ![8, 512] h2).emb (ix2 ⟨(p 0).val, h⟩ (p 1)) = p := by
      refine Rect.emb_eq_of_coords _ _ _ fun a => ?_
      match a with
      | ⟨0, _⟩ => show (p 0).val = 0 + 1 * (p 0).val; omega
      | ⟨1, _⟩ => show (p 1).val = 0 + 1 * (p 1).val; omega
    exact (congrArg _ he.symm).trans (View.canon_cons_emb _ _ _ _)
  · have hp : (p 0).val < 264 := (p 0).isLt
    rw [dif_neg h]
    have he : (Rect.unit (s := S264x512) ![8, 0] ![256, 512] h1).emb (ix2 ⟨((p 0).val - 8) % 256, Nat.mod_lt _ (by decide)⟩ (p 1)) = p := by
      refine Rect.emb_eq_of_coords _ _ _ fun a => ?_
      match a with
      | ⟨0, _⟩ => show (p 0).val = 8 + 1 * (((p 0).val - 8) % 256); omega
      | ⟨1, _⟩ => show (p 1).val = 0 + 1 * (p 1).val; omega
    exact (congrArg _ he.symm).trans (View.canon_cons_emb _ _ _ _)

/-- Reading the buffer that holds history and tile. -/
theorem ext_read (X : FVec Ideal S256x512 .f32) (H : FVec Ideal S8x512 .f32) (o : ℕ) (h1 h2 h3) :
    (View.whole cc0_scratch0).readCov (Val := Elt Ideal)
      [⟨Rect.unit (s := S264x512) ![8, 0] ![256, 512] h1, X⟩, ⟨Rect.unit (s := S264x512) ![0, 0] ![8, 512] h2, H⟩]
      (Rect.unit (s := S264x512) ![o, 0] ![256, 512] h3).toLoadRect = extRead X H o := by
  rw [View.readCov_eq_canon']
  funext y
  refine (ext_canon X H h1 h2 _).trans ?_
  have e0 : (((Rect.unit (s := S264x512) ![o, 0] ![256, 512] h3).toLoadRect.idx y) 0).val = (y 0).val + o := by
    rw [LoadRect.idx_apply]
    show o + 1 * (y 0).val = _
    omega
  have e1 : ((Rect.unit (s := S264x512) ![o, 0] ![256, 512] h3).toLoadRect.idx y) 1 = y 1 := by
    apply Fin.ext
    rw [LoadRect.idx_apply]
    show 0 + 1 * (y 1).val = _
    omega
  unfold extRead
  generalize (Rect.unit (s := S264x512) ![o, 0] ![256, 512] h3).toLoadRect.idx y = p at e0 e1
  subst_vars
  simp only [e0, e1]

/-- Reading one row of an array of eight rows. -/
theorem ld_row (X : FVec Ideal S8x512 .f32) (k : ℕ) (hk : k < 8) (h) :
    View.ld (Val := Elt Ideal) (e' := .f32) (S := S8x512) X (Rect.unit (s := S8x512) ![k, 0] ![1, 512] h) = rowOf X ⟨k, hk⟩ := by
  funext y
  have e : (Rect.unit (s := S8x512) ![k, 0] ![1, 512] h).emb y = ix2 ⟨k, hk⟩ (y 1) := by
    refine Rect.emb_eq_of_coords _ _ _ fun a => ?_
    match a with
    | ⟨0, _⟩ => have : (y 0).val < 1 := (y 0).isLt; show k = k + 1 * (y 0).val; omega
    | ⟨1, _⟩ => show (y 1).val = 0 + 1 * (y 1).val; omega
  exact congrArg X e

/-- The convolved inputs of a tile. -/
def xcT (i : grid0.Coords) (x0 : FVec Ideal S1x256x512 .f32) (x1 x2 : FVec Ideal S1x8x512 .f32) (x5 : FVec Ideal S8x512 .f32) (x6 : FVec Ideal S1x512 .f32) : FVec Ideal S256x512 .f32 :=
  k0_pay11 (k0_pay9 x6 (rowOf x5 0) (extRead (k0_pay8 x0) (k0_pay7 i x2 x1) 5)) (k0_pay10 (rowOf x5 1)) (extRead (k0_pay8 x0) (k0_pay7 i x2 x1) 6)
    (rowOf x5 2) (extRead (k0_pay8 x0) (k0_pay7 i x2 x1) 7) (rowOf x5 3) (extRead (k0_pay8 x0) (k0_pay7 i x2 x1) 8)
/-- The input gates of a tile. -/
def inT (i : grid0.Coords) (x0 : FVec Ideal S1x256x512 .f32) (x1 x2 : FVec Ideal S1x8x512 .f32) (x5 : FVec Ideal S8x512 .f32) (x6 : FVec Ideal S1x512 .f32) (W : FVec Ideal S512x512 .bf16) (b : FVec Ideal S1x512 .f32) : FVec Ideal S256x512 .f32 :=
  k0_pay13 (k0_pay9 x6 (rowOf x5 0) (extRead (k0_pay8 x0) (k0_pay7 i x2 x1) 5)) (k0_pay10 (rowOf x5 1)) (extRead (k0_pay8 x0) (k0_pay7 i x2 x1) 6)
    (rowOf x5 2) (extRead (k0_pay8 x0) (k0_pay7 i x2 x1) 7) (rowOf x5 3) (extRead (k0_pay8 x0) (k0_pay7 i x2 x1) 8) W b
/-- The recurrence gates of a tile, times -8. -/
def reT (i : grid0.Coords) (x0 : FVec Ideal S1x256x512 .f32) (x1 x2 : FVec Ideal S1x8x512 .f32) (x5 : FVec Ideal S8x512 .f32) (x6 : FVec Ideal S1x512 .f32) (W : FVec Ideal S512x512 .bf16) (b : FVec Ideal S1x512 .f32) : FVec Ideal S256x512 .f32 :=
  k0_pay14 (k0_pay9 x6 (rowOf x5 0) (extRead (k0_pay8 x0) (k0_pay7 i x2 x1) 5)) (k0_pay10 (rowOf x5 1)) (extRead (k0_pay8 x0) (k0_pay7 i x2 x1) 6)
    (rowOf x5 2) (extRead (k0_pay8 x0) (k0_pay7 i x2 x1) 7) (rowOf x5 3) (extRead (k0_pay8 x0) (k0_pay7 i x2 x1) 8) W b
/-- A tile's states times their gate, as stored. -/
def yT (H : FVec Ideal S256x512 .f32) (g : FVec Ideal S1x256x512 .bf16) : FVec Ideal S1x256x512 .bf16 :=
  shapeCast S1x256x512 (truncf .bf16 (mulf H (extf .f32 (shapeCast S256x512 g shapeCasts_S1x256x512_S256x512) bitsLt_bf16_f32)) bitsLt_bf16_f32) shapeCasts_S256x512_S1x256x512
/-- A tile's last state, as one row. -/
def lastT (H : FVec Ideal S256x512 .f32) : FVec Ideal S1x512 .f32 := extractStridedSlice S1x512 ![255, 0] H slices_S256x512_o255_0_S1x512
/-- A tile's last state, as stored in the result. -/
def lT (H : FVec Ideal S256x512 .f32) : FVec Ideal S1x1x512 .f32 := shapeCast S1x1x512 (lastT H) shapeCasts_S1x512_S1x1x512
/-- A tile's last state, as carried. -/
def sT (H : FVec Ideal S256x512 .f32) : FVec Ideal S8x512 .f32 :=
  shapeCast S8x512 (broadcastTo S8x512 (shapeCast S1x512 (lastT H) shapeCasts_S1x512_S1x512) broadcasts_S1x512_S8x512) shapeCasts_S8x512_S8x512

/-- Reading the first row of the carried state just set. -/
theorem h_readA (H : FVec Ideal S8x512 .f32) (h2 h3) :
    (View.whole cc0_scratch1).readCov (Val := Elt Ideal) [⟨Rect.unit (s := S8x512) ![0, 0] ![8, 512] h2, H⟩]
      (Rect.unit (s := S8x512) ![0, 0] ![1, 512] h3).toLoadRect = rowOf H 0 := by
  rw [View.readCov_eq_canon']
  funext y
  have e : (Rect.unit (s := S8x512) ![0, 0] ![1, 512] h3).toLoadRect.idx y = (Rect.unit (s := S8x512) ![0, 0] ![8, 512] h2).emb (ix2 0 (y 1)) := by
    symm
    refine Rect.emb_eq_of_coords _ _ _ fun a => ?_
    rw [LoadRect.idx_apply]
    match a with
    | ⟨0, _⟩ => have : (y 0).val < 1 := (y 0).isLt; show 0 + 1 * (y 0).val = 0 + 1 * 0; omega
    | ⟨1, _⟩ => rfl
  exact (congrArg _ e).trans (View.canon_cons_emb _ _ _ _)

variable (m : (ℓ : Loc nD τ sig) → Buf (Elt Ideal) ℓ)

/-- The states a point computes, over the state `h` it starts from. -/
def tH (c : Dev nD) (t : Fin cfg0.N) (h : FVec Ideal S8x512 .f32) : FVec Ideal S256x512 .f32 :=
  tileH (xcT (grid0.coords t) (iblk m c 0 t) (iblk m c 1 t) (iblk m c 2 t) (iblk m c 5 t) (iblk m c 6 t))
    (inT (grid0.coords t) (iblk m c 0 t) (iblk m c 1 t) (iblk m c 2 t) (iblk m c 5 t) (iblk m c 6 t) (iblk m c 9 t) (iblk m c 10 t))
    (reT (grid0.coords t) (iblk m c 0 t) (iblk m c 1 t) (iblk m c 2 t) (iblk m c 5 t) (iblk m c 6 t) (iblk m c 7 t) (iblk m c 8 t))
    (k0_pay15 (iblk m c 11 t)) k0_pay16 (rowOf h 0)

theorem y_A (c : Dev nD) (t : Fin cfg0.N) (h0 : t.val % 16 = 0) : (outsAt0 m c t.val t.isLt).1 = yT (tH m c t (k0_pay6 (iblk m c 4 t))) (iblk m c 3 t) := by
  rw [outsAt0_A m c t h0]
  dsimp only
  unfold tH
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  frame_out
  rw [ext_read _ _ 5, ext_read _ _ 6, ext_read _ _ 7, ext_read _ _ 8, ld_row _ 1 (by decide), ld_row _ 2 (by decide), ld_row _ 3 (by decide)]
  rw [h_readA, ld_row _ 0 (by decide)]
  rfl

theorem y_B (c : Dev nD) (t : Fin cfg0.N) (h0 : ¬ t.val % 16 = 0) : (outsAt0 m c t.val t.isLt).1 = yT (tH m c t ((outsAt0 m c (t.val - 1) (Nat.lt_of_le_of_lt (Nat.sub_le _ _) t.isLt)).2.2)) (iblk m c 3 t) := by
  rw [outsAt0_B m c t h0]
  dsimp only
  unfold tH
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  frame_out
  rw [ext_read _ _ 5, ext_read _ _ 6, ext_read _ _ 7, ext_read _ _ 8, ld_row _ 1 (by decide), ld_row _ 2 (by decide), ld_row _ 3 (by decide)]
  rw [read_unread_whole, ld_row x5 0 (by decide), ld_row _ 0 (by decide)]
  rfl

theorem l_A (c : Dev nD) (t : Fin cfg0.N) (h0 : t.val % 16 = 0) : (outsAt0 m c t.val t.isLt).2.1 = lT (tH m c t (k0_pay6 (iblk m c 4 t))) := by
  rw [outsAt0_A m c t h0]
  dsimp only
  unfold tH
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  frame_out
  rw [ext_read _ _ 5, ext_read _ _ 6, ext_read _ _ 7, ext_read _ _ 8, ld_row _ 1 (by decide), ld_row _ 2 (by decide), ld_row _ 3 (by decide)]
  rw [h_readA, ld_row _ 0 (by decide)]
  rfl

theorem l_B (c : Dev nD) (t : Fin cfg0.N) (h0 : ¬ t.val % 16 = 0) : (outsAt0 m c t.val t.isLt).2.1 = lT (tH m c t ((outsAt0 m c (t.val - 1) (Nat.lt_of_le_of_lt (Nat.sub_le _ _) t.isLt)).2.2)) := by
  rw [outsAt0_B m c t h0]
  dsimp only
  unfold tH
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  frame_out
  rw [ext_read _ _ 5, ext_read _ _ 6, ext_read _ _ 7, ext_read _ _ 8, ld_row _ 1 (by decide), ld_row _ 2 (by decide), ld_row _ 3 (by decide)]
  rw [read_unread_whole, ld_row x5 0 (by decide), ld_row _ 0 (by decide)]
  rfl

theorem s_A (c : Dev nD) (t : Fin cfg0.N) (h0 : t.val % 16 = 0) : (outsAt0 m c t.val t.isLt).2.2 = sT (tH m c t (k0_pay6 (iblk m c 4 t))) := by
  rw [outsAt0_A m c t h0]
  dsimp only
  unfold tH
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  frame_out
  rw [ext_read _ _ 5, ext_read _ _ 6, ext_read _ _ 7, ext_read _ _ 8, ld_row _ 1 (by decide), ld_row _ 2 (by decide), ld_row _ 3 (by decide)]
  rw [h_readA, ld_row _ 0 (by decide)]
  rfl

theorem s_B (c : Dev nD) (t : Fin cfg0.N) (h0 : ¬ t.val % 16 = 0) : (outsAt0 m c t.val t.isLt).2.2 = sT (tH m c t ((outsAt0 m c (t.val - 1) (Nat.lt_of_le_of_lt (Nat.sub_le _ _) t.isLt)).2.2)) := by
  rw [outsAt0_B m c t h0]
  dsimp only
  unfold tH
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  frame_out
  rw [ext_read _ _ 5, ext_read _ _ 6, ext_read _ _ 7, ext_read _ _ 8, ld_row _ 1 (by decide), ld_row _ 2 (by decide), ld_row _ 3 (by decide)]
  rw [read_unread_whole, ld_row x5 0 (by decide), ld_row _ 0 (by decide)]
  rfl

end Cert.KernelIdeal.Tile

end
-- ==== Proof.RgBlocks.lean ====
module
public import proofs.«01_k».proof.Proof.Gen.KernelIdeal.Frame
public import Idealize.ShloMosaic.Lib.Pipeline.ValueKit
public import Idealize.ShloMosaic.Lib.Pointwise
public import Idealize.ShloMosaic.Lib.Claim

/-! What each operand of the recurrence kernel holds at a grid point, as elements of the arrays the program takes. -/

@[expose] public section

set_option maxRecDepth 16384

noncomputable section
namespace Cert.KernelIdeal.Tile
open Idealize.ShloMosaic Idealize.ShloMosaic.TcCoe Idealize.SL.Sem Cert.KernelIdeal Cert.KernelIdeal.Gen
variable (m : (ℓ : Loc nD τ sig) → Buf (Elt Ideal) ℓ)

/-- Which block each window names at a grid point. -/
theorem idx : ∀ t : Fin cfg0.N, win0_0.index t = ![t.val / 16, t.val % 16, 0] ∧ win0_1.index t = ![t.val / 16, 32 * (t.val % 16) - 1, 0] ∧
    win0_2.index t = ![t.val / 16, 0, 0] ∧ win0_3.index t = ![t.val / 16, t.val % 16, 0] ∧ win0_4.index t = ![t.val / 16, 0, 0] ∧
    win0_5.index t = ![0, 0] ∧ win0_6.index t = ![0, 0] ∧ win0_7.index t = ![0, 0] ∧ win0_8.index t = ![0, 0] ∧
    win0_9.index t = ![0, 0] ∧ win0_10.index t = ![0, 0] ∧ win0_11.index t = ![0, 0] ∧ win0_12.index t = ![t.val / 16, t.val % 16, 0] ∧ win0_13.index t = ![t.val / 16, 0, 0] :=
  (by decide +kernel : ∀ t : Fin grid0.N, _)

/-- The grid has sixty-four points. -/
theorem lt_N (t : Fin cfg0.N) : t.val < 64 := t.isLt

/-- What the kernel reads of operand 0 at a grid point. -/
theorem read0 (c : Dev nD) (t : Fin cfg0.N) (i : Fin 256) (k : Fin 512) :
    iblk m c 0 t (ix3 0 i k) = m ((c : Thread nD τ).loc main_arg0) (ix3 ⟨t.val / 16, by have := lt_N t; omega⟩ ⟨256 * (t.val % 16) + i.val, by omega⟩ k) := by
  rw [← V_main_arg0 m c]
  blk_ext [iblk, idx t]

/-- What the kernel reads of operand 1 at a grid point. -/
theorem read1 (c : Dev nD) (t : Fin cfg0.N) (i : Fin 8) (k : Fin 512) :
    iblk m c 1 t (ix3 0 i k) = m ((c : Thread nD τ).loc main_arg0) (ix3 ⟨t.val / 16, by have := lt_N t; omega⟩ ⟨8 * (32 * (t.val % 16) - 1) + i.val, by omega⟩ k) := by
  rw [← V_main_arg0 m c]
  blk_ext [iblk, idx t]

/-- Padding five rows in front: row `i` is row `i - 5` of the array. -/
theorem pad_front (v : FVec Ideal S4x3x512 .f32) (z : FVec Ideal S_ .f32) (b : Fin 4) (i : Fin 8) (k : Fin 512) (h : 5 ≤ i.val) :
    pad S4x8x512 ![0, 5, 0] ![0, 0, 0] ![0, 0, 0] v z pads_S4x3x512_S4x8x512_000_500_000 h_S_ (ix3 b i k) = v (ix3 b ⟨i.val - 5, by omega⟩ k) := by
  pointwise
  rw [dif_pos (by omega)]

/-- Padding at the end keeps the rows of the array. -/
theorem pad_back (v : FVec Ideal S4x512 .f32) (z : FVec Ideal S_ .f32) (i : Fin 4) (k : Fin 512) :
    pad S8x512 ![0, 0] ![4, 0] ![0, 0] v z pads_S4x512_S8x512_040_000 h_S_ (ix2 ⟨i.val, by omega⟩ k) = v (ix2 i k) := by
  pointwise

/-- The comparison of two small counters is the identity matrix. -/
theorem eye_word : ∀ a b : Fin 8, IntOp.cmpi CmpIPredicate.eq (IntOp.addi (BitVec.ofNat 32 a.val) 0#32) (BitVec.ofNat 32 b.val) = if a = b then 1#1 else 0#1 := by
  decide

/-- The identity matrix as numbers. -/
theorem eye (a b : Fin 8) : FloatOps.uitofp (F := Ideal) FTy.f32 (IntOp.cmpi CmpIPredicate.eq (IntOp.addi (BitVec.ofNat 32 a.val) 0#32) (BitVec.ofNat 32 b.val)) = if a = b then (1 : EReal) else 0 := by
  rw [eye_word]
  split
  · show ((((1#1 : BitVec 1).toNat : ℝ) : EReal)) = 1
    simp
  · show ((((0#1 : BitVec 1).toNat : ℝ) : EReal)) = 0
    simp

/-- What the host has left in this operand of the kernel. -/
theorem entry31 (c : Dev nD) (b : Fin 4) (i : Fin 8) (k : Fin 512) (h : 5 ≤ i.val) :
    V m c main_v31 (ix3 b i k) = m ((c : Thread nD τ).loc main_arg2) (ix3 b ⟨i.val - 5, by omega⟩ k) := by
  simp only [V, hostOps0, hostOps0_1, hostOps0_2, hostOps0_3, hostOps0_4, List.flatten_cons, List.flatten_nil, List.append_nil,
    List.cons_append, List.nil_append]
  entry_read
  exact pad_front _ _ b i k h
/-- What the host has left in this operand of the kernel. -/
theorem entry32 (c : Dev nD) (b : Fin 4) (k : Fin 512) :
    V m c main_v32 (ix3 b 0 k) = m ((c : Thread nD τ).loc main_arg3) (ix2 b k) := by
  simp only [V, hostOps0, hostOps0_1, hostOps0_2, hostOps0_3, hostOps0_4, List.flatten_cons, List.flatten_nil, List.append_nil,
    List.cons_append, List.nil_append]
  entry_read
  pointwise
/-- What the host has left in this operand of the kernel. -/
theorem entry0 (c : Dev nD) (i : Fin 4) (k : Fin 512) :
    V m c main_v0 (ix2 ⟨i.val, by omega⟩ k) = m ((c : Thread nD τ).loc main_arg4) (ix2 i k) := by
  simp only [V, hostOps0, hostOps0_1, hostOps0_2, hostOps0_3, hostOps0_4, List.flatten_cons, List.flatten_nil, List.append_nil,
    List.cons_append, List.nil_append]
  entry_read
  exact pad_back _ _ i k
/-- What the host has left in this operand of the kernel. -/
theorem entry14 (c : Dev nD) (i : Fin 512) (k : Fin 512) :
    V m c main_v14 (ix2 i k) = if i.val / 64 = k.val / 64 then m ((c : Thread nD τ).loc main_arg6) (ix3 ⟨k.val / 64, by omega⟩ ⟨i.val % 64, by omega⟩ ⟨k.val % 64, by omega⟩) else (0 : EReal) := by
  simp only [V, hostOps0, hostOps0_1, hostOps0_2, hostOps0_3, hostOps0_4, List.flatten_cons, List.flatten_nil, List.append_nil,
    List.cons_append, List.nil_append]
  entry_read
  pointwise
  rw [eye ⟨i.val / 64, by omega⟩ ⟨k.val / 64, by omega⟩]
  simp only [Fin.mk.injEq]
  split
  · rename_i h
    simp only [h, mul_one]
  · simp only [mul_zero]
/-- What the host has left in this operand of the kernel. -/
theorem entry28 (c : Dev nD) (i : Fin 512) (k : Fin 512) :
    V m c main_v28 (ix2 i k) = if i.val / 64 = k.val / 64 then m ((c : Thread nD τ).loc main_arg8) (ix3 ⟨k.val / 64, by omega⟩ ⟨i.val % 64, by omega⟩ ⟨k.val % 64, by omega⟩) else (0 : EReal) := by
  simp only [V, hostOps0, hostOps0_1, hostOps0_2, hostOps0_3, hostOps0_4, List.flatten_cons, List.flatten_nil, List.append_nil,
    List.cons_append, List.nil_append]
  entry_read
  pointwise
  rw [eye ⟨i.val / 64, by omega⟩ ⟨k.val / 64, by omega⟩]
  simp only [Fin.mk.injEq]
  split
  · rename_i h
    simp only [h, mul_one]
  · simp only [mul_zero]
/-- What the host has left in this operand of the kernel. -/
theorem entry1 (c : Dev nD) (k : Fin 512) :
    V m c main_v1 (ix2 0 k) = m ((c : Thread nD τ).loc main_arg5) (ix1 k) := by
  simp only [V, hostOps0, hostOps0_1, hostOps0_2, hostOps0_3, hostOps0_4, List.flatten_cons, List.flatten_nil, List.append_nil,
    List.cons_append, List.nil_append]
  entry_read
  pointwise
/-- What the host has left in this operand of the kernel. -/
theorem entry15 (c : Dev nD) (k : Fin 512) :
    V m c main_v15 (ix2 0 k) = m ((c : Thread nD τ).loc main_arg7) (ix1 k) := by
  simp only [V, hostOps0, hostOps0_1, hostOps0_2, hostOps0_3, hostOps0_4, List.flatten_cons, List.flatten_nil, List.append_nil,
    List.cons_append, List.nil_append]
  entry_read
  pointwise
/-- What the host has left in this operand of the kernel. -/
theorem entry29 (c : Dev nD) (k : Fin 512) :
    V m c main_v29 (ix2 0 k) = m ((c : Thread nD τ).loc main_arg9) (ix1 k) := by
  simp only [V, hostOps0, hostOps0_1, hostOps0_2, hostOps0_3, hostOps0_4, List.flatten_cons, List.flatten_nil, List.append_nil,
    List.cons_append, List.nil_append]
  entry_read
  pointwise
/-- What the host has left in this operand of the kernel. -/
theorem entry30 (c : Dev nD) (k : Fin 512) :
    V m c main_v30 (ix2 0 k) = m ((c : Thread nD τ).loc main_arg10) (ix1 k) := by
  simp only [V, hostOps0, hostOps0_1, hostOps0_2, hostOps0_3, hostOps0_4, List.flatten_cons, List.flatten_nil, List.append_nil,
    List.cons_append, List.nil_append]
  entry_read
  pointwise

/-- What the kernel reads of operand 2 at a grid point. -/
theorem read2 (c : Dev nD) (t : Fin cfg0.N) (i : Fin 8) (k : Fin 512) (h : 5 ≤ i.val) :
    iblk m c 2 t (ix3 0 i k) = m ((c : Thread nD τ).loc main_arg2) (ix3 ⟨t.val / 16, by have := lt_N t; omega⟩ ⟨i.val - 5, by omega⟩ k) := by
  rw [← entry31 m c _ i k h]
  blk_ext [iblk, idx t]

/-- What the kernel reads of operand 3 at a grid point. -/
theorem read3 (c : Dev nD) (t : Fin cfg0.N) (i : Fin 256) (k : Fin 512) :
    iblk m c 3 t (ix3 0 i k) = m ((c : Thread nD τ).loc main_arg1) (ix3 ⟨t.val / 16, by have := lt_N t; omega⟩ ⟨256 * (t.val % 16) + i.val, by omega⟩ k) := by
  rw [← V_main_arg1 m c]
  blk_ext [iblk, idx t]

/-- What the kernel reads of operand 4 at a grid point. -/
theorem read4 (c : Dev nD) (t : Fin cfg0.N) (k : Fin 512) :
    iblk m c 4 t (ix3 0 0 k) = m ((c : Thread nD τ).loc main_arg3) (ix2 ⟨t.val / 16, by have := lt_N t; omega⟩ k) := by
  rw [← entry32 m c]
  blk_ext [iblk, idx t]

/-- What the kernel reads of operand 5 at a grid point. -/
theorem read5 (c : Dev nD) (t : Fin cfg0.N) (i : Fin 4) (k : Fin 512) :
    iblk m c 5 t (ix2 ⟨i.val, by omega⟩ k) = m ((c : Thread nD τ).loc main_arg4) (ix2 i k) := by
  rw [← entry0 m c]
  blk_ext [iblk, idx t]

/-- What the kernel reads of operand 6 at a grid point. -/
theorem read6 (c : Dev nD) (t : Fin cfg0.N) (k : Fin 512) :
    iblk m c 6 t (ix2 0 k) = m ((c : Thread nD τ).loc main_arg5) (ix1 k) := by
  rw [← entry1 m c]
  blk_ext [iblk, idx t]

/-- What the kernel reads of operand 8 at a grid point. -/
theorem read8 (c : Dev nD) (t : Fin cfg0.N) (k : Fin 512) :
    iblk m c 8 t (ix2 0 k) = m ((c : Thread nD τ).loc main_arg7) (ix1 k) := by
  rw [← entry15 m c]
  blk_ext [iblk, idx t]

/-- What the kernel reads of operand 10 at a grid point. -/
theorem read10 (c : Dev nD) (t : Fin cfg0.N) (k : Fin 512) :
    iblk m c 10 t (ix2 0 k) = m ((c : Thread nD τ).loc main_arg9) (ix1 k) := by
  rw [← entry29 m c]
  blk_ext [iblk, idx t]

/-- What the kernel reads of operand 11 at a grid point. -/
theorem read11 (c : Dev nD) (t : Fin cfg0.N) (k : Fin 512) :
    iblk m c 11 t (ix2 0 k) = m ((c : Thread nD τ).loc main_arg10) (ix1 k) := by
  rw [← entry30 m c]
  blk_ext [iblk, idx t]

/-- What the kernel reads of operand 7 at a grid point. -/
theorem read7 (c : Dev nD) (t : Fin cfg0.N) (i : Fin 512) (k : Fin 512) :
    iblk m c 7 t (ix2 i k) = if i.val / 64 = k.val / 64 then m ((c : Thread nD τ).loc main_arg6) (ix3 ⟨k.val / 64, by omega⟩ ⟨i.val % 64, by omega⟩ ⟨k.val % 64, by omega⟩) else (0 : EReal) := by
  rw [← entry14 m c]
  blk_ext [iblk, idx t]

/-- What the kernel reads of operand 9 at a grid point. -/
theorem read9 (c : Dev nD) (t : Fin cfg0.N) (i : Fin 512) (k : Fin 512) :
    iblk m c 9 t (ix2 i k) = if i.val / 64 = k.val / 64 then m ((c : Thread nD τ).loc main_arg8) (ix3 ⟨k.val / 64, by omega⟩ ⟨i.val % 64, by omega⟩ ⟨k.val % 64, by omega⟩) else (0 : EReal) := by
  rw [← entry28 m c]
  blk_ext [iblk, idx t]

end Cert.KernelIdeal.Tile
-- ==== Proof.RgGates.lean ====
module

public import proofs.«01_k».proof.Proof.RgPoint
public import proofs.«01_k».proof.Proof.RgBlocks

/-! The values a grid point of the recurrence kernel computes from its blocks: the convolved inputs, the two gates and the
    log decays of its 256 rows, each as the layer's own formula at the row's place in the sequence. -/

@[expose] public section

set_option maxRecDepth 16384

noncomputable section

namespace Cert.KernelIdeal.Tile

open Idealize.ShloMosaic Idealize.ShloMosaic.TcCoe Idealize.SL.Sem Cert.KernelIdeal Cert.KernelIdeal.Gen Cert.RgLru

/-- A row of the full product with a block-diagonal matrix is the row of its head's own product. -/
theorem sum_heads (X : Fin 512 → EReal) (W : Fin 8 → Fin 64 → Fin 64 → EReal) (c : Fin 512) :
    ∑ x : Fin 512, X x * (if x.val / 64 = c.val / 64 then W ⟨c.val / 64, by omega⟩ ⟨x.val % 64, by omega⟩ ⟨c.val % 64, by omega⟩ else (0 : EReal))
      = ∑ k : Fin 64, W ⟨c.val / 64, by omega⟩ k ⟨c.val % 64, by omega⟩ * X ⟨c.val / 64 * 64 + k.val, by omega⟩ := by
  rw [Fin.sum_univ_tiles 8 64 rfl, Finset.sum_eq_single (⟨c.val / 64, by omega⟩ : Fin 8)]
  · refine Finset.sum_congr rfl fun k _ => ?_
    have e : (c.val / 64 * 64 + k.val) / 64 = c.val / 64 := by omega
    have e' : (⟨(c.val / 64 * 64 + k.val) % 64, by omega⟩ : Fin 64) = k := Fin.ext (by show (c.val / 64 * 64 + k.val) % 64 = k.val; omega)
    simp only [e, if_true, e']
    exact mul_comm _ _
  · intro j _ hj
    refine Finset.sum_eq_zero fun k _ => ?_
    have e : ¬ (j.val * 64 + k.val) / 64 = c.val / 64 := by
      intro h
      exact hj (Fin.ext (by show j.val = c.val / 64; omega))
    simp only [e, if_false, mul_zero]
  · intro h
    exact absurd (Finset.mem_univ _) h

/-- The history block: the saved rows at the start of a sequence, else the last rows of the tile before. -/
theorem pay7_at (i : grid0.Coords) (x2 x1 : FVec Ideal S1x8x512 .f32) (r : Fin 8) (k : Fin 512) :
    k0_pay7 (F := Ideal) i x2 x1 (ix2 r k) = if (i 1).val = 0 then x2 (ix3 0 r k) else x1 (ix3 0 r k) := by
  pointwise [k0_pay7]
  have : ∀ j : Fin 16, IntOp.cmpi CmpIPredicate.eq (BitVec.ofNat 32 j.val) 0#32 = if j.val = 0 then 1#1 else 0#1 := by decide
  rw [show Scalar.cmpi CmpIPredicate.eq (BitVec.ofNat 32 (i 1).val) 0#32 = _ from this (i 1)]
  split
  · rfl
  · rfl

/-- The tile's own rows. -/
theorem pay8_at (x0 : FVec Ideal S1x256x512 .f32) (r : Fin 256) (k : Fin 512) : k0_pay8 (F := Ideal) x0 (ix2 r k) = x0 (ix3 0 r k) := by
  pointwise [k0_pay8]

/-- The convolution, from the four shifted reads. -/
theorem xcT_at (i : grid0.Coords) (x0 : FVec Ideal S1x256x512 .f32) (x1 x2 : FVec Ideal S1x8x512 .f32) (x5 : FVec Ideal S8x512 .f32)
    (x6 : FVec Ideal S1x512 .f32) (r : Fin 256) (k : Fin 512) :
    xcT i x0 x1 x2 x5 x6 (ix2 r k) = x6 (ix2 0 k) + x5 (ix2 0 k) * extRead (k0_pay8 x0) (k0_pay7 i x2 x1) 5 (ix2 r k)
      + x5 (ix2 1 k) * extRead (k0_pay8 x0) (k0_pay7 i x2 x1) 6 (ix2 r k) + x5 (ix2 2 k) * extRead (k0_pay8 x0) (k0_pay7 i x2 x1) 7 (ix2 r k)
      + x5 (ix2 3 k) * extRead (k0_pay8 x0) (k0_pay7 i x2 x1) 8 (ix2 r k) := by
  unfold xcT
  generalize extRead (k0_pay8 x0) (k0_pay7 i x2 x1) 5 = e5
  generalize extRead (k0_pay8 x0) (k0_pay7 i x2 x1) 6 = e6
  generalize extRead (k0_pay8 x0) (k0_pay7 i x2 x1) 7 = e7
  generalize extRead (k0_pay8 x0) (k0_pay7 i x2 x1) 8 = e8
  pointwise [k0_pay11, k0_pay9, k0_pay10, rowOf]

/-- The input gate, from the convolved row. -/
theorem inT_at (i : grid0.Coords) (x0 : FVec Ideal S1x256x512 .f32) (x1 x2 : FVec Ideal S1x8x512 .f32) (x5 : FVec Ideal S8x512 .f32)
    (x6 : FVec Ideal S1x512 .f32) (Wm : FVec Ideal S512x512 .bf16) (bm : FVec Ideal S1x512 .f32) (r : Fin 256) (k : Fin 512) :
    inT i x0 x1 x2 x5 x6 Wm bm (ix2 r k) = Ideal.logistic (∑ x : Fin 512, xcT i x0 x1 x2 x5 x6 (ix2 r x) * Wm (ix2 x k) + bm (ix2 0 k)) := by
  unfold inT xcT k0_pay13 k0_pay12
  generalize k0_pay11 (F := Ideal) _ _ _ _ _ _ _ = X
  pointwise

/-- The recurrence gate times -8, from the convolved row. -/
theorem reT_at (i : grid0.Coords) (x0 : FVec Ideal S1x256x512 .f32) (x1 x2 : FVec Ideal S1x8x512 .f32) (x5 : FVec Ideal S8x512 .f32)
    (x6 : FVec Ideal S1x512 .f32) (Wm : FVec Ideal S512x512 .bf16) (bm : FVec Ideal S1x512 .f32) (r : Fin 256) (k : Fin 512) :
    reT i x0 x1 x2 x5 x6 Wm bm (ix2 r k) = Ideal.ofBits .f32 0xC1000000#32
      * Ideal.logistic (∑ x : Fin 512, xcT i x0 x1 x2 x5 x6 (ix2 r x) * Wm (ix2 x k) + bm (ix2 0 k)) := by
  unfold reT xcT k0_pay14 k0_pay12
  generalize k0_pay11 (F := Ideal) _ _ _ _ _ _ _ = X
  pointwise

/-- The log decays, from the recurrence gate. -/
theorem log_at (v63 : FVec Ideal S256x512 .f32) (lam : FVec Ideal S1x512 .f32) (r : Fin 256) (k : Fin 512) :
    k0_pay17 v63 (k0_pay15 lam) k0_pay16 (ix2 r k) = v63 (ix2 r k) * softplus (-(lam (ix2 0 k))) := by
  pointwise [k0_pay17, k0_pay15, k0_pay16]
  unfold softplus
  show _ * (max ((0 : EReal) - lam (ix2 0 k)) 0 + Ideal.log1p (Ideal.exp ((0 : EReal) - max ((0 : EReal) - lam (ix2 0 k)) (-((0 : EReal) - lam (ix2 0 k)))))) = _
  simp only [zero_sub]

variable (m : (ℓ : Loc nD τ sig) → Buf (Elt Ideal) ℓ)

/-- The row of the grid that a point's second coordinate names. -/
theorem coord : ∀ t : Fin cfg0.N, (grid0.coords t 1).val = t.val % 16 := (by decide +kernel : ∀ t : Fin grid0.N, _)

/-- The convolved inputs of the sequence. -/
def cvS (c : Dev nD) : Fin 4 → Fin 4096 → Fin 512 → EReal :=
  conv (fun b n k => m ((c : Thread nD τ).loc main_arg0) (ix3 b n k)) (fun b n k => m ((c : Thread nD τ).loc main_arg2) (ix3 b n k))
    (fun w k => m ((c : Thread nD τ).loc main_arg4) (ix2 w k)) (fun k => m ((c : Thread nD τ).loc main_arg5) (ix1 k))

/-- The log decays of the sequence. -/
def laS (c : Dev nD) (b : Fin 4) (n : Fin 4096) (k : Fin 512) : EReal :=
  logDecay (gate (fun h i j => m ((c : Thread nD τ).loc main_arg6) (ix3 h i j)) (fun k => m ((c : Thread nD τ).loc main_arg7) (ix1 k)) (cvS m c b n) k)
    (m ((c : Thread nD τ).loc main_arg10) (ix1 k))

/-- The gated inputs of the sequence. -/
def inS (c : Dev nD) (b : Fin 4) (n : Fin 4096) (k : Fin 512) : EReal :=
  scaleOf (laS m c b n k)
    * (gate (fun h i j => m ((c : Thread nD τ).loc main_arg8) (ix3 h i j)) (fun k => m ((c : Thread nD τ).loc main_arg9) (ix1 k)) (cvS m c b n) k * cvS m c b n k)

/-- The sequence's batch entry and place of a row of a point's tile. -/
def bt (t : Fin cfg0.N) : Fin 4 := ⟨t.val / 16, by have := lt_N t; omega⟩
/-- The place in the sequence of a row of a point's tile. -/
def pl (t : Fin cfg0.N) (r : Fin 256) : Fin 4096 := ⟨256 * (t.val % 16) + r.val, by omega⟩

/-- The shifted reads of a tile are the sequence with its history in front. -/
theorem ext_tap (c : Dev nD) (t : Fin cfg0.N) (r : Fin 256) (k : Fin 512) (o : ℕ) (ho : o ≤ 3) :
    extRead (k0_pay8 (iblk m c 0 t)) (k0_pay7 (grid0.coords t) (iblk m c 2 t) (iblk m c 1 t)) (5 + o) (ix2 r k)
      = tap (fun b n k => m ((c : Thread nD τ).loc main_arg0) (ix3 b n k)) (fun b n k => m ((c : Thread nD τ).loc main_arg2) (ix3 b n k))
          (bt t) ((pl t r).val + o) k := by
  unfold extRead tap
  show (if h : r.val + (5 + o) < 8 then _ else _) = (if h : 256 * (t.val % 16) + r.val + o < 3 then _ else _)
  have ht := lt_N t
  by_cases h : r.val + (5 + o) < 8
  · rw [dif_pos h]
    refine (pay7_at _ _ _ _ _).trans ?_
    rw [coord]
    by_cases h0 : t.val % 16 = 0
    · rw [if_pos h0, dif_pos (by omega)]
      refine (read2 m c t ⟨r.val + (5 + o), h⟩ k (by show 5 ≤ r.val + (5 + o); omega)).trans ?_
      refine congrArg _ (congrArg (fun z => ix3 (bt t) z k) (Fin.ext ?_))
      show r.val + (5 + o) - 5 = 256 * (t.val % 16) + r.val + o
      omega
    · rw [if_neg h0, dif_neg (by omega)]
      refine (read1 m c t ⟨r.val + (5 + o), h⟩ k).trans ?_
      refine congrArg _ (congrArg (fun z => ix3 (bt t) z k) (Fin.ext ?_))
      show 8 * (32 * (t.val % 16) - 1) + (r.val + (5 + o)) = (256 * (t.val % 16) + r.val + o - 3) % 4096
      omega
  · rw [dif_neg h, dif_neg (by omega)]
    refine (pay8_at _ _ _).trans ((read0 m c t _ k).trans ?_)
    refine congrArg _ (congrArg (fun z => ix3 (bt t) z k) (Fin.ext ?_))
    show 256 * (t.val % 16) + (r.val + (5 + o) - 8) % 256 = (256 * (t.val % 16) + r.val + o - 3) % 4096
    omega

/-- The convolution's terms with the bias first. -/
theorem conv_sum {b b' w0 w1 w2 w3 w0' w1' w2' w3' t0 t1 t2 t3 t0' t1' t2' t3' : EReal} (hb : b = b') (h0 : w0 = w0') (h1 : w1 = w1')
    (h2 : w2 = w2') (h3 : w3 = w3') (e0 : t0 = t0') (e1 : t1 = t1') (e2 : t2 = t2') (e3 : t3 = t3') :
    b + w0 * t0 + w1 * t1 + w2 * t2 + w3 * t3 = w0' * t0' + w1' * t1' + w2' * t2' + w3' * t3' + b' := by
  subst hb h0 h1 h2 h3 e0 e1 e2 e3
  generalize w0 * t0 = p0
  generalize w1 * t1 = p1
  generalize w2 * t2 = p2
  generalize w3 * t3 = p3
  rw [add_assoc, add_assoc, add_assoc, add_comm b, ← add_assoc p0, ← add_assoc]

/-- The convolved inputs of a tile, at the row's place in the sequence. -/
theorem tile_conv (c : Dev nD) (t : Fin cfg0.N) (r : Fin 256) (k : Fin 512) :
    xcT (grid0.coords t) (iblk m c 0 t) (iblk m c 1 t) (iblk m c 2 t) (iblk m c 5 t) (iblk m c 6 t) (ix2 r k) = cvS m c (bt t) (pl t r) k := by
  have t0 := ext_tap m c t r k 0 (by omega)
  have t1 := ext_tap m c t r k 1 (by omega)
  have t2 := ext_tap m c t r k 2 (by omega)
  have t3 := ext_tap m c t r k 3 (by omega)
  refine (xcT_at _ _ _ _ _ _ r k).trans ?_
  exact conv_sum (read6 m c t k) (read5 m c t 0 k) (read5 m c t 1 k) (read5 m c t 2 k) (read5 m c t 3 k) t0 t1 t2 t3

/-- The input gates of a tile. -/
theorem tile_in (c : Dev nD) (t : Fin cfg0.N) (r : Fin 256) (k : Fin 512) :
    inT (grid0.coords t) (iblk m c 0 t) (iblk m c 1 t) (iblk m c 2 t) (iblk m c 5 t) (iblk m c 6 t) (iblk m c 9 t) (iblk m c 10 t) (ix2 r k)
      = gate (fun h i j => m ((c : Thread nD τ).loc main_arg8) (ix3 h i j)) (fun k => m ((c : Thread nD τ).loc main_arg9) (ix1 k)) (cvS m c (bt t) (pl t r)) k := by
  refine (inT_at _ _ _ _ _ _ _ _ r k).trans ?_
  unfold gate
  refine congrArg Ideal.logistic (congrArg₂ (· + ·) ?_ (read10 m c t k))
  refine Eq.trans ?_ (sum_heads (cvS m c (bt t) (pl t r)) (fun h i j => m ((c : Thread nD τ).loc main_arg8) (ix3 h i j)) k)
  exact Finset.sum_congr rfl fun x _ => congrArg₂ (· * ·) (tile_conv m c t r x) (read9 m c t x k)

/-- The log decays of a tile. -/
theorem tile_log (c : Dev nD) (t : Fin cfg0.N) (r : Fin 256) (k : Fin 512) :
    k0_pay17 (reT (grid0.coords t) (iblk m c 0 t) (iblk m c 1 t) (iblk m c 2 t) (iblk m c 5 t) (iblk m c 6 t) (iblk m c 7 t) (iblk m c 8 t))
      (k0_pay15 (iblk m c 11 t)) k0_pay16 (ix2 r k) = laS m c (bt t) (pl t r) k := by
  refine (log_at _ _ r k).trans ?_
  unfold laS logDecay gate
  refine congrArg₂ (· * ·) ((reT_at _ _ _ _ _ _ _ _ r k).trans ?_) (congrArg (fun z => softplus (-z)) (read11 m c t k))
  refine congrArg (_ * ·) (congrArg Ideal.logistic (congrArg₂ (· + ·) ?_ (read8 m c t k)))
  refine Eq.trans ?_ (sum_heads (cvS m c (bt t) (pl t r)) (fun h i j => m ((c : Thread nD τ).loc main_arg6) (ix3 h i j)) k)
  exact Finset.sum_congr rfl fun x _ => congrArg₂ (· * ·) (tile_conv m c t r x) (read7 m c t x k)

end Cert.KernelIdeal.Tile

end
-- ==== Proof.RgFold.lean ====
module

public import proofs.«01_k».proof.Proof.RgGates
public import proofs.«01_k».proof.Proof.Gen.KernelIdeal.Value

/-! What the recurrence kernel's result arrays hold after the run: the carried state at a grid point is the recurrence over
    the sequence up to the end of the point's tile, so each row of the first result is the recurrence's state there times
    its gate, and the second result is the last state. -/

@[expose] public section

set_option maxRecDepth 16384

noncomputable section

namespace Cert.KernelIdeal.Tile

open Idealize.ShloMosaic Idealize.ShloMosaic.TcCoe Idealize.SL.Sem Cert.KernelIdeal Cert.KernelIdeal.Gen Cert.RgLru
open Idealize.ShloMosaic.Pipeline (Dat)

variable (m : (ℓ : Loc nD τ sig) → Buf (Elt Ideal) ℓ)

/-- The decays of the sequence, counted by position. -/
def dec (c : Dev nD) (b : Fin 4) (k : Fin 512) (n : ℕ) : EReal := Ideal.exp (laS m c b ⟨n % 4096, Nat.mod_lt _ (by decide)⟩ k)
/-- The gated inputs of the sequence, counted by position. -/
def inp (c : Dev nD) (b : Fin 4) (k : Fin 512) (n : ℕ) : EReal := inS m c b ⟨n % 4096, Nat.mod_lt _ (by decide)⟩ k
/-- The state of a channel after `n` positions. -/
def stateAt (c : Dev nD) (b : Fin 4) (k : Fin 512) (n : ℕ) : EReal :=
  aff (dec m c b k) (inp m c b k) 0 n (m ((c : Thread nD τ).loc main_arg3) (ix2 b k))

/-- A point's tile carries the recurrence from its first position on. -/
theorem tH_at (c : Dev nD) (t : Fin cfg0.N) (h : FVec Ideal S8x512 .f32) (r : Fin 256) (k : Fin 512)
    (hh : h (ix2 0 k) = stateAt m c (bt t) k (256 * (t.val % 16))) :
    tH m c t h (ix2 r k) = stateAt m c (bt t) k (256 * (t.val % 16) + r.val + 1) := by
  have hp : ∀ i : Fin 256, (⟨(256 * (t.val % 16) + i.val) % 4096, Nat.mod_lt _ (by decide)⟩ : Fin 4096) = pl t i := fun i =>
    Fin.ext (by show (256 * (t.val % 16) + i.val) % 4096 = 256 * (t.val % 16) + i.val; omega)
  unfold tH
  refine (tileH_at _ _ _ _ _ _ k (fun n => laS m c (bt t) ⟨(256 * (t.val % 16) + n) % 4096, Nat.mod_lt _ (by decide)⟩ k)
    (fun n => inp m c (bt t) k (256 * (t.val % 16) + n)) ?_ ?_ ?_ r).trans ?_
  · intro i
    refine (tile_log m c t i k).trans ?_
    show _ = laS m c (bt t) _ k
    rw [hp]
  · intro i
    exact logDecay_nonpos (logistic_nonneg _) _
  · intro i
    show inS m c (bt t) _ k = scaleOf (laS m c (bt t) _ k) * _
    rw [hp, tile_in m c t i k, tile_conv m c t i k]
    rfl
  · refine (aff_shift (dec m c (bt t) k) (inp m c (bt t) k) (256 * (t.val % 16)) 0 (r.val + 1) _).trans ?_
    rw [show rowOf h 0 (ix2 0 k) = _ from hh]
    unfold stateAt
    rw [Nat.add_assoc, aff_add _ _ 0, Nat.zero_add, Nat.add_zero]

/-- The first result's row, as a tile stores it. -/
theorem yT_at (H : FVec Ideal S256x512 .f32) (g : FVec Ideal S1x256x512 .bf16) (r : Fin 256) (k : Fin 512) :
    yT H g (ix3 0 r k) = H (ix2 r k) * g (ix3 0 r k) := by
  pointwise [yT]

/-- The last state of a tile, as stored. -/
theorem lT_at (H : FVec Ideal S256x512 .f32) (k : Fin 512) : lT H (ix3 0 0 k) = H (ix2 255 k) := by
  pointwise [lT, lastT]

/-- The last state of a tile, as carried. -/
theorem sT_at (H : FVec Ideal S256x512 .f32) (r : Fin 8) (k : Fin 512) : sT H (ix2 r k) = H (ix2 255 k) := by
  pointwise [sT, lastT]

/-- The starting state, spread over the carried rows. -/
theorem pay6_at (x4 : FVec Ideal S1x1x512 .f32) (r : Fin 8) (k : Fin 512) : k0_pay6 (F := Ideal) x4 (ix2 r k) = x4 (ix3 0 0 k) := by
  pointwise [k0_pay6]

/-- The state the first point of a sequence starts from. -/
theorem start_A (c : Dev nD) (t : Fin cfg0.N) (h0 : t.val % 16 = 0) (k : Fin 512) :
    k0_pay6 (F := Ideal) (iblk m c 4 t) (ix2 0 k) = stateAt m c (bt t) k (256 * (t.val % 16)) := by
  rw [h0]
  exact (pay6_at _ 0 k).trans (read4 m c t k)

/-- The carried state after a point is the recurrence's state at the end of its tile. -/
theorem carried (c : Dev nD) : ∀ (n : ℕ) (hn : n < cfg0.N) (k : Fin 512),
    (outsAt0 m c n hn).2.2 (ix2 0 k) = stateAt m c (bt ⟨n, hn⟩) k (256 * (n % 16) + 256) := by
  intro n
  induction n with
  | zero =>
    intro hn k
    have e := s_A m c ⟨0, hn⟩ rfl
    refine (congrFun e (ix2 0 k)).trans ((sT_at _ 0 k).trans ?_)
    exact tH_at m c ⟨0, hn⟩ _ 255 k (start_A m c ⟨0, hn⟩ rfl k)
  | succ n ih =>
    intro hn k
    by_cases h0 : (n + 1) % 16 = 0
    · have e := s_A m c ⟨n + 1, hn⟩ h0
      refine (congrFun e (ix2 0 k)).trans ((sT_at _ 0 k).trans ?_)
      exact tH_at m c ⟨n + 1, hn⟩ _ 255 k (start_A m c ⟨n + 1, hn⟩ h0 k)
    · have e := s_B m c ⟨n + 1, hn⟩ h0
      refine (congrFun e (ix2 0 k)).trans ((sT_at _ 0 k).trans ?_)
      refine tH_at m c ⟨n + 1, hn⟩ _ 255 k ?_
      refine (ih (Nat.lt_of_succ_lt hn) k).trans ?_
      have hb : bt ⟨n, Nat.lt_of_succ_lt hn⟩ = bt ⟨n + 1, hn⟩ := Fin.ext (by show n / 16 = (n + 1) / 16; omega)
      rw [hb]
      refine congrArg _ ?_
      show 256 * (n % 16) + 256 = 256 * ((n + 1) % 16)
      omega

/-- The state a later point of a sequence starts from. -/
theorem start_B (c : Dev nD) (t : Fin cfg0.N) (h0 : ¬ t.val % 16 = 0) (k : Fin 512) :
    (outsAt0 m c (t.val - 1) (Nat.lt_of_le_of_lt (Nat.sub_le _ _) t.isLt)).2.2 (ix2 0 k) = stateAt m c (bt t) k (256 * (t.val % 16)) := by
  refine (carried m c _ _ k).trans ?_
  have hb : bt ⟨t.val - 1, Nat.lt_of_le_of_lt (Nat.sub_le _ _) t.isLt⟩ = bt t := Fin.ext (by show (t.val - 1) / 16 = t.val / 16; omega)
  rw [hb]
  refine congrArg _ ?_
  show 256 * ((t.val - 1) % 16) + 256 = 256 * (t.val % 16)
  omega

/-- What a point leaves of the first result. -/
theorem left_y (c : Dev nD) (t : Fin cfg0.N) (r : Fin 256) (k : Fin 512) :
    (outsAt0 m c t.val t.isLt).1 (ix3 0 r k)
      = stateAt m c (bt t) k (256 * (t.val % 16) + r.val + 1) * m ((c : Thread nD τ).loc main_arg1) (ix3 (bt t) (pl t r) k) := by
  by_cases h0 : t.val % 16 = 0
  · refine (congrFun (y_A m c t h0) (ix3 0 r k)).trans ((yT_at _ _ r k).trans ?_)
    exact congrArg₂ (· * ·) (tH_at m c t _ r k (start_A m c t h0 k)) (read3 m c t r k)
  · refine (congrFun (y_B m c t h0) (ix3 0 r k)).trans ((yT_at _ _ r k).trans ?_)
    exact congrArg₂ (· * ·) (tH_at m c t _ r k (start_B m c t h0 k)) (read3 m c t r k)

/-- What a point leaves of the second result. -/
theorem left_l (c : Dev nD) (t : Fin cfg0.N) (k : Fin 512) :
    (outsAt0 m c t.val t.isLt).2.1 (ix3 0 0 k) = stateAt m c (bt t) k (256 * (t.val % 16) + 255 + 1) := by
  by_cases h0 : t.val % 16 = 0
  · refine (congrFun (l_A m c t h0) (ix3 0 0 k)).trans ((lT_at _ k).trans ?_)
    exact tH_at m c t _ 255 k (start_A m c t h0 k)
  · refine (congrFun (l_B m c t h0) (ix3 0 0 k)).trans ((lT_at _ k).trans ?_)
    exact tH_at m c t _ 255 k (start_B m c t h0 k)

/-- The first result: every position's state times its gate. -/
def rowsK (c : Dev nD) : FVec Ideal S4x4096x512 .bf16 := fun i =>
  stateAt m c (i 0) (i 2) ((i 1).val + 1) * (m ((c : Thread nD τ).loc main_arg1) : FVec Ideal S4x4096x512 .bf16) i
/-- The second result: the state after the whole sequence. -/
def lastK (c : Dev nD) : FVec Ideal S4x1x512 .f32 := fun i => stateAt m c (i 0) (i 2) 4096

/-- The first result array after the run. -/
theorem final12 (c : Dev nD) : (dats m 0 c).arrAt 12 cfg0.N = rowsK m c := by
  refine (dats m 0 c).arrAt_eq_of_covers 12 (rowsK m c) (by decide +kernel) fun t hf y => ?_
  have ht := lt_N t
  blk_simp
  rw [after0_12]
  idx_vars y
  obtain rfl : y0 = 0 := Subsingleton.elim _ _
  have e : ((View.whole main_v33_0).slice (win0_12.rect t)).emb (ix3 0 y1 y2) = ix3 (bt t) (pl t y1) y2 := by
    unfold bt pl
    blk_ext [idx t]
  rw [e]
  exact left_y m c t y1 y2

/-- The second result array after the run. -/
theorem final13 (c : Dev nD) : (dats m 0 c).arrAt 13 cfg0.N = lastK m c := by
  refine (dats m 0 c).arrAt_eq_of_covers 13 (lastK m c) (by decide +kernel) fun t hf y => ?_
  have ht := lt_N t
  have h15 := (by decide +kernel : ∀ t : Fin grid0.N, win0_13.flush t = true → t.val % 16 = 15) t hf
  blk_simp
  rw [after0_13]
  idx_vars y
  obtain rfl : y0 = 0 := Subsingleton.elim _ _
  obtain rfl : y1 = 0 := Subsingleton.elim _ _
  have e : ((View.whole main_v33_1).slice (win0_13.rect t)).emb (ix3 0 0 y2) = ix3 (bt t) 0 y2 := by
    unfold bt
    blk_ext [idx t]
  rw [e]
  refine (left_l m c t y2).trans ?_
  rw [h15]
  rfl

end Cert.KernelIdeal.Tile

end
-- ==== Proof.RgLoop.lean ====
module

public import proofs.«01_k».proof.Proof.Gen.ReferenceIdeal.Run
public import proofs.«01_k».proof.Proof.Gen.ReferenceIdeal.Step
public import proofs.«01_k».proof.Proof.RgScan
public import Idealize.ShloMosaic.Lib.Pointwise

/-! The reference's loop: after `k` trips the carried row holds the recurrence run `k` positions, and the stacked rows
    below `k` hold every prefix's run. -/

@[expose] public section

set_option maxRecDepth 16384

noncomputable section

namespace Cert.ReferenceIdeal.Loop

open Idealize.ShloMosaic Idealize.ShloMosaic.TcCoe Idealize.SL.Sem Idealize.ShloMosaic.StableHlo
open Cert.ReferenceIdeal Cert.ReferenceIdeal.Gen Cert.ReferenceIdeal.Value
open Cert.RgLru

/-- One trip's row: the decay's row `n` times the carried row plus the input's row `n`. -/
def nextH (A U : FVec Ideal S4096x4x512 .f32) (n : IVec S_ 32) (h : FVec Ideal S4x512 .f32) : FVec Ideal S4x512 .f32 :=
  addf (mulf (shapeCast S4x512 (Host.dynamicSlice S1x4x512 A (fun k => (((![n, constantI S_ 32 0#32, constantI S_ 32 0#32] : Fin 3 → (⟨S_, .i32⟩ : BufTy).Contents (Elt Ideal))) k (Shape.Idx.first h_S_)).toInt) sliceFits_S4096x4x512_S1x4x512) shapeCasts_S1x4x512_S4x512) h)
    (shapeCast S4x512 (Host.dynamicSlice S1x4x512 U (fun k => (((![n, constantI S_ 32 0#32, constantI S_ 32 0#32] : Fin 3 → (⟨S_, .i32⟩ : BufTy).Contents (Elt Ideal))) k (Shape.Idx.first h_S_)).toInt) sliceFits_S4096x4x512_S1x4x512) shapeCasts_S1x4x512_S4x512)

/-- The stacked rows after a trip: row `n` replaced by the trip's row. -/
def nextHs (hs : FVec Ideal S4096x4x512 .f32) (n : IVec S_ 32) (h : FVec Ideal S4x512 .f32) : FVec Ideal S4096x4x512 .f32 :=
  Host.dynamicUpdateSlice hs (broadcastInDim S1x4x512 ![1, 2] bcast_S4x512_S1x4x512_1_2 h) (fun k => (((![n, constantI S_ 32 0#32, constantI S_ 32 0#32] : Fin 3 → (⟨S_, .i32⟩ : BufTy).Contents (Elt Ideal))) k (Shape.Idx.first h_S_)).toInt) updateFits_S4096x4x512_S1x4x512

theorem toInt_trip {j : ℕ} (hj : j < 4096) : (BitVec.ofNat 32 j).toInt = (j : ℤ) := by
  rw [BitVec.toInt_eq_toNat_of_lt (by simp; omega)]
  simp; omega

/-- A trip's row slice starts at row `j`, and at the first element of the other axes. -/
theorem start_row (j : Fin 4096) : Host.clampedStart S4096x4x512 S1x4x512 rfl (fun k => (((![constantI S_ 32 (BitVec.ofNat 32 j.val), constantI S_ 32 0#32, constantI S_ 32 0#32] : Fin 3 → (⟨S_, .i32⟩ : BufTy).Contents (Elt Ideal))) k (Shape.Idx.first h_S_)).toInt) 0 = j.val := by
  show (min (max ((BitVec.ofNat 32 j.val).toInt) 0) (4095 : Int)).toNat = j.val
  rw [toInt_trip j.isLt]
  omega
theorem start_one (n : IVec S_ 32) : Host.clampedStart S4096x4x512 S1x4x512 rfl (fun k => (((![n, constantI S_ 32 0#32, constantI S_ 32 0#32] : Fin 3 → (⟨S_, .i32⟩ : BufTy).Contents (Elt Ideal))) k (Shape.Idx.first h_S_)).toInt) 1 = 0 := by
  show (min (max ((0#32).toInt) 0) (0 : Int)).toNat = 0
  rfl
theorem start_two (n : IVec S_ 32) : Host.clampedStart S4096x4x512 S1x4x512 rfl (fun k => (((![n, constantI S_ 32 0#32, constantI S_ 32 0#32] : Fin 3 → (⟨S_, .i32⟩ : BufTy).Contents (Elt Ideal))) k (Shape.Idx.first h_S_)).toInt) 2 = 0 := by
  show (min (max ((0#32).toInt) 0) (0 : Int)).toNat = 0
  rfl

/-- One trip's row at an index. -/
theorem nextH_at (A U : FVec Ideal S4096x4x512 .f32) (h : FVec Ideal S4x512 .f32) (j : Fin 4096) (b : Fin 4) (c : Fin 512) :
    nextH A U (constantI S_ 32 (BitVec.ofNat 32 j.val)) h (ix2 b c) = A (ix3 j b c) * h (ix2 b c) + U (ix3 j b c) := by
  pointwise [nextH]
  simp only [start_row, start_one, start_two, Nat.zero_add, Fin.eta]

/-- The stacked rows after a trip at an index. -/
theorem nextHs_at (hs : FVec Ideal S4096x4x512 .f32) (h : FVec Ideal S4x512 .f32) (j : Fin 4096) (t : Fin 4096) (b : Fin 4) (c : Fin 512) :
    nextHs hs (constantI S_ 32 (BitVec.ofNat 32 j.val)) h (ix3 t b c) = if t = j then h (ix2 b c) else hs (ix3 t b c) := by
  pointwise [nextHs]
  simp only [start_row, start_one, start_two, Nat.zero_le, Nat.sub_zero, Fin.eta, and_true]
  by_cases e : t = j
  · subst e
    rw [if_pos rfl, dif_pos ⟨le_refl _, by omega⟩]
  · rw [if_neg e, dif_neg]
    rintro ⟨h1, h2⟩
    exact e (Fin.ext (by omega))

theorem step3_eq (V : Valuation τ sig (Elt Ideal)) : step_main_v74_3 V = nextH (V (Proc.devRef .tc main_v74_0)) (V (Proc.devRef .tc main_v74_1)) (V (Proc.devRef .tc main_v74_2)) (V (Proc.devRef .tc main_v74_3)) := by
  unfold step_main_v74_3 res_main_while0b_v83
  rfl

theorem step4_eq (V : Valuation τ sig (Elt Ideal)) : step_main_v74_4 V = nextHs (V (Proc.devRef .tc main_v74_4)) (V (Proc.devRef .tc main_v74_2)) (step_main_v74_3 V) := by
  unfold step_main_v74_4 step_main_v74_3
  rfl

/-- An array's column as a sequence over its first axis (zero beyond it). -/
def col (A : FVec Ideal S4096x4x512 .f32) (b : Fin 4) (c : Fin 512) (t : ℕ) : EReal :=
  if h : t < 4096 then A (ix3 ⟨t, h⟩ b c) else 0

theorem col_val (A : FVec Ideal S4096x4x512 .f32) (b : Fin 4) (c : Fin 512) (t : Fin 4096) : col A b c t.val = A (ix3 t b c) :=
  dif_pos t.isLt

/-- What the loop's buffers hold before trip `k`: the constants, the trip's number, the carried row the recurrence run
    `k` positions, every stacked row below `k` the run up to and with its own position. -/
structure Holds (V : Valuation τ sig (Elt Ideal)) (A U : FVec Ideal S4096x4x512 .f32) (h0 : FVec Ideal S4x512 .f32) (k : ℕ) : Prop where
  a : V (Proc.devRef .tc main_v74_0) = A
  u : V (Proc.devRef .tc main_v74_1) = U
  n : V (Proc.devRef .tc main_v74_2) = constantI S_ 32 (BitVec.ofNat 32 k)
  h : ∀ (b : Fin 4) (c : Fin 512), (V (Proc.devRef .tc main_v74_3) : FVec Ideal S4x512 .f32) (ix2 b c) = aff (col A b c) (col U b c) 0 k (h0 (ix2 b c))
  hs : ∀ (t : Fin 4096) (b : Fin 4) (c : Fin 512), t.val < k →
    (V (Proc.devRef .tc main_v74_4) : FVec Ideal S4096x4x512 .f32) (ix3 t b c) = aff (col A b c) (col U b c) 0 (t.val + 1) (h0 (ix2 b c))

/-- One trip keeps the statement, for the next trip's number. -/
theorem holds_step {V : Valuation τ sig (Elt Ideal)} {A U : FVec Ideal S4096x4x512 .f32} {h0 : FVec Ideal S4x512 .f32} {k : ℕ} (hk : k < 4096)
    (H : Holds V A U h0 k) : Holds (STEP V) A U h0 (k + 1) := by
  have e3 : ∀ (b : Fin 4) (c : Fin 512), (step_main_v74_3 V : FVec Ideal S4x512 .f32) (ix2 b c) = aff (col A b c) (col U b c) 0 (k + 1) (h0 (ix2 b c)) := by
    intro b c
    rw [step3_eq, H.a, H.u, H.n]
    refine (nextH_at A U _ ⟨k, hk⟩ b c).trans ?_
    rw [H.h b c]
    show _ = col A b c (0 + k) * _ + col U b c (0 + k)
    rw [Nat.zero_add, col_val A b c ⟨k, hk⟩, col_val U b c ⟨k, hk⟩]
  constructor
  · exact (STEP_main_v74_0 V).trans H.a
  · exact (STEP_main_v74_1 V).trans H.u
  · rw [STEP_main_v74_2]
    unfold step_main_v74_2
    rw [H.n]
    funext i
    show BitVec.ofNat 32 k + 1#32 = BitVec.ofNat 32 (k + 1)
    simp only [BitVec.ofNat_add]
  · intro b c
    rw [STEP_main_v74_3]
    exact e3 b c
  · intro t b c ht
    rw [STEP_main_v74_4, step4_eq, H.n]
    refine (nextHs_at _ _ ⟨k, hk⟩ t b c).trans ?_
    by_cases e : t = ⟨k, hk⟩
    · subst e
      rw [if_pos rfl]
      exact e3 b c
    · rw [if_neg e]
      exact H.hs t b c (by have : t.val ≠ k := fun h => e (Fin.ext h); omega)

/-- All the trips up to the array's length. -/
theorem holds_iter {V : Valuation τ sig (Elt Ideal)} {A U : FVec Ideal S4096x4x512 .f32} {h0 : FVec Ideal S4x512 .f32}
    (H : Holds V A U h0 0) : ∀ k, k ≤ 4096 → Holds (STEP^[k] V) A U h0 k
  | 0, _ => H
  | k + 1, hk => by
    rw [Function.iterate_succ_apply']
    exact holds_step hk (holds_iter H k (Nat.le_of_succ_le hk))

variable (m : (ℓ : Loc nD τ sig) → Buf (Elt Ideal) ℓ) (c : Dev nD)

/-- The decays, as the reference computes them before its loop. -/
abbrev decays : FVec Ideal S4096x4x512 .f32 :=
  Step.A_main_v71 (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
/-- The gated inputs, as the reference computes them before its loop. -/
abbrev inputs : FVec Ideal S4096x4x512 .f32 :=
  Step.A_main_v72 (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
/-- The state before the first row. -/
abbrev start : FVec Ideal S4x512 .f32 := m ((c.tc : Thread nD τ).loc main_arg3)

set_option maxRecDepth 65536 in
set_option maxHeartbeats 1000000 in
/-- Before the first trip the loop's buffers hold the decays, the gated inputs and the starting state. -/
theorem entry_holds : Holds (entryContents preI m c) (decays m c) (inputs m c) (start m c) 0 := by
  have e3 : entryContents preI m c (Proc.devRef .tc main_v74_3) = start m c := by
    simp only [entryContents, afterL_cons, afterL_nil]; after_reads_simp; rfl
  constructor
  · simp only [entryContents, afterL_cons, afterL_nil]; after_reads_simp; rfl
  · simp only [entryContents, afterL_cons, afterL_nil]; after_reads_simp; rfl
  · simp only [entryContents, afterL_cons, afterL_nil]; after_reads_simp; rfl
  · intro b c'
    rw [e3]; rfl
  · intro t b c' ht
    exact absurd ht (Nat.not_lt_zero _)

/-- After the loop. -/
theorem exit_holds : Holds (STEP^[4096] (entryContents preI m c)) (decays m c) (inputs m c) (start m c) 4096 :=
  holds_iter (entry_holds m c) 4096 (le_refl _)

/-- The loop's result row by row: every prefix's run times the gate, and the last state. -/
def outRows (A U : FVec Ideal S4096x4x512 .f32) (h0 : FVec Ideal S4x512 .f32) (g : FVec Ideal S4x4096x512 .bf16) : FVec Ideal S4x4096x512 .bf16 := fun i =>
  aff (col A (i 0) (i 2)) (col U (i 0) (i 2)) 0 ((i 1).val + 1) (h0 (ix2 (i 0) (i 2))) * g i
def outLast (A U : FVec Ideal S4096x4x512 .f32) (h0 : FVec Ideal S4x512 .f32) : FVec Ideal S4x1x512 .f32 := fun i =>
  aff (col A (i 0) (i 2)) (col U (i 0) (i 2)) 0 4096 (h0 (ix2 (i 0) (i 2)))

theorem rows_eq {V : Valuation τ sig (Elt Ideal)} {A U : FVec Ideal S4096x4x512 .f32} {h0 : FVec Ideal S4x512 .f32} (H : Holds V A U h0 4096) (g : FVec Ideal S4x4096x512 .bf16) :
    (truncf .bf16 (mulf (transpose S4x4096x512 [1, 0, 2] (V (Proc.devRef .tc main_v74_4) : FVec Ideal S4096x4x512 .f32) transposes_S4096x4x512_S4x4096x512_1_0_2) (extf .f32 g bitsLt_bf16_f32)) bitsLt_bf16_f32 : FVec Ideal S4x4096x512 .bf16) = outRows A U h0 g := by
  funext i
  idx_vars i
  have e := H.hs i1 i0 i2 i1.isLt
  generalize (V (Proc.devRef .tc main_v74_4) : FVec Ideal S4096x4x512 .f32) = X at e
  pointwise [outRows]
  rw [e]

theorem last_eq {V : Valuation τ sig (Elt Ideal)} {A U : FVec Ideal S4096x4x512 .f32} {h0 : FVec Ideal S4x512 .f32} (H : Holds V A U h0 4096) :
    (shapeCast S4x1x512 (V (Proc.devRef .tc main_v74_3) : FVec Ideal S4x512 .f32) shapeCasts_S4x512_S4x1x512 : FVec Ideal S4x1x512 .f32) = outLast A U h0 := by
  funext i
  idx_vars i
  have e := H.h i0 i2
  generalize (V (Proc.devRef .tc main_v74_3) : FVec Ideal S4x512 .f32) = X at e
  pointwise [outLast]
  rw [e]

variable (ρ : Dev nD → PrngReg)

/-- The reference's run: its two results from the decays, the gated inputs, the starting state and the gate; the
    arguments as they were. -/
theorem runR : θ_run (defs (F := Ideal)) (onTc (τ := τ) (main (F := Ideal))) ⟨m, fun _ => 0, ρ⟩ fun r => ∀ c : Dev nD,
    r.2.mem ((c.tc : Thread nD τ).loc main_v78) = outRows (decays m c) (inputs m c) (start m c) (m ((c.tc : Thread nD τ).loc main_arg1))
      ∧ r.2.mem ((c.tc : Thread nD τ).loc main_v79) = outLast (decays m c) (inputs m c) (start m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run _ _ _).mono (fun _ h c => ⟨(h c).1.trans ?_, (h c).2.1.trans ?_, (h c).2.2⟩) (Value.run (F := Ideal) m ρ)
  · unfold out_main_v78
    rw [iter_main_arg1 m c 4096]
    exact rows_eq (exit_holds m c) _
  · exact last_eq (exit_holds m c)

end Cert.ReferenceIdeal.Loop

end
-- ==== Proof.RgRef.lean ====
module

public import proofs.«01_k».proof.Proof.Gen.ReferenceIdeal.Step
public import proofs.«01_k».proof.Proof.RgSpec
public import Idealize.ShloMosaic.Lib.Pointwise

/-! What the reference computes before its loop: the decays and the gated inputs, index by index. -/

@[expose] public section

set_option maxRecDepth 16384

noncomputable section

namespace Cert.ReferenceIdeal.Before

open Idealize.ShloMosaic Cert.ReferenceIdeal Cert.ReferenceIdeal.Gen Cert.RgLru

variable (a0 : FVec Ideal S4x4096x512 .f32) (a2 : FVec Ideal S4x3x512 .f32) (a4 : FVec Ideal S4x512 .f32) (a5 : FVec Ideal S512 .f32)
  (a6 : FVec Ideal S8x64x64 .f32) (a7 : FVec Ideal S512 .f32) (a8 : FVec Ideal S8x64x64 .f32) (a9 a10 : FVec Ideal S512 .f32)

/-- The convolved row. -/
abbrev cv : Fin 4 → Fin 4096 → Fin 512 → EReal :=
  conv (fun b n c => a0 (ix3 b n c)) (fun b n c => a2 (ix3 b n c)) (fun k c => a4 (ix2 k c)) (fun c => a5 (ix1 c))

/-- The sequence behind its history, as the joined array reads. -/
theorem tap_at (b : Fin 4) (n : ℕ) (h : n < 4099) (c : Fin 512) :
    (if h : n < 3 then a2 (ix3 b ⟨n, h⟩ c) else a0 (ix3 b ⟨n - 3, by omega⟩ c)) = tap (fun b n c => a0 (ix3 b n c)) (fun b n c => a2 (ix3 b n c)) b n c := by
  unfold tap
  by_cases e : n < 3
  · rw [dif_pos e, dif_pos e]
  · rw [dif_neg e, dif_neg e]
    simp only [Nat.mod_eq_of_lt (show n - 3 < 4096 by omega)]

theorem conv_at (b : Fin 4) (n : Fin 4096) (c : Fin 512) :
    Step.A_main_v30 (F := Ideal) a0 a2 a4 a5 a6 a7 a8 a9 a10 (ix3 b n c) = cv a0 a2 a4 a5 b n c := by
  pointwise [Step.A_main_v0, Step.A_main_v1, Step.A_main_v2, Step.A_main_v3, Step.A_main_v4, Step.A_main_v5, Step.A_main_v6, Step.A_main_v7, Step.A_main_v8, Step.A_main_v9, Step.A_main_v10, Step.A_main_v11, Step.A_main_v12, Step.A_main_v13, Step.A_main_v14, Step.A_main_v15, Step.A_main_v16, Step.A_main_v17, Step.A_main_v18, Step.A_main_v19, Step.A_main_v20, Step.A_main_v21, Step.A_main_v22, Step.A_main_v23, Step.A_main_v24, Step.A_main_v25, Step.A_main_v26, Step.A_main_v27, Step.A_main_v28, Step.A_main_v29, Step.A_main_v30]
  have e0 := tap_at a0 a2 b n.val (by omega) c
  have e1 := tap_at a0 a2 b (1 + n.val) (by omega) c
  have e2 := tap_at a0 a2 b (2 + n.val) (by omega) c
  have e3 : a0 (ix3 b n c) = tap (fun b n c => a0 (ix3 b n c)) (fun b n c => a2 (ix3 b n c)) b (n.val + 3) c := by
    rw [← tap_at a0 a2 b (n.val + 3) (by omega) c, dif_neg (by omega)]
    rfl
  rw [e0, e1, e2, e3]
  unfold cv conv
  rw [Nat.add_comm 1 n.val, Nat.add_comm 2 n.val]

theorem gateA_at (b : Fin 4) (n : Fin 4096) (c : Fin 512) :
    Step.A_main_v43 (F := Ideal) a0 a2 a4 a5 a6 a7 a8 a9 a10 (ix3 b n c) = gate (fun h i j => a6 (ix3 h i j)) (fun c => a7 (ix1 c)) (cv a0 a2 a4 a5 b n) c := by
  have e := conv_at a0 a2 a4 a5 a6 a7 a8 a9 a10
  unfold Step.A_main_v43 Step.A_main_v41 Step.A_main_v39 Step.A_main_v38 Step.A_main_v37 Step.A_main_v36 Step.A_main_v35 Step.A_main_v34 Step.A_main_v33 Step.A_main_v32 Step.A_main_v31
  generalize Step.A_main_v30 (F := Ideal) a0 a2 a4 a5 a6 a7 a8 a9 a10 = X at e ⊢
  pointwise [Step.K_main_v42, Step.K_main_v40, Step.K_main_cst, Step.K_main_cst_0]
  simp only [e]
  rfl

theorem gateX_at (b : Fin 4) (n : Fin 4096) (c : Fin 512) :
    Step.A_main_v55 (F := Ideal) a0 a2 a4 a5 a6 a7 a8 a9 a10 (ix3 b n c) = gate (fun h i j => a8 (ix3 h i j)) (fun c => a9 (ix1 c)) (cv a0 a2 a4 a5 b n) c := by
  have e := conv_at a0 a2 a4 a5 a6 a7 a8 a9 a10
  unfold Step.A_main_v55 Step.A_main_v53 Step.A_main_v51 Step.A_main_v50 Step.A_main_v49 Step.A_main_v48 Step.A_main_v47 Step.A_main_v46 Step.A_main_v45 Step.A_main_v44 Step.A_main_v31
  generalize Step.A_main_v30 (F := Ideal) a0 a2 a4 a5 a6 a7 a8 a9 a10 = X at e ⊢
  pointwise [Step.K_main_v54, Step.K_main_v52, Step.K_main_cst_1, Step.K_main_cst_2]
  simp only [e]
  rfl

theorem la_at (b : Fin 4) (n : Fin 4096) (c : Fin 512) :
    Step.A_main_v62 (F := Ideal) a0 a2 a4 a5 a6 a7 a8 a9 a10 (ix3 b n c) = logDecay (gate (fun h i j => a6 (ix3 h i j)) (fun c => a7 (ix1 c)) (cv a0 a2 a4 a5 b n) c) (a10 (ix1 c)) := by
  have e := gateA_at a0 a2 a4 a5 a6 a7 a8 a9 a10
  unfold Step.A_main_v62 Step.A_main_v57
  generalize Step.A_main_v43 (F := Ideal) a0 a2 a4 a5 a6 a7 a8 a9 a10 = X at e ⊢
  pointwise [Step.A_main_v58, Step.A_main_v59, Step.A_main_v60, Step.A_main_v61, Step.K_main_v56, Step.K_main_cst_3, Step.A_main_call0_v1, Step.A_main_call0_v3, Step.A_main_call0_v4, Step.A_main_call0_v6, Step.A_main_call0_v7, Step.A_main_call0_v8, Step.A_main_call0_v9, Step.A_main_call0_v10, Step.A_main_call0_v11, Step.K_main_call0_v0, Step.K_main_call0_v2, Step.K_main_call0_v5, Step.K_main_call0_cst]
  rw [if_neg (fun h => h rfl), e]
  rfl

/-- The log decay of a place. -/
abbrev la : Fin 4 → Fin 4096 → Fin 512 → EReal := fun b n c =>
  logDecay (gate (fun h i j => a6 (ix3 h i j)) (fun c => a7 (ix1 c)) (cv a0 a2 a4 a5 b n) c) (a10 (ix1 c))

/-- The decays the loop multiplies by. -/
theorem decay_at (n : Fin 4096) (b : Fin 4) (c : Fin 512) :
    Step.A_main_v71 (F := Ideal) a0 a2 a4 a5 a6 a7 a8 a9 a10 (ix3 n b c) = Ideal.exp (la a0 a2 a4 a5 a6 a7 a10 b n c) := by
  have e := la_at a0 a2 a4 a5 a6 a7 a8 a9 a10
  unfold Step.A_main_v71 Step.A_main_v63
  generalize Step.A_main_v62 (F := Ideal) a0 a2 a4 a5 a6 a7 a8 a9 a10 = X at e ⊢
  pointwise
  rw [e]

/-- The gated inputs the loop adds. -/
theorem input_at (n : Fin 4096) (b : Fin 4) (c : Fin 512) :
    Step.A_main_v72 (F := Ideal) a0 a2 a4 a5 a6 a7 a8 a9 a10 (ix3 n b c) = scaleOf (la a0 a2 a4 a5 a6 a7 a10 b n c)
      * (gate (fun h i j => a8 (ix3 h i j)) (fun c => a9 (ix1 c)) (cv a0 a2 a4 a5 b n) c * cv a0 a2 a4 a5 b n c) := by
  have e := la_at a0 a2 a4 a5 a6 a7 a8 a9 a10
  have e1 := gateX_at a0 a2 a4 a5 a6 a7 a8 a9 a10
  have e2 := conv_at a0 a2 a4 a5 a6 a7 a8 a9 a10
  unfold Step.A_main_v72 Step.A_main_v70 Step.A_main_v69 Step.A_main_v68 Step.A_main_v67 Step.A_main_v66 Step.A_main_v65
  generalize Step.A_main_v62 (F := Ideal) a0 a2 a4 a5 a6 a7 a8 a9 a10 = X at e ⊢
  generalize Step.A_main_v55 (F := Ideal) a0 a2 a4 a5 a6 a7 a8 a9 a10 = Y at e1 ⊢
  generalize Step.A_main_v30 (F := Ideal) a0 a2 a4 a5 a6 a7 a8 a9 a10 = Z at e2 ⊢
  pointwise [Step.K_main_v64, Step.K_main_cst_4]
  rw [e, e1, e2]
  rfl

end Cert.ReferenceIdeal.Before

end
-- ==== Proof.MoIKit.lean ====
/- `Cert.Kernel2Ideal`'s one call up to its grid: the buffers as the call finds them, the three prefetched tables, the windows'
   blocks, and the words of the tables that the body branches on. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Mo

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the call -/

/-- What core `c`'s buffer `b` holds when the call starts: the launch memory after the two reshapes of the biases. -/
abbrev V (c : Dev nD) (b : Ref sig .tc) : Buf (Elt F) ((c : Thread nD τ).loc b) := StableHlo.after hostOps0 (fun b => m (c, b)) b

/-- The two reshapes allocate nothing. -/
theorem hostOps0_fresh : (hostOps0 : List (HloOp τ sig (Elt F))).Forall fun op => op.fresh = ∅ := by
  simp only [List.Forall]; repeat' constructor

set_option maxHeartbeats 800000 in
/-- @main is the two reshapes, then the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that neither reshape writes is at the call as it was at the launch. -/
theorem V_of_ne (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, Finset.mem_singleton]
    exact ⟨StableHlo.devRef_ne_of_ne h0, StableHlo.devRef_ne_of_ne h1⟩))

/-! ## The tables -/

/-- The three tables at the call. -/
def tbl : pre0.Contents (Elt F) := fun j => V m (0 : Dev nD) (pre0.ref j)
/-- Every core's (there is one). -/
theorem V_pre (c : Dev nD) (j : Fin 3) : V m c (pre0.ref j) = tbl m j := by
  obtain rfl : c = 0 := Subsingleton.elim _ _; rfl
/-- The blocks that the tables choose are inside their arrays. -/
abbrev Ok : Prop := ok0 (F := F) (tbl m)
/-- The tables as the pipeline takes them, and the pipeline at them. -/
abbrev adm (hO : Ok m) : (pcfg0 (F := F)).Adm := ⟨tbl m, hO⟩
/-- The pipeline with its tables filled in. -/
abbrev cfgM (hO : Ok m) : Pipeline.Cfg sig Λ₀ := cfg0 (adm m hO)

/-- The tables as the body is handed them. -/
abbrev tb0 : Memref sig .tc .smem S162 .i32 := Memref.whole main_arg0
/-- The first table, whole. -/
abbrev htb0 : tb0.IsWhole := Memref.isWhole_whole _
/-- The second table. -/
abbrev tb1 : Memref sig .tc .smem S162 .i32 := Memref.whole main_arg1
/-- The second table, whole. -/
abbrev htb1 : tb1.IsWhole := Memref.isWhole_whole _
/-- The third table. -/
abbrev tb2 : Memref sig .tc .smem S162 .i32 := Memref.whole main_arg2
/-- The third table, whole. -/
abbrev htb2 : tb2.IsWhole := Memref.isWhole_whole _

/-- A table's contents on core `c`, and the half of it that the body reads. -/
abbrev TbBuf (c : Dev nD) {S : Shape} {e : EltTy} (M : Memref sig .tc .smem S e) : Type := Buf (Elt F) (M.view.loc (c : Thread nD τ))
/-- A table held at its contents. -/
abbrev tbPt (c : Dev nD) {S : Shape} {e : EltTy} (M : Memref sig .tc .smem S e) (f : TbBuf (F := F) c M) : sProp 𝕄 :=
  M.view.loc (c : Thread nD τ) ↦{fullShare.right} f

/-- The tables' halves, one by one. -/
theorem PhiT_eq (c : Dev nD) : (Pipeline.ΦT pre0 (tbl m) c : sProp 𝕄) = iprop(tbPt c tb0 (tbl m 0) ∗ tbPt c tb1 (tbl m 1) ∗ tbPt c tb2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- A table's word at grid point `i`, as the body loads it. -/
abbrev word (i : grid0.Coords) (x : S162.Idx → BitVec 32) : BitVec 32 :=
  x ((Rect.unit (s := S162) (k0_off1 i) S1.size (k0_off1_inb i)).emb (Shape.Idx.first (numel1_S1.symm ▸ Nat.one_pos)))

/-- The body casts the expert's weights into its scratch. -/
abbrev isFirst (v : BitVec 32) : Prop := (Scalar.cmpi .ne (Scalar.extui (Scalar.cmpi .eq v 1#32)) 0#32) = 1#1

/-! ## The windows' blocks -/

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's staging buffer holds the point's block, for any data that leaves it there. -/
theorem before_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds the point's block, for any data that leaves it there. -/
theorem before_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds the point's block, for any data that leaves it there. -/
theorem before_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds the point's block, for any data that leaves it there. -/
theorem before_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds the point's block, for any data that leaves it there. -/
theorem before_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- From a run whose arrays are the call's: the eight arguments are at the end as at the launch. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (r : PUnit × MemSt nD τ sig (Elt F)) (h : Pipeline.FramePost (Pipeline.pin pcfgs fun _ => adm m hO) dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (by decide : main_arg0 ∈ Pipeline.restRefs sig spec0)).trans (V_of_ne m c main_arg0 (by decide) (by decide)),
      ((h c).2 main_arg1 (by decide : main_arg1 ∈ Pipeline.restRefs sig spec0)).trans (V_of_ne m c main_arg1 (by decide) (by decide)),
      ((h c).2 main_arg2 (by decide : main_arg2 ∈ Pipeline.restRefs sig spec0)).trans (V_of_ne m c main_arg2 (by decide) (by decide)),
      ((h c).1 0).trans (((dats 0 c).arrAt_in 0 rfl _).trans ((hA c 0).trans (V_of_ne m c main_arg3 (by decide) (by decide)))),
      ((h c).1 1).trans (((dats 0 c).arrAt_in 1 rfl _).trans ((hA c 1).trans (V_of_ne m c main_arg4 (by decide) (by decide)))),
      ((h c).2 main_arg5 (by decide : main_arg5 ∈ Pipeline.restRefs sig spec0)).trans (V_of_ne m c main_arg5 (by decide) (by decide)),
      ((h c).1 3).trans (((dats 0 c).arrAt_in 3 rfl _).trans ((hA c 3).trans (V_of_ne m c main_arg6 (by decide) (by decide)))),
      ((h c).2 main_arg7 (by decide : main_arg7 ∈ Pipeline.restRefs sig spec0)).trans (V_of_ne m c main_arg7 (by decide) (by decide))⟩

/-! ## The staging buffers -/

/-- Window 0's staging buffer at point `t`. -/
abbrev ms0 (hO : Ok m) (t : Fin (cfgM m hO).N) : Memref sig .tc .vmem S2x2x512x256 .bf16 := spec0_0.stage ((cfgM m hO).slots t 0)
/-- The window is a whole staging buffer. -/
abbrev hs0 (hO : Ok m) (t : Fin (cfgM m hO).N) : (ms0 m hO t).IsWhole := hstage0_0 (((cfgM m hO).slots t 0).cast nbuf0_0)
/-- Window 1's staging buffer at point `t`. -/
abbrev ms1 (hO : Ok m) (t : Fin (cfgM m hO).N) : Memref sig .tc .vmem S1x1x1024x2048 .f32 := spec0_1.stage ((cfgM m hO).slots t 1)
/-- The window is a whole staging buffer. -/
abbrev hs1 (hO : Ok m) (t : Fin (cfgM m hO).N) : (ms1 m hO t).IsWhole := hstage0_1 (((cfgM m hO).slots t 1).cast nbuf0_1)
/-- Window 2's staging buffer at point `t`. -/
abbrev ms2 (hO : Ok m) (t : Fin (cfgM m hO).N) : Memref sig .tc .vmem S1x1x2048 .f32 := spec0_2.stage ((cfgM m hO).slots t 2)
/-- The window is a whole staging buffer. -/
abbrev hs2 (hO : Ok m) (t : Fin (cfgM m hO).N) : (ms2 m hO t).IsWhole := hstage0_2 (((cfgM m hO).slots t 2).cast nbuf0_2)
/-- Window 3's staging buffer at point `t`. -/
abbrev ms3 (hO : Ok m) (t : Fin (cfgM m hO).N) : Memref sig .tc .vmem S1x1x1024x1024 .f32 := spec0_3.stage ((cfgM m hO).slots t 3)
/-- The window is a whole staging buffer. -/
abbrev hs3 (hO : Ok m) (t : Fin (cfgM m hO).N) : (ms3 m hO t).IsWhole := hstage0_3 (((cfgM m hO).slots t 3).cast nbuf0_3)
/-- Window 4's staging buffer at point `t`. -/
abbrev ms4 (hO : Ok m) (t : Fin (cfgM m hO).N) : Memref sig .tc .vmem S1x1x1024 .f32 := spec0_4.stage ((cfgM m hO).slots t 4)
/-- The window is a whole staging buffer. -/
abbrev hs4 (hO : Ok m) (t : Fin (cfgM m hO).N) : (ms4 m hO t).IsWhole := hstage0_4 (((cfgM m hO).slots t 4).cast nbuf0_4)
/-- Window 5's staging buffer at point `t`. -/
abbrev ms5 (hO : Ok m) (t : Fin (cfgM m hO).N) : Memref sig .tc .vmem S2x2x512x256 .bf16 := spec0_5.stage ((cfgM m hO).slots t 5)
/-- The window is a whole staging buffer. -/
abbrev hs5 (hO : Ok m) (t : Fin (cfgM m hO).N) : (ms5 m hO t).IsWhole := hstage0_5 (((cfgM m hO).slots t 5).cast nbuf0_5)

/-- The body's two scratch buffers. -/
abbrev sc0 : Memref sig .tc .vmem S1024x2048 .bf16 := Memref.whole cc0_scratch0
/-- The scratch of the down-projection weights. -/
abbrev sc1 : Memref sig .tc .vmem S1024x1024 .bf16 := Memref.whole cc0_scratch1

/-- What a core holds beside the windows: the scratch at some contents, and its generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The body at point `t`, on the buffers that it is called with there. -/
abbrev bodyAt (a : (pcfg0 (F := F)).Adm) (t : Fin (cfg0 a).N) : Prog (TpuEff nD τ sig (Elt F) Λ₀ .tc) PUnit :=
  cc0_moe_experts (grid0.coords t) tb0 htb0 tb1 htb1 tb2 htb2 (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) sc0 (Memref.isWhole_whole _) sc1 (Memref.isWhole_whole _)

end Cert.Kernel2Ideal.Mo

end
-- ==== Proof.MoIRunA.lean ====
/- One run of `Cert.Kernel2Ideal`'s body: the tile is its expert's first and has rows. -/
module

public import proofs.«01_k».proof.Proof.MoIKit

@[expose] public section

set_option maxRecDepth 16384

noncomputable section

namespace Cert.Kernel2Ideal.Mo

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body where the tile is its expert's first and has rows: what its stores leave, as pieces (last first), with the proof that it runs to them. -/
noncomputable def runA (c : Dev nD) (i : grid0.Coords) (arg4 : Memref sig .tc .vmem S2x2x512x256 .bf16) (harg4 : arg4.IsWhole) (arg5 : Memref sig .tc .vmem S1x1x1024x2048 .f32) (harg5 : arg5.IsWhole) (arg6 : Memref sig .tc .vmem S1x1x2048 .f32) (harg6 : arg6.IsWhole) (arg7 : Memref sig .tc .vmem S1x1x1024x1024 .f32) (harg7 : arg7.IsWhole) (arg8 : Memref sig .tc .vmem S1x1x1024 .f32) (harg8 : arg8.IsWhole) (arg9 : Memref sig .tc .vmem S2x2x512x256 .bf16) (harg9 : arg9.IsWhole) (arg10 : Memref sig .tc .vmem S1024x2048 .bf16) (harg10 : arg10.IsWhole) (arg11 : Memref sig .tc .vmem S1024x1024 .bf16) (harg11 : arg11.IsWhole)
    (x0 : Vec F S2x2x512x256 .bf16) (x1 : Vec F S1x1x1024x2048 .f32) (x2 : Vec F S1x1x2048 .f32) (x3 : Vec F S1x1x1024x1024 .f32) (x4 : Vec F S1x1x1024 .f32) (d0 : Vec F S1024x2048 .bf16) (d1 : Vec F S1024x1024 .bf16) (xt0 : TbBuf (F := F) c tb0) (xt1 : TbBuf (F := F) c tb1) (xt2 : TbBuf (F := F) c tb2) (hc1 : isFirst (tb1.view.readAt (Elt F) (Rect.unit (s := S162) (k0_off1 i) S1.size (k0_off1_inb i)).toLoadRect xt1 (Shape.Idx.first (numel1_S1.symm ▸ Nat.one_pos)))) (hc2 : k0_cond2 (tb2.view.readAt (Elt F) (Rect.unit (s := S162) (k0_off2 i) S1.size (k0_off2_inb i)).toLoadRect xt2 (Shape.Idx.first (numel1_S1.symm ▸ Nat.one_pos))) = 1#1) (hc3 : ¬k0_cond3 (tb2.view.readAt (Elt F) (Rect.unit (s := S162) (k0_off4 i) S1.size (k0_off4_inb i)).toLoadRect xt2 (Shape.Idx.first (numel1_S1.symm ▸ Nat.one_pos))) = 1#1) :
    Σ' (L5 : List (View.Piece (Elt F) S2x2x512x256 .bf16)), Σ' (LT0 : List (View.Piece (Elt F) S1024x2048 .bf16)), { LT1 : List (View.Piece (Elt F) S1024x1024 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare d0 ∗ owns (c : Thread nD τ) arg11 fullShare d1 ∗ tbPt c tb0 xt0 ∗ tbPt c tb1 xt1 ∗ tbPt c tb2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ (∃ f, arg10.view.loc (c : Thread nD τ) ↦[arg10.view.set]{fullShare} arg10.view.writes (Elt F) f LT0) ∗ (∃ f, arg11.view.loc (c : Thread nD τ) ↦[arg11.view.set]{fullShare} arg11.view.writes (Elt F) f LT1) ∗ tbPt c tb0 xt0 ∗ tbPt c tb1 xt1 ∗ tbPt c tb2 xt2) -∗ K ⟨⟩))
          ⊢ wp frame (wpE (defs₀ (F := F)) Variants.none c none) E (cc0_moe_experts i tb0 htb0 tb1 htb1 tb2 htb2 arg4 harg4 arg5 harg5 arg6 harg6 arg7 harg7 arg8 harg8 arg9 harg9 arg10 harg10 arg11 harg11) K } := by
  refine ⟨?_, ?_, ?_, fun E K => ?run⟩
  case run =>
    simp only [cc0_moe_experts_eq_skeleton]; unfold cc0_moe_experts_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, HT0, HT1, HT2, Hk⟩
    obtain rfl := harg4.eq_unread hf0; obtain rfl := harg5.eq_unread hf1; obtain rfl := harg6.eq_unread hf2; obtain rfl := harg7.eq_unread hf3; obtain rfl := harg8.eq_unread hf4
    obtain rfl := harg10.eq_unread hs0; obtain rfl := harg11.eq_unread hs1
    sl_exec (disch := first | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HS0]; · iexists _; iexact HS0
    isplitl [HS1]; · iexists _; iexact HS1
    isplitl [HT0]; · iexact HT0
    isplitl [HT1]; · iexact HT1
    iexact HT2

end Cert.Kernel2Ideal.Mo

end
-- ==== Proof.MoIRunB.lean ====
/- One run of `Cert.Kernel2Ideal`'s body: the tile is its expert's first and has no row. -/
module

public import proofs.«01_k».proof.Proof.MoIKit

@[expose] public section

set_option maxRecDepth 16384

noncomputable section

namespace Cert.Kernel2Ideal.Mo

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body where the tile is its expert's first and has no row: what its stores leave, as pieces (last first), with the proof that it runs to them. -/
noncomputable def runB (c : Dev nD) (i : grid0.Coords) (arg4 : Memref sig .tc .vmem S2x2x512x256 .bf16) (harg4 : arg4.IsWhole) (arg5 : Memref sig .tc .vmem S1x1x1024x2048 .f32) (harg5 : arg5.IsWhole) (arg6 : Memref sig .tc .vmem S1x1x2048 .f32) (harg6 : arg6.IsWhole) (arg7 : Memref sig .tc .vmem S1x1x1024x1024 .f32) (harg7 : arg7.IsWhole) (arg8 : Memref sig .tc .vmem S1x1x1024 .f32) (harg8 : arg8.IsWhole) (arg9 : Memref sig .tc .vmem S2x2x512x256 .bf16) (harg9 : arg9.IsWhole) (arg10 : Memref sig .tc .vmem S1024x2048 .bf16) (harg10 : arg10.IsWhole) (arg11 : Memref sig .tc .vmem S1024x1024 .bf16) (harg11 : arg11.IsWhole)
    (x0 : Vec F S2x2x512x256 .bf16) (x1 : Vec F S1x1x1024x2048 .f32) (x2 : Vec F S1x1x2048 .f32) (x3 : Vec F S1x1x1024x1024 .f32) (x4 : Vec F S1x1x1024 .f32) (d0 : Vec F S1024x2048 .bf16) (d1 : Vec F S1024x1024 .bf16) (xt0 : TbBuf (F := F) c tb0) (xt1 : TbBuf (F := F) c tb1) (xt2 : TbBuf (F := F) c tb2) (hc1 : isFirst (tb1.view.readAt (Elt F) (Rect.unit (s := S162) (k0_off1 i) S1.size (k0_off1_inb i)).toLoadRect xt1 (Shape.Idx.first (numel1_S1.symm ▸ Nat.one_pos)))) (hc2 : ¬k0_cond2 (tb2.view.readAt (Elt F) (Rect.unit (s := S162) (k0_off2 i) S1.size (k0_off2_inb i)).toLoadRect xt2 (Shape.Idx.first (numel1_S1.symm ▸ Nat.one_pos))) = 1#1) (hc3 : k0_cond3 (tb2.view.readAt (Elt F) (Rect.unit (s := S162) (k0_off4 i) S1.size (k0_off4_inb i)).toLoadRect xt2 (Shape.Idx.first (numel1_S1.symm ▸ Nat.one_pos))) = 1#1) :
    Σ' (L5 : List (View.Piece (Elt F) S2x2x512x256 .bf16)), Σ' (LT0 : List (View.Piece (Elt F) S1024x2048 .bf16)), { LT1 : List (View.Piece (Elt F) S1024x1024 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare d0 ∗ owns (c : Thread nD τ) arg11 fullShare d1 ∗ tbPt c tb0 xt0 ∗ tbPt c tb1 xt1 ∗ tbPt c tb2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ (∃ f, arg10.view.loc (c : Thread nD τ) ↦[arg10.view.set]{fullShare} arg10.view.writes (Elt F) f LT0) ∗ (∃ f, arg11.view.loc (c : Thread nD τ) ↦[arg11.view.set]{fullShare} arg11.view.writes (Elt F) f LT1) ∗ tbPt c tb0 xt0 ∗ tbPt c tb1 xt1 ∗ tbPt c tb2 xt2) -∗ K ⟨⟩))
          ⊢ wp frame (wpE (defs₀ (F := F)) Variants.none c none) E (cc0_moe_experts i tb0 htb0 tb1 htb1 tb2 htb2 arg4 harg4 arg5 harg5 arg6 harg6 arg7 harg7 arg8 harg8 arg9 harg9 arg10 harg10 arg11 harg11) K } := by
  refine ⟨?_, ?_, ?_, fun E K => ?run⟩
  case run =>
    simp only [cc0_moe_experts_eq_skeleton]; unfold cc0_moe_experts_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, HT0, HT1, HT2, Hk⟩
    obtain rfl := harg4.eq_unread hf0; obtain rfl := harg5.eq_unread hf1; obtain rfl := harg6.eq_unread hf2; obtain rfl := harg7.eq_unread hf3; obtain rfl := harg8.eq_unread hf4
    obtain rfl := harg10.eq_unread hs0; obtain rfl := harg11.eq_unread hs1
    sl_exec (disch := first | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HS0]; · iexists _; iexact HS0
    isplitl [HS1]; · iexists _; iexact HS1
    isplitl [HT0]; · iexact HT0
    isplitl [HT1]; · iexact HT1
    iexact HT2

end Cert.Kernel2Ideal.Mo

end
-- ==== Proof.MoIRunC.lean ====
/- One run of `Cert.Kernel2Ideal`'s body: the tile is not its expert's first and has rows. -/
module

public import proofs.«01_k».proof.Proof.MoIKit

@[expose] public section

set_option maxRecDepth 16384

noncomputable section

namespace Cert.Kernel2Ideal.Mo

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body where the tile is not its expert's first and has rows: what its stores leave, as pieces (last first), with the proof that it runs to them. -/
noncomputable def runC (c : Dev nD) (i : grid0.Coords) (arg4 : Memref sig .tc .vmem S2x2x512x256 .bf16) (harg4 : arg4.IsWhole) (arg5 : Memref sig .tc .vmem S1x1x1024x2048 .f32) (harg5 : arg5.IsWhole) (arg6 : Memref sig .tc .vmem S1x1x2048 .f32) (harg6 : arg6.IsWhole) (arg7 : Memref sig .tc .vmem S1x1x1024x1024 .f32) (harg7 : arg7.IsWhole) (arg8 : Memref sig .tc .vmem S1x1x1024 .f32) (harg8 : arg8.IsWhole) (arg9 : Memref sig .tc .vmem S2x2x512x256 .bf16) (harg9 : arg9.IsWhole) (arg10 : Memref sig .tc .vmem S1024x2048 .bf16) (harg10 : arg10.IsWhole) (arg11 : Memref sig .tc .vmem S1024x1024 .bf16) (harg11 : arg11.IsWhole)
    (x0 : Vec F S2x2x512x256 .bf16) (x1 : Vec F S1x1x1024x2048 .f32) (x2 : Vec F S1x1x2048 .f32) (x3 : Vec F S1x1x1024x1024 .f32) (x4 : Vec F S1x1x1024 .f32) (d0 : Vec F S1024x2048 .bf16) (d1 : Vec F S1024x1024 .bf16) (xt0 : TbBuf (F := F) c tb0) (xt1 : TbBuf (F := F) c tb1) (xt2 : TbBuf (F := F) c tb2) (hc1 : ¬isFirst (tb1.view.readAt (Elt F) (Rect.unit (s := S162) (k0_off1 i) S1.size (k0_off1_inb i)).toLoadRect xt1 (Shape.Idx.first (numel1_S1.symm ▸ Nat.one_pos)))) (hc2 : k0_cond2 (tb2.view.readAt (Elt F) (Rect.unit (s := S162) (k0_off2 i) S1.size (k0_off2_inb i)).toLoadRect xt2 (Shape.Idx.first (numel1_S1.symm ▸ Nat.one_pos))) = 1#1) (hc3 : ¬k0_cond3 (tb2.view.readAt (Elt F) (Rect.unit (s := S162) (k0_off4 i) S1.size (k0_off4_inb i)).toLoadRect xt2 (Shape.Idx.first (numel1_S1.symm ▸ Nat.one_pos))) = 1#1) :
    Σ' (L5 : List (View.Piece (Elt F) S2x2x512x256 .bf16)), Σ' (LT0 : List (View.Piece (Elt F) S1024x2048 .bf16)), { LT1 : List (View.Piece (Elt F) S1024x1024 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare d0 ∗ owns (c : Thread nD τ) arg11 fullShare d1 ∗ tbPt c tb0 xt0 ∗ tbPt c tb1 xt1 ∗ tbPt c tb2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ owns (c : Thread nD τ) arg10 fullShare d0 ∗ owns (c : Thread nD τ) arg11 fullShare d1 ∗ tbPt c tb0 xt0 ∗ tbPt c tb1 xt1 ∗ tbPt c tb2 xt2) -∗ K ⟨⟩))
          ⊢ wp frame (wpE (defs₀ (F := F)) Variants.none c none) E (cc0_moe_experts i tb0 htb0 tb1 htb1 tb2 htb2 arg4 harg4 arg5 harg5 arg6 harg6 arg7 harg7 arg8 harg8 arg9 harg9 arg10 harg10 arg11 harg11) K } := by
  refine ⟨?_, [], [], fun E K => ?run⟩
  case run =>
    simp only [cc0_moe_experts_eq_skeleton]; unfold cc0_moe_experts_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, HT0, HT1, HT2, Hk⟩
    obtain rfl := harg4.eq_unread hf0; obtain rfl := harg5.eq_unread hf1; obtain rfl := harg6.eq_unread hf2; obtain rfl := harg7.eq_unread hf3; obtain rfl := harg8.eq_unread hf4
    obtain rfl := harg10.eq_unread hs0; obtain rfl := harg11.eq_unread hs1
    sl_exec (disch := first | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HS0]
    · iexists _; isplitr; · ipureintro; exact harg10.read_unread _
      iexact HS0
    isplitl [HS1]
    · iexists _; isplitr; · ipureintro; exact harg11.read_unread _
      iexact HS1
    isplitl [HT0]; · iexact HT0
    isplitl [HT1]; · iexact HT1
    iexact HT2

end Cert.Kernel2Ideal.Mo

end
-- ==== Proof.MoIRunD.lean ====
/- One run of `Cert.Kernel2Ideal`'s body: the tile is not its expert's first and has no row. -/
module

public import proofs.«01_k».proof.Proof.MoIKit

@[expose] public section

set_option maxRecDepth 16384

noncomputable section

namespace Cert.Kernel2Ideal.Mo

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body where the tile is not its expert's first and has no row: what its stores leave, as pieces (last first), with the proof that it runs to them. -/
noncomputable def runD (c : Dev nD) (i : grid0.Coords) (arg4 : Memref sig .tc .vmem S2x2x512x256 .bf16) (harg4 : arg4.IsWhole) (arg5 : Memref sig .tc .vmem S1x1x1024x2048 .f32) (harg5 : arg5.IsWhole) (arg6 : Memref sig .tc .vmem S1x1x2048 .f32) (harg6 : arg6.IsWhole) (arg7 : Memref sig .tc .vmem S1x1x1024x1024 .f32) (harg7 : arg7.IsWhole) (arg8 : Memref sig .tc .vmem S1x1x1024 .f32) (harg8 : arg8.IsWhole) (arg9 : Memref sig .tc .vmem S2x2x512x256 .bf16) (harg9 : arg9.IsWhole) (arg10 : Memref sig .tc .vmem S1024x2048 .bf16) (harg10 : arg10.IsWhole) (arg11 : Memref sig .tc .vmem S1024x1024 .bf16) (harg11 : arg11.IsWhole)
    (x0 : Vec F S2x2x512x256 .bf16) (x1 : Vec F S1x1x1024x2048 .f32) (x2 : Vec F S1x1x2048 .f32) (x3 : Vec F S1x1x1024x1024 .f32) (x4 : Vec F S1x1x1024 .f32) (d0 : Vec F S1024x2048 .bf16) (d1 : Vec F S1024x1024 .bf16) (xt0 : TbBuf (F := F) c tb0) (xt1 : TbBuf (F := F) c tb1) (xt2 : TbBuf (F := F) c tb2) (hc1 : ¬isFirst (tb1.view.readAt (Elt F) (Rect.unit (s := S162) (k0_off1 i) S1.size (k0_off1_inb i)).toLoadRect xt1 (Shape.Idx.first (numel1_S1.symm ▸ Nat.one_pos)))) (hc2 : ¬k0_cond2 (tb2.view.readAt (Elt F) (Rect.unit (s := S162) (k0_off2 i) S1.size (k0_off2_inb i)).toLoadRect xt2 (Shape.Idx.first (numel1_S1.symm ▸ Nat.one_pos))) = 1#1) (hc3 : k0_cond3 (tb2.view.readAt (Elt F) (Rect.unit (s := S162) (k0_off4 i) S1.size (k0_off4_inb i)).toLoadRect xt2 (Shape.Idx.first (numel1_S1.symm ▸ Nat.one_pos))) = 1#1) :
    Σ' (L5 : List (View.Piece (Elt F) S2x2x512x256 .bf16)), Σ' (LT0 : List (View.Piece (Elt F) S1024x2048 .bf16)), { LT1 : List (View.Piece (Elt F) S1024x1024 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare d0 ∗ owns (c : Thread nD τ) arg11 fullShare d1 ∗ tbPt c tb0 xt0 ∗ tbPt c tb1 xt1 ∗ tbPt c tb2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ owns (c : Thread nD τ) arg10 fullShare d0 ∗ owns (c : Thread nD τ) arg11 fullShare d1 ∗ tbPt c tb0 xt0 ∗ tbPt c tb1 xt1 ∗ tbPt c tb2 xt2) -∗ K ⟨⟩))
          ⊢ wp frame (wpE (defs₀ (F := F)) Variants.none c none) E (cc0_moe_experts i tb0 htb0 tb1 htb1 tb2 htb2 arg4 harg4 arg5 harg5 arg6 harg6 arg7 harg7 arg8 harg8 arg9 harg9 arg10 harg10 arg11 harg11) K } := by
  refine ⟨?_, [], [], fun E K => ?run⟩
  case run =>
    simp only [cc0_moe_experts_eq_skeleton]; unfold cc0_moe_experts_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, HT0, HT1, HT2, Hk⟩
    obtain rfl := harg4.eq_unread hf0; obtain rfl := harg5.eq_unread hf1; obtain rfl := harg6.eq_unread hf2; obtain rfl := harg7.eq_unread hf3; obtain rfl := harg8.eq_unread hf4
    obtain rfl := harg10.eq_unread hs0; obtain rfl := harg11.eq_unread hs1
    sl_exec (disch := first | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HS0]
    · iexists _; isplitr; · ipureintro; exact harg10.read_unread _
      iexact HS0
    isplitl [HS1]
    · iexists _; isplitr; · ipureintro; exact harg11.read_unread _
      iexact HS1
    isplitl [HT0]; · iexact HT0
    isplitl [HT1]; · iexact HT1
    iexact HT2

end Cert.Kernel2Ideal.Mo

end
-- ==== Proof.MoISpec.lean ====
/- What one grid point of `Cert.Kernel2Ideal`'s call leaves: the tile's result as a function of the blocks and of the scratch, and
   each run's pieces read as that function. -/
module

public import proofs.«01_k».proof.Proof.MoIRunA
public import proofs.«01_k».proof.Proof.MoIRunB
public import proofs.«01_k».proof.Proof.MoIRunC
public import proofs.«01_k».proof.Proof.MoIRunD
public import Idealize.ShloMosaic.Lib.Pipeline.ValueKit.Basic
public import Idealize.ShloMosaic.Lib.Pipeline.ValueKit.Tiles
public import Idealize.ShloMosaic.Lib.WholeRead

@[expose] public section

set_option maxRecDepth 16384

noncomputable section

namespace Cert.Kernel2Ideal.Mo

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The tile -/

/-- The sum over the first three quarters of a tile's columns that the body carries into its second half. -/
def gu3 (w : BitVec 32) (x0 : Vec F S2x2x512x256 .bf16) (x2 : Vec F S1x1x2048 .f32) (d0 : Vec F S1024x2048 .bf16) : FVec F S512x2048 .f32 :=
  k0_pay9 w x2 (View.ld x0 (Rect.unit ![0, 0, 0, 0] S1x1x512x256.size inb_S2x2x512x256_S1x1x512x256_0_0_0_0))
    (View.ld x0 (Rect.unit ![0, 1, 0, 0] S1x1x512x256.size inb_S2x2x512x256_S1x1x512x256_0_1_0_0))
    (View.ld d0 (Rect.unit ![0, 0] S256x2048.size inb_S1024x2048_S256x2048_0_0))
    (View.ld d0 (Rect.unit ![512, 0] S256x2048.size inb_S1024x2048_S256x2048_512_0))

/-- A tile's rows after the expert's network: the tile's blocks, its count of rows `w`, and the expert's weights as the
    scratch holds them. -/
def rows (w : BitVec 32) (x0 : Vec F S2x2x512x256 .bf16) (x2 : Vec F S1x1x2048 .f32) (x4 : Vec F S1x1x1024 .f32)
    (d0 : Vec F S1024x2048 .bf16) (d1 : Vec F S1024x1024 .bf16) : FVec F S512x1024 .f32 :=
  k0_pay11 (k0_pay8 (F := F) w) (gu3 w x0 x2 d0)
    (k0_pay10 w (View.ld x0 (Rect.unit ![1, 0, 0, 0] S1x1x512x256.size inb_S2x2x512x256_S1x1x512x256_1_0_0_0)))
    (View.ld x0 (Rect.unit ![1, 1, 0, 0] S1x1x512x256.size inb_S2x2x512x256_S1x1x512x256_1_1_0_0))
    (View.ld d0 (Rect.unit ![256, 0] S256x2048.size inb_S1024x2048_S256x2048_256_0))
    (View.ld d0 (Rect.unit ![768, 0] S256x2048.size inb_S1024x2048_S256x2048_768_0)) d1 x4

/-- The four stores of a tile's rows, last first: the rows' four quarters of columns, cast. -/
def pieces (Y : FVec F S512x1024 .f32) : List (View.Piece (Elt F) S2x2x512x256 .bf16) :=
  [⟨Rect.unit ![1, 1, 0, 0] ![1, 1, 512, 256] inb_S2x2x512x256_S1x1x512x256_1_1_0_0, k0_pay6 Y⟩,
   ⟨Rect.unit ![1, 0, 0, 0] ![1, 1, 512, 256] inb_S2x2x512x256_S1x1x512x256_1_0_0_0, k0_pay5 Y⟩,
   ⟨Rect.unit ![0, 1, 0, 0] ![1, 1, 512, 256] inb_S2x2x512x256_S1x1x512x256_0_1_0_0, k0_pay4 Y⟩,
   ⟨Rect.unit ![0, 0, 0, 0] ![1, 1, 512, 256] inb_S2x2x512x256_S1x1x512x256_0_0_0_0,
      k0_pay3 (truncf .bf16 (extractStridedSlice S512x256 ![0, 0] Y slices_S512x1024_o0_0_S512x256) bitsLt_bf16_f32)⟩]

/-- The tile's block of the result. -/
def busy (Y : FVec F S512x1024 .f32) : Vec F S2x2x512x256 .bf16 := View.canon (Val := Elt F) (pieces Y)

/-- The four stores fill the block. -/
theorem pieces_cover (Y : FVec F S512x1024 .f32) (y : S2x2x512x256.Idx) : ∃ p ∈ pieces Y, y ∈ p.1.set :=
  View.cover_of_tiledBy (pieces Y) ![1, 1, 512, 256] (by sl_kernel_rfl) y

/-! ## Reads -/

/-- A load of a buffer that holds `X` reads `X` there. -/
theorem readAt_ld {S : Shape} {e : EltTy} {sp : Space} {a : Memref sig .tc sp S e} (h : a.IsWhole) (X : S.Idx → Elt F e) (r : Rect S) :
    View.readAt (Elt F) a.view r.toLoadRect (h.unread X) = View.ld X r :=
  funext fun x => h.readAt_unread X r.toLoadRect x

/-- A load of what one store of a whole buffer left reads the stored value there. -/
theorem readCov_sc0 (v : View sig .tc .vmem S1024x2048 .bf16) (w : Vec F S1024x2048 .bf16) (r : Rect S1024x2048) :
    v.readCov [(⟨Rect.unit ![0, 0] ![1024, 2048] inb_S1024x2048_S1024x2048_0_0, w⟩ : View.Piece (Elt F) S1024x2048 .bf16)] r.toLoadRect = View.ld w r := by
  rw [View.readCov_eq_canon']
  exact congrArg (fun X => View.ld X r) (View.canon_cons_unit_lit (S := S1024x2048) inb_S1024x2048_S1024x2048_0_0 w [] (by decide))
/-- A read of the whole-covered second scratch gives what was stored. -/
theorem readCov_sc1 (v : View sig .tc .vmem S1024x1024 .bf16) (w : Vec F S1024x1024 .bf16) (r : Rect S1024x1024) :
    v.readCov [(⟨Rect.unit ![0, 0] ![1024, 1024] inb_S1024x1024_S1024x1024_0_0, w⟩ : View.Piece (Elt F) S1024x1024 .bf16)] r.toLoadRect = View.ld w r := by
  rw [View.readCov_eq_canon']
  exact congrArg (fun X => View.ld X r) (View.canon_cons_unit_lit (S := S1024x1024) inb_S1024x1024_S1024x1024_0_0 w [] (by decide))

/-- A load of the whole of a buffer reads what it holds. -/
theorem ld_x1 (X : Vec F S1x1x1024x2048 .f32) : View.ld X (Rect.unit ![0, 0, 0, 0] ![1, 1, 1024, 2048] inb_S1x1x1024x2048_S1x1x1024x2048_0_0_0_0) = X :=
  View.ld_unit_lit (S := S1x1x1024x2048) inb_S1x1x1024x2048_S1x1x1024x2048_0_0_0_0 X (by decide)
/-- A load of a whole window gives its contents. -/
theorem ld_x2 (X : Vec F S1x1x2048 .f32) : View.ld X (Rect.unit ![0, 0, 0] ![1, 1, 2048] inb_S1x1x2048_S1x1x2048_0_0_0) = X :=
  View.ld_unit_lit (S := S1x1x2048) inb_S1x1x2048_S1x1x2048_0_0_0 X (by decide)
/-- A load of a whole window gives its contents. -/
theorem ld_x3 (X : Vec F S1x1x1024x1024 .f32) : View.ld X (Rect.unit ![0, 0, 0, 0] ![1, 1, 1024, 1024] inb_S1x1x1024x1024_S1x1x1024x1024_0_0_0_0) = X :=
  View.ld_unit_lit (S := S1x1x1024x1024) inb_S1x1x1024x1024_S1x1x1024x1024_0_0_0_0 X (by decide)
/-- A load of a whole window gives its contents. -/
theorem ld_x4 (X : Vec F S1x1x1024 .f32) : View.ld X (Rect.unit ![0, 0, 0] ![1, 1, 1024] inb_S1x1x1024_S1x1x1024_0_0_0) = X :=
  View.ld_unit_lit (S := S1x1x1024) inb_S1x1x1024_S1x1x1024_0_0_0 X (by decide)
/-- A load of the whole scratch gives its contents. -/
theorem ld_d1 (X : Vec F S1024x1024 .bf16) : View.ld X (Rect.unit ![0, 0] ![1024, 1024] inb_S1024x1024_S1024x1024_0_0) = X :=
  View.ld_unit_lit (S := S1024x1024) inb_S1024x1024_S1024x1024_0_0 X (by decide)

/-- One store of the whole of a buffer fills it. -/
theorem full_cover0 (w : Vec F S1024x2048 .bf16) (y : S1024x2048.Idx) :
    ∃ p ∈ [(⟨Rect.unit ![0, 0] ![1024, 2048] inb_S1024x2048_S1024x2048_0_0, w⟩ : View.Piece (Elt F) S1024x2048 .bf16)], y ∈ p.1.set :=
  View.cover_of_tiledBy _ ![1024, 2048] (by sl_kernel_rfl) y
/-- One whole store covers the second scratch. -/
theorem full_cover1 (w : Vec F S1024x1024 .bf16) (y : S1024x1024.Idx) :
    ∃ p ∈ [(⟨Rect.unit ![0, 0] ![1024, 1024] inb_S1024x1024_S1024x1024_0_0, w⟩ : View.Piece (Elt F) S1024x1024 .bf16)], y ∈ p.1.set :=
  View.cover_of_tiledBy _ ![1024, 1024] (by sl_kernel_rfl) y
/-- One whole store covers the result's window. -/
theorem full_cover5 (w : Vec F S2x2x512x256 .bf16) (y : S2x2x512x256.Idx) :
    ∃ p ∈ [(⟨Rect.unit ![0, 0, 0, 0] ![2, 2, 512, 256] inb_S2x2x512x256_S2x2x512x256_0_0_0_0, w⟩ : View.Piece (Elt F) S2x2x512x256 .bf16)], y ∈ p.1.set :=
  View.cover_of_tiledBy _ ![2, 2, 512, 256] (by sl_kernel_rfl) y

/-- What a buffer of any view reads after them. -/
theorem full_read0 (v : View sig .tc .vmem S1024x2048 .bf16) (f : v.ty.Contents (Elt F)) (w : Vec F S1024x2048 .bf16) :
    v.read (Elt F) (v.writes (Elt F) f [⟨Rect.unit ![0, 0] ![1024, 2048] inb_S1024x2048_S1024x2048_0_0, w⟩]) = w :=
  (View.read_writes_eq_canon v f _ (full_cover0 w)).trans (View.canon_cons_unit_lit (S := S1024x2048) inb_S1024x2048_S1024x2048_0_0 w [] (by decide))
/-- After a whole store the second scratch holds what was stored. -/
theorem full_read1 (v : View sig .tc .vmem S1024x1024 .bf16) (f : v.ty.Contents (Elt F)) (w : Vec F S1024x1024 .bf16) :
    v.read (Elt F) (v.writes (Elt F) f [⟨Rect.unit ![0, 0] ![1024, 1024] inb_S1024x1024_S1024x1024_0_0, w⟩]) = w :=
  (View.read_writes_eq_canon v f _ (full_cover1 w)).trans (View.canon_cons_unit_lit (S := S1024x1024) inb_S1024x1024_S1024x1024_0_0 w [] (by decide))
/-- After a whole store the result's window holds what was stored. -/
theorem full_read5 (v : View sig .tc .vmem S2x2x512x256 .bf16) (f : v.ty.Contents (Elt F)) (w : Vec F S2x2x512x256 .bf16) :
    v.read (Elt F) (v.writes (Elt F) f [⟨Rect.unit ![0, 0, 0, 0] ![2, 2, 512, 256] inb_S2x2x512x256_S2x2x512x256_0_0_0_0, w⟩]) = w :=
  (View.read_writes_eq_canon v f _ (full_cover5 w)).trans (View.canon_cons_unit_lit (S := S2x2x512x256) inb_S2x2x512x256_S2x2x512x256_0_0_0_0 w [] (by decide))
/-- After the four stores the result's window holds the tile's result. -/
theorem pieces_read (v : View sig .tc .vmem S2x2x512x256 .bf16) (f : v.ty.Contents (Elt F)) (Y : FVec F S512x1024 .f32) :
    v.read (Elt F) (v.writes (Elt F) f (pieces Y)) = busy Y :=
  View.read_writes_eq_canon v f _ (pieces_cover Y)

/-! ## The four runs, in these terms -/

set_option maxHeartbeats 1000000 in
/-- What the stores leave where the tile is its expert's first and has rows. -/
theorem runA_out (c : Dev nD) (i : grid0.Coords) (arg4 : Memref sig .tc .vmem S2x2x512x256 .bf16) (harg4 : arg4.IsWhole) (arg5 : Memref sig .tc .vmem S1x1x1024x2048 .f32) (harg5 : arg5.IsWhole) (arg6 : Memref sig .tc .vmem S1x1x2048 .f32) (harg6 : arg6.IsWhole) (arg7 : Memref sig .tc .vmem S1x1x1024x1024 .f32) (harg7 : arg7.IsWhole) (arg8 : Memref sig .tc .vmem S1x1x1024 .f32) (harg8 : arg8.IsWhole) (arg9 : Memref sig .tc .vmem S2x2x512x256 .bf16) (harg9 : arg9.IsWhole) (arg10 : Memref sig .tc .vmem S1024x2048 .bf16) (harg10 : arg10.IsWhole) (arg11 : Memref sig .tc .vmem S1024x1024 .bf16) (harg11 : arg11.IsWhole) (x0 : Vec F S2x2x512x256 .bf16) (x1 : Vec F S1x1x1024x2048 .f32) (x2 : Vec F S1x1x2048 .f32) (x3 : Vec F S1x1x1024x1024 .f32) (x4 : Vec F S1x1x1024 .f32) (d0 : Vec F S1024x2048 .bf16) (d1 : Vec F S1024x1024 .bf16) (xt0 : TbBuf (F := F) c tb0) (xt1 : TbBuf (F := F) c tb1) (xt2 : TbBuf (F := F) c tb2) (hc1 : isFirst (tb1.view.readAt (Elt F) (Rect.unit (s := S162) (k0_off1 i) S1.size (k0_off1_inb i)).toLoadRect xt1 (Shape.Idx.first (numel1_S1.symm ▸ Nat.one_pos)))) (hc2 : k0_cond2 (tb2.view.readAt (Elt F) (Rect.unit (s := S162) (k0_off2 i) S1.size (k0_off2_inb i)).toLoadRect xt2 (Shape.Idx.first (numel1_S1.symm ▸ Nat.one_pos))) = 1#1) (hc3 : ¬k0_cond3 (tb2.view.readAt (Elt F) (Rect.unit (s := S162) (k0_off4 i) S1.size (k0_off4_inb i)).toLoadRect xt2 (Shape.Idx.first (numel1_S1.symm ▸ Nat.one_pos))) = 1#1) :
    (runA (F := F) c i arg4 harg4 arg5 harg5 arg6 harg6 arg7 harg7 arg8 harg8 arg9 harg9 arg10 harg10 arg11 harg11 x0 x1 x2 x3 x4 d0 d1 xt0 xt1 xt2 hc1 hc2 hc3).1 = pieces (rows (tb2.view.readAt (Elt F) (Rect.unit (s := S162) (k0_off3 i) S1.size (k0_off3_inb i)).toLoadRect xt2 (Shape.Idx.first (numel1_S1.symm ▸ Nat.one_pos))) x0 x2 x4 (k0_pay1 x1) (k0_pay2 x3)) := by
  unfold runA pieces rows gu3; dsimp only
  unfold runA.sl.r_8 runA.sl.r_7 runA.sl.r_6 runA.sl.r_5 runA.sl.r_4 runA.sl.r_3 runA.sl.r_2 runA.sl.v33 runA.sl.v38 runA.sl.v52 runA.sl.v56 runA.sl.v75 runA.sl.HS0_1 runA.sl.HS1_1 runA.sl.v15 runA.sl.v21
  simp only [readAt_ld, readCov_sc0, readCov_sc1, ld_x1, ld_x2, ld_x3, ld_x4, ld_d1]
  try rfl

set_option maxHeartbeats 1000000 in
/-- What the stores leave where the tile is not its expert's first and has rows. -/
theorem runC_out (c : Dev nD) (i : grid0.Coords) (arg4 : Memref sig .tc .vmem S2x2x512x256 .bf16) (harg4 : arg4.IsWhole) (arg5 : Memref sig .tc .vmem S1x1x1024x2048 .f32) (harg5 : arg5.IsWhole) (arg6 : Memref sig .tc .vmem S1x1x2048 .f32) (harg6 : arg6.IsWhole) (arg7 : Memref sig .tc .vmem S1x1x1024x1024 .f32) (harg7 : arg7.IsWhole) (arg8 : Memref sig .tc .vmem S1x1x1024 .f32) (harg8 : arg8.IsWhole) (arg9 : Memref sig .tc .vmem S2x2x512x256 .bf16) (harg9 : arg9.IsWhole) (arg10 : Memref sig .tc .vmem S1024x2048 .bf16) (harg10 : arg10.IsWhole) (arg11 : Memref sig .tc .vmem S1024x1024 .bf16) (harg11 : arg11.IsWhole) (x0 : Vec F S2x2x512x256 .bf16) (x1 : Vec F S1x1x1024x2048 .f32) (x2 : Vec F S1x1x2048 .f32) (x3 : Vec F S1x1x1024x1024 .f32) (x4 : Vec F S1x1x1024 .f32) (d0 : Vec F S1024x2048 .bf16) (d1 : Vec F S1024x1024 .bf16) (xt0 : TbBuf (F := F) c tb0) (xt1 : TbBuf (F := F) c tb1) (xt2 : TbBuf (F := F) c tb2) (hc1 : ¬isFirst (tb1.view.readAt (Elt F) (Rect.unit (s := S162) (k0_off1 i) S1.size (k0_off1_inb i)).toLoadRect xt1 (Shape.Idx.first (numel1_S1.symm ▸ Nat.one_pos)))) (hc2 : k0_cond2 (tb2.view.readAt (Elt F) (Rect.unit (s := S162) (k0_off2 i) S1.size (k0_off2_inb i)).toLoadRect xt2 (Shape.Idx.first (numel1_S1.symm ▸ Nat.one_pos))) = 1#1) (hc3 : ¬k0_cond3 (tb2.view.readAt (Elt F) (Rect.unit (s := S162) (k0_off4 i) S1.size (k0_off4_inb i)).toLoadRect xt2 (Shape.Idx.first (numel1_S1.symm ▸ Nat.one_pos))) = 1#1) :
    (runC (F := F) c i arg4 harg4 arg5 harg5 arg6 harg6 arg7 harg7 arg8 harg8 arg9 harg9 arg10 harg10 arg11 harg11 x0 x1 x2 x3 x4 d0 d1 xt0 xt1 xt2 hc1 hc2 hc3).1 = pieces (rows (tb2.view.readAt (Elt F) (Rect.unit (s := S162) (k0_off3 i) S1.size (k0_off3_inb i)).toLoadRect xt2 (Shape.Idx.first (numel1_S1.symm ▸ Nat.one_pos))) x0 x2 x4 d0 d1) := by
  unfold runC pieces rows gu3; dsimp only
  unfold runC.sl.r_8 runC.sl.r_7 runC.sl.r_6 runC.sl.r_5 runC.sl.r_4 runC.sl.r_3 runC.sl.r_2
  simp only [readAt_ld, readCov_sc0, readCov_sc1, ld_x1, ld_x2, ld_x3, ld_x4, ld_d1]
  try rfl

/-- What the stores leave where the tile is its expert's first and has no row. -/
theorem runB_out (c : Dev nD) (i : grid0.Coords) (arg4 : Memref sig .tc .vmem S2x2x512x256 .bf16) (harg4 : arg4.IsWhole) (arg5 : Memref sig .tc .vmem S1x1x1024x2048 .f32) (harg5 : arg5.IsWhole) (arg6 : Memref sig .tc .vmem S1x1x2048 .f32) (harg6 : arg6.IsWhole) (arg7 : Memref sig .tc .vmem S1x1x1024x1024 .f32) (harg7 : arg7.IsWhole) (arg8 : Memref sig .tc .vmem S1x1x1024 .f32) (harg8 : arg8.IsWhole) (arg9 : Memref sig .tc .vmem S2x2x512x256 .bf16) (harg9 : arg9.IsWhole) (arg10 : Memref sig .tc .vmem S1024x2048 .bf16) (harg10 : arg10.IsWhole) (arg11 : Memref sig .tc .vmem S1024x1024 .bf16) (harg11 : arg11.IsWhole) (x0 : Vec F S2x2x512x256 .bf16) (x1 : Vec F S1x1x1024x2048 .f32) (x2 : Vec F S1x1x2048 .f32) (x3 : Vec F S1x1x1024x1024 .f32) (x4 : Vec F S1x1x1024 .f32) (d0 : Vec F S1024x2048 .bf16) (d1 : Vec F S1024x1024 .bf16) (xt0 : TbBuf (F := F) c tb0) (xt1 : TbBuf (F := F) c tb1) (xt2 : TbBuf (F := F) c tb2) (hc1 : isFirst (tb1.view.readAt (Elt F) (Rect.unit (s := S162) (k0_off1 i) S1.size (k0_off1_inb i)).toLoadRect xt1 (Shape.Idx.first (numel1_S1.symm ▸ Nat.one_pos)))) (hc2 : ¬k0_cond2 (tb2.view.readAt (Elt F) (Rect.unit (s := S162) (k0_off2 i) S1.size (k0_off2_inb i)).toLoadRect xt2 (Shape.Idx.first (numel1_S1.symm ▸ Nat.one_pos))) = 1#1) (hc3 : k0_cond3 (tb2.view.readAt (Elt F) (Rect.unit (s := S162) (k0_off4 i) S1.size (k0_off4_inb i)).toLoadRect xt2 (Shape.Idx.first (numel1_S1.symm ▸ Nat.one_pos))) = 1#1) :
    (runB (F := F) c i arg4 harg4 arg5 harg5 arg6 harg6 arg7 harg7 arg8 harg8 arg9 harg9 arg10 harg10 arg11 harg11 x0 x1 x2 x3 x4 d0 d1 xt0 xt1 xt2 hc1 hc2 hc3).1 = [⟨Rect.unit ![0, 0, 0, 0] ![2, 2, 512, 256] inb_S2x2x512x256_S2x2x512x256_0_0_0_0, k0_pay7⟩] := by
  unfold runB; try rfl

/-- What the stores leave where the tile is not its expert's first and has no row. -/
theorem runD_out (c : Dev nD) (i : grid0.Coords) (arg4 : Memref sig .tc .vmem S2x2x512x256 .bf16) (harg4 : arg4.IsWhole) (arg5 : Memref sig .tc .vmem S1x1x1024x2048 .f32) (harg5 : arg5.IsWhole) (arg6 : Memref sig .tc .vmem S1x1x2048 .f32) (harg6 : arg6.IsWhole) (arg7 : Memref sig .tc .vmem S1x1x1024x1024 .f32) (harg7 : arg7.IsWhole) (arg8 : Memref sig .tc .vmem S1x1x1024 .f32) (harg8 : arg8.IsWhole) (arg9 : Memref sig .tc .vmem S2x2x512x256 .bf16) (harg9 : arg9.IsWhole) (arg10 : Memref sig .tc .vmem S1024x2048 .bf16) (harg10 : arg10.IsWhole) (arg11 : Memref sig .tc .vmem S1024x1024 .bf16) (harg11 : arg11.IsWhole) (x0 : Vec F S2x2x512x256 .bf16) (x1 : Vec F S1x1x1024x2048 .f32) (x2 : Vec F S1x1x2048 .f32) (x3 : Vec F S1x1x1024x1024 .f32) (x4 : Vec F S1x1x1024 .f32) (d0 : Vec F S1024x2048 .bf16) (d1 : Vec F S1024x1024 .bf16) (xt0 : TbBuf (F := F) c tb0) (xt1 : TbBuf (F := F) c tb1) (xt2 : TbBuf (F := F) c tb2) (hc1 : ¬isFirst (tb1.view.readAt (Elt F) (Rect.unit (s := S162) (k0_off1 i) S1.size (k0_off1_inb i)).toLoadRect xt1 (Shape.Idx.first (numel1_S1.symm ▸ Nat.one_pos)))) (hc2 : ¬k0_cond2 (tb2.view.readAt (Elt F) (Rect.unit (s := S162) (k0_off2 i) S1.size (k0_off2_inb i)).toLoadRect xt2 (Shape.Idx.first (numel1_S1.symm ▸ Nat.one_pos))) = 1#1) (hc3 : k0_cond3 (tb2.view.readAt (Elt F) (Rect.unit (s := S162) (k0_off4 i) S1.size (k0_off4_inb i)).toLoadRect xt2 (Shape.Idx.first (numel1_S1.symm ▸ Nat.one_pos))) = 1#1) :
    (runD (F := F) c i arg4 harg4 arg5 harg5 arg6 harg6 arg7 harg7 arg8 harg8 arg9 harg9 arg10 harg10 arg11 harg11 x0 x1 x2 x3 x4 d0 d1 xt0 xt1 xt2 hc1 hc2 hc3).1 = [⟨Rect.unit ![0, 0, 0, 0] ![2, 2, 512, 256] inb_S2x2x512x256_S2x2x512x256_0_0_0_0, k0_pay7⟩] := by
  unfold runD; try rfl

/-- What the scratch is left with where the tile is its expert's first and has rows. -/
theorem runA_sc0 (c : Dev nD) (i : grid0.Coords) (arg4 : Memref sig .tc .vmem S2x2x512x256 .bf16) (harg4 : arg4.IsWhole) (arg5 : Memref sig .tc .vmem S1x1x1024x2048 .f32) (harg5 : arg5.IsWhole) (arg6 : Memref sig .tc .vmem S1x1x2048 .f32) (harg6 : arg6.IsWhole) (arg7 : Memref sig .tc .vmem S1x1x1024x1024 .f32) (harg7 : arg7.IsWhole) (arg8 : Memref sig .tc .vmem S1x1x1024 .f32) (harg8 : arg8.IsWhole) (arg9 : Memref sig .tc .vmem S2x2x512x256 .bf16) (harg9 : arg9.IsWhole) (arg10 : Memref sig .tc .vmem S1024x2048 .bf16) (harg10 : arg10.IsWhole) (arg11 : Memref sig .tc .vmem S1024x1024 .bf16) (harg11 : arg11.IsWhole) (x0 : Vec F S2x2x512x256 .bf16) (x1 : Vec F S1x1x1024x2048 .f32) (x2 : Vec F S1x1x2048 .f32) (x3 : Vec F S1x1x1024x1024 .f32) (x4 : Vec F S1x1x1024 .f32) (d0 : Vec F S1024x2048 .bf16) (d1 : Vec F S1024x1024 .bf16) (xt0 : TbBuf (F := F) c tb0) (xt1 : TbBuf (F := F) c tb1) (xt2 : TbBuf (F := F) c tb2) (hc1 : isFirst (tb1.view.readAt (Elt F) (Rect.unit (s := S162) (k0_off1 i) S1.size (k0_off1_inb i)).toLoadRect xt1 (Shape.Idx.first (numel1_S1.symm ▸ Nat.one_pos)))) (hc2 : k0_cond2 (tb2.view.readAt (Elt F) (Rect.unit (s := S162) (k0_off2 i) S1.size (k0_off2_inb i)).toLoadRect xt2 (Shape.Idx.first (numel1_S1.symm ▸ Nat.one_pos))) = 1#1) (hc3 : ¬k0_cond3 (tb2.view.readAt (Elt F) (Rect.unit (s := S162) (k0_off4 i) S1.size (k0_off4_inb i)).toLoadRect xt2 (Shape.Idx.first (numel1_S1.symm ▸ Nat.one_pos))) = 1#1) :
    (runA (F := F) c i arg4 harg4 arg5 harg5 arg6 harg6 arg7 harg7 arg8 harg8 arg9 harg9 arg10 harg10 arg11 harg11 x0 x1 x2 x3 x4 d0 d1 xt0 xt1 xt2 hc1 hc2 hc3).2.1 = [⟨Rect.unit ![0, 0] ![1024, 2048] inb_S1024x2048_S1024x2048_0_0, k0_pay1 x1⟩] := by
  unfold runA; dsimp only; unfold runA.sl.HS0_1 runA.sl.v15; simp only [readAt_ld, ld_x1]
/-- What the second scratch is left with, likewise. -/
theorem runA_sc1 (c : Dev nD) (i : grid0.Coords) (arg4 : Memref sig .tc .vmem S2x2x512x256 .bf16) (harg4 : arg4.IsWhole) (arg5 : Memref sig .tc .vmem S1x1x1024x2048 .f32) (harg5 : arg5.IsWhole) (arg6 : Memref sig .tc .vmem S1x1x2048 .f32) (harg6 : arg6.IsWhole) (arg7 : Memref sig .tc .vmem S1x1x1024x1024 .f32) (harg7 : arg7.IsWhole) (arg8 : Memref sig .tc .vmem S1x1x1024 .f32) (harg8 : arg8.IsWhole) (arg9 : Memref sig .tc .vmem S2x2x512x256 .bf16) (harg9 : arg9.IsWhole) (arg10 : Memref sig .tc .vmem S1024x2048 .bf16) (harg10 : arg10.IsWhole) (arg11 : Memref sig .tc .vmem S1024x1024 .bf16) (harg11 : arg11.IsWhole) (x0 : Vec F S2x2x512x256 .bf16) (x1 : Vec F S1x1x1024x2048 .f32) (x2 : Vec F S1x1x2048 .f32) (x3 : Vec F S1x1x1024x1024 .f32) (x4 : Vec F S1x1x1024 .f32) (d0 : Vec F S1024x2048 .bf16) (d1 : Vec F S1024x1024 .bf16) (xt0 : TbBuf (F := F) c tb0) (xt1 : TbBuf (F := F) c tb1) (xt2 : TbBuf (F := F) c tb2) (hc1 : isFirst (tb1.view.readAt (Elt F) (Rect.unit (s := S162) (k0_off1 i) S1.size (k0_off1_inb i)).toLoadRect xt1 (Shape.Idx.first (numel1_S1.symm ▸ Nat.one_pos)))) (hc2 : k0_cond2 (tb2.view.readAt (Elt F) (Rect.unit (s := S162) (k0_off2 i) S1.size (k0_off2_inb i)).toLoadRect xt2 (Shape.Idx.first (numel1_S1.symm ▸ Nat.one_pos))) = 1#1) (hc3 : ¬k0_cond3 (tb2.view.readAt (Elt F) (Rect.unit (s := S162) (k0_off4 i) S1.size (k0_off4_inb i)).toLoadRect xt2 (Shape.Idx.first (numel1_S1.symm ▸ Nat.one_pos))) = 1#1) :
    (runA (F := F) c i arg4 harg4 arg5 harg5 arg6 harg6 arg7 harg7 arg8 harg8 arg9 harg9 arg10 harg10 arg11 harg11 x0 x1 x2 x3 x4 d0 d1 xt0 xt1 xt2 hc1 hc2 hc3).2.2.1 = [⟨Rect.unit ![0, 0] ![1024, 1024] inb_S1024x1024_S1024x1024_0_0, k0_pay2 x3⟩] := by
  unfold runA; dsimp only; unfold runA.sl.HS1_1 runA.sl.v21; simp only [readAt_ld, ld_x3]

/-- What the scratch is left with where the tile is its expert's first and has no row. -/
theorem runB_sc0 (c : Dev nD) (i : grid0.Coords) (arg4 : Memref sig .tc .vmem S2x2x512x256 .bf16) (harg4 : arg4.IsWhole) (arg5 : Memref sig .tc .vmem S1x1x1024x2048 .f32) (harg5 : arg5.IsWhole) (arg6 : Memref sig .tc .vmem S1x1x2048 .f32) (harg6 : arg6.IsWhole) (arg7 : Memref sig .tc .vmem S1x1x1024x1024 .f32) (harg7 : arg7.IsWhole) (arg8 : Memref sig .tc .vmem S1x1x1024 .f32) (harg8 : arg8.IsWhole) (arg9 : Memref sig .tc .vmem S2x2x512x256 .bf16) (harg9 : arg9.IsWhole) (arg10 : Memref sig .tc .vmem S1024x2048 .bf16) (harg10 : arg10.IsWhole) (arg11 : Memref sig .tc .vmem S1024x1024 .bf16) (harg11 : arg11.IsWhole) (x0 : Vec F S2x2x512x256 .bf16) (x1 : Vec F S1x1x1024x2048 .f32) (x2 : Vec F S1x1x2048 .f32) (x3 : Vec F S1x1x1024x1024 .f32) (x4 : Vec F S1x1x1024 .f32) (d0 : Vec F S1024x2048 .bf16) (d1 : Vec F S1024x1024 .bf16) (xt0 : TbBuf (F := F) c tb0) (xt1 : TbBuf (F := F) c tb1) (xt2 : TbBuf (F := F) c tb2) (hc1 : isFirst (tb1.view.readAt (Elt F) (Rect.unit (s := S162) (k0_off1 i) S1.size (k0_off1_inb i)).toLoadRect xt1 (Shape.Idx.first (numel1_S1.symm ▸ Nat.one_pos)))) (hc2 : ¬k0_cond2 (tb2.view.readAt (Elt F) (Rect.unit (s := S162) (k0_off2 i) S1.size (k0_off2_inb i)).toLoadRect xt2 (Shape.Idx.first (numel1_S1.symm ▸ Nat.one_pos))) = 1#1) (hc3 : k0_cond3 (tb2.view.readAt (Elt F) (Rect.unit (s := S162) (k0_off4 i) S1.size (k0_off4_inb i)).toLoadRect xt2 (Shape.Idx.first (numel1_S1.symm ▸ Nat.one_pos))) = 1#1) :
    (runB (F := F) c i arg4 harg4 arg5 harg5 arg6 harg6 arg7 harg7 arg8 harg8 arg9 harg9 arg10 harg10 arg11 harg11 x0 x1 x2 x3 x4 d0 d1 xt0 xt1 xt2 hc1 hc2 hc3).2.1 = [⟨Rect.unit ![0, 0] ![1024, 2048] inb_S1024x2048_S1024x2048_0_0, k0_pay1 x1⟩] := by
  unfold runB; dsimp only; unfold runB.sl.v15; simp only [readAt_ld, ld_x1]
/-- What the second scratch is left with, likewise. -/
theorem runB_sc1 (c : Dev nD) (i : grid0.Coords) (arg4 : Memref sig .tc .vmem S2x2x512x256 .bf16) (harg4 : arg4.IsWhole) (arg5 : Memref sig .tc .vmem S1x1x1024x2048 .f32) (harg5 : arg5.IsWhole) (arg6 : Memref sig .tc .vmem S1x1x2048 .f32) (harg6 : arg6.IsWhole) (arg7 : Memref sig .tc .vmem S1x1x1024x1024 .f32) (harg7 : arg7.IsWhole) (arg8 : Memref sig .tc .vmem S1x1x1024 .f32) (harg8 : arg8.IsWhole) (arg9 : Memref sig .tc .vmem S2x2x512x256 .bf16) (harg9 : arg9.IsWhole) (arg10 : Memref sig .tc .vmem S1024x2048 .bf16) (harg10 : arg10.IsWhole) (arg11 : Memref sig .tc .vmem S1024x1024 .bf16) (harg11 : arg11.IsWhole) (x0 : Vec F S2x2x512x256 .bf16) (x1 : Vec F S1x1x1024x2048 .f32) (x2 : Vec F S1x1x2048 .f32) (x3 : Vec F S1x1x1024x1024 .f32) (x4 : Vec F S1x1x1024 .f32) (d0 : Vec F S1024x2048 .bf16) (d1 : Vec F S1024x1024 .bf16) (xt0 : TbBuf (F := F) c tb0) (xt1 : TbBuf (F := F) c tb1) (xt2 : TbBuf (F := F) c tb2) (hc1 : isFirst (tb1.view.readAt (Elt F) (Rect.unit (s := S162) (k0_off1 i) S1.size (k0_off1_inb i)).toLoadRect xt1 (Shape.Idx.first (numel1_S1.symm ▸ Nat.one_pos)))) (hc2 : ¬k0_cond2 (tb2.view.readAt (Elt F) (Rect.unit (s := S162) (k0_off2 i) S1.size (k0_off2_inb i)).toLoadRect xt2 (Shape.Idx.first (numel1_S1.symm ▸ Nat.one_pos))) = 1#1) (hc3 : k0_cond3 (tb2.view.readAt (Elt F) (Rect.unit (s := S162) (k0_off4 i) S1.size (k0_off4_inb i)).toLoadRect xt2 (Shape.Idx.first (numel1_S1.symm ▸ Nat.one_pos))) = 1#1) :
    (runB (F := F) c i arg4 harg4 arg5 harg5 arg6 harg6 arg7 harg7 arg8 harg8 arg9 harg9 arg10 harg10 arg11 harg11 x0 x1 x2 x3 x4 d0 d1 xt0 xt1 xt2 hc1 hc2 hc3).2.2.1 = [⟨Rect.unit ![0, 0] ![1024, 1024] inb_S1024x1024_S1024x1024_0_0, k0_pay2 x3⟩] := by
  unfold runB; dsimp only; unfold runB.sl.v21; simp only [readAt_ld, ld_x3]

set_option maxHeartbeats 1000000 in
/-- The body where the tile is its expert's first and has rows, the buffers named. -/
theorem stepA (c : Dev nD) (i : grid0.Coords) (arg4 : Memref sig .tc .vmem S2x2x512x256 .bf16) (harg4 : arg4.IsWhole) (arg5 : Memref sig .tc .vmem S1x1x1024x2048 .f32) (harg5 : arg5.IsWhole) (arg6 : Memref sig .tc .vmem S1x1x2048 .f32) (harg6 : arg6.IsWhole) (arg7 : Memref sig .tc .vmem S1x1x1024x1024 .f32) (harg7 : arg7.IsWhole) (arg8 : Memref sig .tc .vmem S1x1x1024 .f32) (harg8 : arg8.IsWhole) (arg9 : Memref sig .tc .vmem S2x2x512x256 .bf16) (harg9 : arg9.IsWhole) (arg10 : Memref sig .tc .vmem S1024x2048 .bf16) (harg10 : arg10.IsWhole) (arg11 : Memref sig .tc .vmem S1024x1024 .bf16) (harg11 : arg11.IsWhole) (x0 : Vec F S2x2x512x256 .bf16) (x1 : Vec F S1x1x1024x2048 .f32) (x2 : Vec F S1x1x2048 .f32) (x3 : Vec F S1x1x1024x1024 .f32) (x4 : Vec F S1x1x1024 .f32) (d0 : Vec F S1024x2048 .bf16) (d1 : Vec F S1024x1024 .bf16) (xt0 : TbBuf (F := F) c tb0) (xt1 : TbBuf (F := F) c tb1) (xt2 : TbBuf (F := F) c tb2) (hc1 : isFirst (tb1.view.readAt (Elt F) (Rect.unit (s := S162) (k0_off1 i) S1.size (k0_off1_inb i)).toLoadRect xt1 (Shape.Idx.first (numel1_S1.symm ▸ Nat.one_pos)))) (hc2 : k0_cond2 (tb2.view.readAt (Elt F) (Rect.unit (s := S162) (k0_off2 i) S1.size (k0_off2_inb i)).toLoadRect xt2 (Shape.Idx.first (numel1_S1.symm ▸ Nat.one_pos))) = 1#1) (hc3 : ¬k0_cond3 (tb2.view.readAt (Elt F) (Rect.unit (s := S162) (k0_off4 i) S1.size (k0_off4_inb i)).toLoadRect xt2 (Shape.Idx.first (numel1_S1.symm ▸ Nat.one_pos))) = 1#1) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare d0 ∗ owns (c : Thread nD τ) arg11 fullShare d1 ∗ tbPt c tb0 xt0 ∗ tbPt c tb1 xt1 ∗ tbPt c tb2 xt2
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (busy (rows (tb2.view.readAt (Elt F) (Rect.unit (s := S162) (k0_off3 i) S1.size (k0_off3_inb i)).toLoadRect xt2 (Shape.Idx.first (numel1_S1.symm ▸ Nat.one_pos))) x0 x2 x4 (k0_pay1 x1) (k0_pay2 x3))) ∗ owns (c : Thread nD τ) arg10 fullShare (k0_pay1 x1) ∗ owns (c : Thread nD τ) arg11 fullShare (k0_pay2 x3) ∗ tbPt c tb0 xt0 ∗ tbPt c tb1 xt1 ∗ tbPt c tb2 xt2) -∗ K ⟨⟩))
      ⊢ wp frame (wpE (defs₀ (F := F)) Variants.none c none) Set.univ (cc0_moe_experts i tb0 htb0 tb1 htb1 tb2 htb2 arg4 harg4 arg5 harg5 arg6 harg6 arg7 harg7 arg8 harg8 arg9 harg9 arg10 harg10 arg11 harg11) K := by
  iintro ⟨H0, H1, H2, H3, H4, H5, HS0, HS1, HT0, HT1, HT2, Hk⟩
  iapply ((runA c i arg4 harg4 arg5 harg5 arg6 harg6 arg7 harg7 arg8 harg8 arg9 harg9 arg10 harg10 arg11 harg11 x0 x1 x2 x3 x4 d0 d1 xt0 xt1 xt2 hc1 hc2 hc3).2.2.2 Set.univ K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HT0]; · iexact HT0
  isplitl [HT1]; · iexact HT1
  isplitl [HT2]; · iexact HT2
  iintro ⟨H0, H1, H2, H3, H4, ⟨%e5, H5⟩, ⟨%fT0, HS0⟩, ⟨%fT1, HS1⟩, HT0, HT1, HT2⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; rw [runA_out]; exact pieces_read _ _ _
  isplitl [HS0]
  · unfold owns; iexists _; isplitr
    swap; · iexact HS0
    ipureintro; rw [runA_sc0]; exact full_read0 _ _ _
  isplitl [HS1]
  · unfold owns; iexists _; isplitr
    swap; · iexact HS1
    ipureintro; rw [runA_sc1]; exact full_read1 _ _ _
  isplitl [HT0]; · iexact HT0
  isplitl [HT1]; · iexact HT1
  iexact HT2

set_option maxHeartbeats 1000000 in
/-- The body where the tile is its expert's first and has no row, the buffers named. -/
theorem stepB (c : Dev nD) (i : grid0.Coords) (arg4 : Memref sig .tc .vmem S2x2x512x256 .bf16) (harg4 : arg4.IsWhole) (arg5 : Memref sig .tc .vmem S1x1x1024x2048 .f32) (harg5 : arg5.IsWhole) (arg6 : Memref sig .tc .vmem S1x1x2048 .f32) (harg6 : arg6.IsWhole) (arg7 : Memref sig .tc .vmem S1x1x1024x1024 .f32) (harg7 : arg7.IsWhole) (arg8 : Memref sig .tc .vmem S1x1x1024 .f32) (harg8 : arg8.IsWhole) (arg9 : Memref sig .tc .vmem S2x2x512x256 .bf16) (harg9 : arg9.IsWhole) (arg10 : Memref sig .tc .vmem S1024x2048 .bf16) (harg10 : arg10.IsWhole) (arg11 : Memref sig .tc .vmem S1024x1024 .bf16) (harg11 : arg11.IsWhole) (x0 : Vec F S2x2x512x256 .bf16) (x1 : Vec F S1x1x1024x2048 .f32) (x2 : Vec F S1x1x2048 .f32) (x3 : Vec F S1x1x1024x1024 .f32) (x4 : Vec F S1x1x1024 .f32) (d0 : Vec F S1024x2048 .bf16) (d1 : Vec F S1024x1024 .bf16) (xt0 : TbBuf (F := F) c tb0) (xt1 : TbBuf (F := F) c tb1) (xt2 : TbBuf (F := F) c tb2) (hc1 : isFirst (tb1.view.readAt (Elt F) (Rect.unit (s := S162) (k0_off1 i) S1.size (k0_off1_inb i)).toLoadRect xt1 (Shape.Idx.first (numel1_S1.symm ▸ Nat.one_pos)))) (hc2 : ¬k0_cond2 (tb2.view.readAt (Elt F) (Rect.unit (s := S162) (k0_off2 i) S1.size (k0_off2_inb i)).toLoadRect xt2 (Shape.Idx.first (numel1_S1.symm ▸ Nat.one_pos))) = 1#1) (hc3 : k0_cond3 (tb2.view.readAt (Elt F) (Rect.unit (s := S162) (k0_off4 i) S1.size (k0_off4_inb i)).toLoadRect xt2 (Shape.Idx.first (numel1_S1.symm ▸ Nat.one_pos))) = 1#1) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare d0 ∗ owns (c : Thread nD τ) arg11 fullShare d1 ∗ tbPt c tb0 xt0 ∗ tbPt c tb1 xt1 ∗ tbPt c tb2 xt2
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare k0_pay7 ∗ owns (c : Thread nD τ) arg10 fullShare (k0_pay1 x1) ∗ owns (c : Thread nD τ) arg11 fullShare (k0_pay2 x3) ∗ tbPt c tb0 xt0 ∗ tbPt c tb1 xt1 ∗ tbPt c tb2 xt2) -∗ K ⟨⟩))
      ⊢ wp frame (wpE (defs₀ (F := F)) Variants.none c none) Set.univ (cc0_moe_experts i tb0 htb0 tb1 htb1 tb2 htb2 arg4 harg4 arg5 harg5 arg6 harg6 arg7 harg7 arg8 harg8 arg9 harg9 arg10 harg10 arg11 harg11) K := by
  iintro ⟨H0, H1, H2, H3, H4, H5, HS0, HS1, HT0, HT1, HT2, Hk⟩
  iapply ((runB c i arg4 harg4 arg5 harg5 arg6 harg6 arg7 harg7 arg8 harg8 arg9 harg9 arg10 harg10 arg11 harg11 x0 x1 x2 x3 x4 d0 d1 xt0 xt1 xt2 hc1 hc2 hc3).2.2.2 Set.univ K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HT0]; · iexact HT0
  isplitl [HT1]; · iexact HT1
  isplitl [HT2]; · iexact HT2
  iintro ⟨H0, H1, H2, H3, H4, ⟨%e5, H5⟩, ⟨%fT0, HS0⟩, ⟨%fT1, HS1⟩, HT0, HT1, HT2⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; rw [runB_out]; exact full_read5 _ _ _
  isplitl [HS0]
  · unfold owns; iexists _; isplitr
    swap; · iexact HS0
    ipureintro; rw [runB_sc0]; exact full_read0 _ _ _
  isplitl [HS1]
  · unfold owns; iexists _; isplitr
    swap; · iexact HS1
    ipureintro; rw [runB_sc1]; exact full_read1 _ _ _
  isplitl [HT0]; · iexact HT0
  isplitl [HT1]; · iexact HT1
  iexact HT2

set_option maxHeartbeats 1000000 in
/-- The body where the tile is not its expert's first and has rows, the buffers named. -/
theorem stepC (c : Dev nD) (i : grid0.Coords) (arg4 : Memref sig .tc .vmem S2x2x512x256 .bf16) (harg4 : arg4.IsWhole) (arg5 : Memref sig .tc .vmem S1x1x1024x2048 .f32) (harg5 : arg5.IsWhole) (arg6 : Memref sig .tc .vmem S1x1x2048 .f32) (harg6 : arg6.IsWhole) (arg7 : Memref sig .tc .vmem S1x1x1024x1024 .f32) (harg7 : arg7.IsWhole) (arg8 : Memref sig .tc .vmem S1x1x1024 .f32) (harg8 : arg8.IsWhole) (arg9 : Memref sig .tc .vmem S2x2x512x256 .bf16) (harg9 : arg9.IsWhole) (arg10 : Memref sig .tc .vmem S1024x2048 .bf16) (harg10 : arg10.IsWhole) (arg11 : Memref sig .tc .vmem S1024x1024 .bf16) (harg11 : arg11.IsWhole) (x0 : Vec F S2x2x512x256 .bf16) (x1 : Vec F S1x1x1024x2048 .f32) (x2 : Vec F S1x1x2048 .f32) (x3 : Vec F S1x1x1024x1024 .f32) (x4 : Vec F S1x1x1024 .f32) (d0 : Vec F S1024x2048 .bf16) (d1 : Vec F S1024x1024 .bf16) (xt0 : TbBuf (F := F) c tb0) (xt1 : TbBuf (F := F) c tb1) (xt2 : TbBuf (F := F) c tb2) (hc1 : ¬isFirst (tb1.view.readAt (Elt F) (Rect.unit (s := S162) (k0_off1 i) S1.size (k0_off1_inb i)).toLoadRect xt1 (Shape.Idx.first (numel1_S1.symm ▸ Nat.one_pos)))) (hc2 : k0_cond2 (tb2.view.readAt (Elt F) (Rect.unit (s := S162) (k0_off2 i) S1.size (k0_off2_inb i)).toLoadRect xt2 (Shape.Idx.first (numel1_S1.symm ▸ Nat.one_pos))) = 1#1) (hc3 : ¬k0_cond3 (tb2.view.readAt (Elt F) (Rect.unit (s := S162) (k0_off4 i) S1.size (k0_off4_inb i)).toLoadRect xt2 (Shape.Idx.first (numel1_S1.symm ▸ Nat.one_pos))) = 1#1) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare d0 ∗ owns (c : Thread nD τ) arg11 fullShare d1 ∗ tbPt c tb0 xt0 ∗ tbPt c tb1 xt1 ∗ tbPt c tb2 xt2
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (busy (rows (tb2.view.readAt (Elt F) (Rect.unit (s := S162) (k0_off3 i) S1.size (k0_off3_inb i)).toLoadRect xt2 (Shape.Idx.first (numel1_S1.symm ▸ Nat.one_pos))) x0 x2 x4 d0 d1)) ∗ owns (c : Thread nD τ) arg10 fullShare d0 ∗ owns (c : Thread nD τ) arg11 fullShare d1 ∗ tbPt c tb0 xt0 ∗ tbPt c tb1 xt1 ∗ tbPt c tb2 xt2) -∗ K ⟨⟩))
      ⊢ wp frame (wpE (defs₀ (F := F)) Variants.none c none) Set.univ (cc0_moe_experts i tb0 htb0 tb1 htb1 tb2 htb2 arg4 harg4 arg5 harg5 arg6 harg6 arg7 harg7 arg8 harg8 arg9 harg9 arg10 harg10 arg11 harg11) K := by
  iintro ⟨H0, H1, H2, H3, H4, H5, HS0, HS1, HT0, HT1, HT2, Hk⟩
  iapply ((runC c i arg4 harg4 arg5 harg5 arg6 harg6 arg7 harg7 arg8 harg8 arg9 harg9 arg10 harg10 arg11 harg11 x0 x1 x2 x3 x4 d0 d1 xt0 xt1 xt2 hc1 hc2 hc3).2.2.2 Set.univ K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HT0]; · iexact HT0
  isplitl [HT1]; · iexact HT1
  isplitl [HT2]; · iexact HT2
  iintro ⟨H0, H1, H2, H3, H4, ⟨%e5, H5⟩, HS0, HS1, HT0, HT1, HT2⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; rw [runC_out]; exact pieces_read _ _ _
  isplitl [HS0]; · iexact HS0
  isplitl [HS1]; · iexact HS1
  isplitl [HT0]; · iexact HT0
  isplitl [HT1]; · iexact HT1
  iexact HT2

set_option maxHeartbeats 1000000 in
/-- The body where the tile is not its expert's first and has no row, the buffers named. -/
theorem stepD (c : Dev nD) (i : grid0.Coords) (arg4 : Memref sig .tc .vmem S2x2x512x256 .bf16) (harg4 : arg4.IsWhole) (arg5 : Memref sig .tc .vmem S1x1x1024x2048 .f32) (harg5 : arg5.IsWhole) (arg6 : Memref sig .tc .vmem S1x1x2048 .f32) (harg6 : arg6.IsWhole) (arg7 : Memref sig .tc .vmem S1x1x1024x1024 .f32) (harg7 : arg7.IsWhole) (arg8 : Memref sig .tc .vmem S1x1x1024 .f32) (harg8 : arg8.IsWhole) (arg9 : Memref sig .tc .vmem S2x2x512x256 .bf16) (harg9 : arg9.IsWhole) (arg10 : Memref sig .tc .vmem S1024x2048 .bf16) (harg10 : arg10.IsWhole) (arg11 : Memref sig .tc .vmem S1024x1024 .bf16) (harg11 : arg11.IsWhole) (x0 : Vec F S2x2x512x256 .bf16) (x1 : Vec F S1x1x1024x2048 .f32) (x2 : Vec F S1x1x2048 .f32) (x3 : Vec F S1x1x1024x1024 .f32) (x4 : Vec F S1x1x1024 .f32) (d0 : Vec F S1024x2048 .bf16) (d1 : Vec F S1024x1024 .bf16) (xt0 : TbBuf (F := F) c tb0) (xt1 : TbBuf (F := F) c tb1) (xt2 : TbBuf (F := F) c tb2) (hc1 : ¬isFirst (tb1.view.readAt (Elt F) (Rect.unit (s := S162) (k0_off1 i) S1.size (k0_off1_inb i)).toLoadRect xt1 (Shape.Idx.first (numel1_S1.symm ▸ Nat.one_pos)))) (hc2 : ¬k0_cond2 (tb2.view.readAt (Elt F) (Rect.unit (s := S162) (k0_off2 i) S1.size (k0_off2_inb i)).toLoadRect xt2 (Shape.Idx.first (numel1_S1.symm ▸ Nat.one_pos))) = 1#1) (hc3 : k0_cond3 (tb2.view.readAt (Elt F) (Rect.unit (s := S162) (k0_off4 i) S1.size (k0_off4_inb i)).toLoadRect xt2 (Shape.Idx.first (numel1_S1.symm ▸ Nat.one_pos))) = 1#1) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare d0 ∗ owns (c : Thread nD τ) arg11 fullShare d1 ∗ tbPt c tb0 xt0 ∗ tbPt c tb1 xt1 ∗ tbPt c tb2 xt2
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare k0_pay7 ∗ owns (c : Thread nD τ) arg10 fullShare d0 ∗ owns (c : Thread nD τ) arg11 fullShare d1 ∗ tbPt c tb0 xt0 ∗ tbPt c tb1 xt1 ∗ tbPt c tb2 xt2) -∗ K ⟨⟩))
      ⊢ wp frame (wpE (defs₀ (F := F)) Variants.none c none) Set.univ (cc0_moe_experts i tb0 htb0 tb1 htb1 tb2 htb2 arg4 harg4 arg5 harg5 arg6 harg6 arg7 harg7 arg8 harg8 arg9 harg9 arg10 harg10 arg11 harg11) K := by
  iintro ⟨H0, H1, H2, H3, H4, H5, HS0, HS1, HT0, HT1, HT2, Hk⟩
  iapply ((runD c i arg4 harg4 arg5 harg5 arg6 harg6 arg7 harg7 arg8 harg8 arg9 harg9 arg10 harg10 arg11 harg11 x0 x1 x2 x3 x4 d0 d1 xt0 xt1 xt2 hc1 hc2 hc3).2.2.2 Set.univ K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HT0]; · iexact HT0
  isplitl [HT1]; · iexact HT1
  isplitl [HT2]; · iexact HT2
  iintro ⟨H0, H1, H2, H3, H4, ⟨%e5, H5⟩, HS0, HS1, HT0, HT1, HT2⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; rw [runD_out]; exact full_read5 _ _ _
  isplitl [HS0]; · iexact HS0
  isplitl [HS1]; · iexact HS1
  isplitl [HT0]; · iexact HT0
  isplitl [HT1]; · iexact HT1
  iexact HT2

end Cert.Kernel2Ideal.Mo

end
-- ==== Proof.MoITab.lean ====
/- The tables of `Cert.Kernel2Ideal`'s call: what the precondition says of them, that the blocks they choose are inside their
   arrays, and the windows' blocks at coordinates. -/
module

public import proofs.«01_k».proof.Proof.MoIKit
public import proofs.«01_k».proof.Proof.Gen.Pre_tables
public import Idealize.ShloMosaic.Lib.Pipeline.ValueKit
public import Idealize.ShloMosaic.Lib.Pointwise
public import Idealize.ShloMosaic.Lib.WordCmp
public import Idealize.ShloMosaic.Lib.StableHlo.Predicate

@[expose] public section

set_option maxRecDepth 16384

noncomputable section

namespace Cert.Kernel2Ideal.Mo

open Cert.Kernel2Ideal Cert.Kernel2Ideal.Gen
open Idealize.ShloMosaic Idealize.ShloMosaic.TcCoe Idealize.ShloMosaic.Tactic
open Idealize.SL Idealize.SL.RA Idealize.SL.BI Idealize.SL.Sem
open Idealize.ShloMosaic.WordCmp

variable {F : FTy → Type} [FloatOps F]

variable (m : (ℓ : Loc nD τ sig) → Buf (Elt F) ℓ)

/-! ## Words -/

/-- A grid point's number. -/
abbrev nm (i : grid0.Coords) : Fin 162 := ⟨(i 0).val, (i 0).isLt⟩

/-- The table is read at the grid point. -/
theorem off1_eq (i : grid0.Coords) : k0_off1 i 0 = (i 0).val := by
  have h : (i 0).val < 162 := (i 0).isLt
  show (BitVec.ofNat 32 (i 0).val).toNat = (i 0).val
  rw [BitVec.toNat_ofNat]; omega

/-- A table's word at a grid point is the table's entry of the point's number. -/
theorem word_eq (i : grid0.Coords) (x : S162.Idx → BitVec 32) : word i x = x (ix1 (nm i)) := by
  refine congrArg x (funext fun a => ?_)
  obtain rfl : a = (0 : Fin 1) := Subsingleton.elim _ _
  exact Fin.ext (by show k0_off1 i 0 + 1 * _ = _; rw [off1_eq]; simp [Shape.Idx.first])

/-- The tables' entries. -/
def te (n : Fin 162) : BitVec 32 := m ((0 : Dev nD).tc.loc main_arg0) (ix1 n)
/-- The first-tile flag of a tile. -/
def tf (n : Fin 162) : BitVec 32 := m ((0 : Dev nD).tc.loc main_arg1) (ix1 n)
/-- The row count of a tile. -/
def tr (n : Fin 162) : BitVec 32 := m ((0 : Dev nD).tc.loc main_arg2) (ix1 n)

/-- The first table holds the experts. -/
theorem tbl_0 (n : Fin 162) : (tbl m 0 : S162.Idx → BitVec 32) (ix1 n) = te m n := congrFun (V_of_ne m 0 main_arg0 (by decide) (by decide)) (ix1 n)
/-- The second table holds the flags. -/
theorem tbl_1 (n : Fin 162) : (tbl m 1 : S162.Idx → BitVec 32) (ix1 n) = tf m n := congrFun (V_of_ne m 0 main_arg1 (by decide) (by decide)) (ix1 n)
/-- The third table holds the row counts. -/
theorem tbl_2 (n : Fin 162) : (tbl m 2 : S162.Idx → BitVec 32) (ix1 n) = tr m n := congrFun (V_of_ne m 0 main_arg2 (by decide) (by decide)) (ix1 n)

/-- The tables' words at a grid point. -/
theorem word_te (i : grid0.Coords) : word i (tbl m 0) = te m (nm i) := (word_eq i (tbl m 0)).trans (tbl_0 m (nm i))
/-- The flag that a point reads. -/
theorem word_tf (i : grid0.Coords) : word i (tbl m 1) = tf m (nm i) := (word_eq i (tbl m 1)).trans (tbl_1 m (nm i))
/-- The row count that a point reads. -/
theorem word_tr (i : grid0.Coords) : word i (tbl m 2) = tr m (nm i) := (word_eq i (tbl m 2)).trans (tbl_2 m (nm i))

/-- What the call needs of the tables: each tile's expert is one of the thirty-two, its count of rows is not negative, and a
    tile that is not marked the first of its expert has the expert of the tile before it. -/
structure Good : Prop where
  te_lt : ∀ n, (te m n).toNat < 32
  tr_nn : ∀ n, (tr m n).toNat < 2 ^ 31
  tf_or : ∀ n, tf m n = 1#32 ∨ ∃ k : Fin 162, k.val + 1 = n.val ∧ te m k = te m n

/-! ## The body's conditions -/

/-- The flag is tested for one. -/
theorem isFirst_iff (v : BitVec 32) : isFirst v ↔ v = 1#32 := by
  unfold isFirst
  by_cases h : v = 1#32
  · subst h; exact ⟨fun _ => rfl, fun _ => by decide⟩
  · refine ⟨fun e => absurd e ?_, fun e => absurd e h⟩
    have : Scalar.cmpi .eq v 1#32 = 0#1 := by
      show IntOp.cmpi .eq v 1#32 = 0#1
      rw [cmpi_eq_eq, ofBool_decide_eq_zero_iff]; exact h
    rw [this]; decide
/-- A count that is not negative passes the second test when it is not zero. -/
theorem cond2_iff (v : BitVec 32) (hv : v.toNat < 2 ^ 31) : k0_cond2 v = 1#1 ↔ v ≠ 0#32 := by
  unfold k0_cond2
  by_cases h : v = 0#32
  · subst h; exact ⟨fun e => absurd e (by decide), fun e => absurd rfl e⟩
  · refine ⟨fun _ => h, fun _ => ?_⟩
    have : Scalar.cmpi .sgt v 0#32 = 1#1 := by
      show IntOp.cmpi .sgt v 0#32 = 1#1
      have h0 : v.toNat ≠ 0 := fun e => h (BitVec.eq_of_toNat_eq e)
      rw [cmpi_sgt_eq, ofBool_decide_eq_one_iff, toInt_eq_toNat_of_lt_half hv]
      show (0 : Int) < _; omega
    dsimp only; rw [this]; decide
/-- The third test is for the count zero. -/
theorem cond3_iff (v : BitVec 32) : k0_cond3 v = 1#1 ↔ v = 0#32 := by
  unfold k0_cond3
  by_cases h : v = 0#32
  · subst h; exact ⟨fun _ => rfl, fun _ => by decide⟩
  · refine ⟨fun e => absurd e ?_, fun e => absurd e h⟩
    have : Scalar.cmpi .eq v 0#32 = 0#1 := by
      show IntOp.cmpi .eq v 0#32 = 0#1
      rw [cmpi_eq_eq, ofBool_decide_eq_zero_iff]; exact h
    dsimp only; rw [this]; decide

/-! ## The blocks are inside their arrays -/

/-- The block that the point's expert chooses. -/
theorem transform_1_eq (i : grid0.Coords) : cc0_transform_1 k0_off1_inb numel1_S1 (tbl m) i = ![0, (te m (nm i)).toNat, 0, 0] := by
  rw [← word_te]; rfl
/-- The block that the point's expert chooses. -/
theorem transform_2_eq (i : grid0.Coords) : cc0_transform_2 k0_off1_inb numel1_S1 (tbl m) i = ![(te m (nm i)).toNat, 0, 0] := by
  have h : cc0_transform_2 k0_off1_inb numel1_S1 (tbl m) i = ![(0#32 + te m (nm i)).toNat, 0, 0] := by
    rw [← word_te]; rfl
  rw [h, BitVec.zero_add]
/-- The block that the point's expert chooses. -/
theorem transform_3_eq (i : grid0.Coords) : cc0_transform_3 k0_off1_inb numel1_S1 (tbl m) i = ![0, (te m (nm i)).toNat, 0, 0] := by
  rw [← word_te]; rfl
/-- The block that the point's expert chooses. -/
theorem transform_4_eq (i : grid0.Coords) : cc0_transform_4 k0_off1_inb numel1_S1 (tbl m) i = ![(te m (nm i)).toNat, 0, 0] := by
  have h : cc0_transform_4 k0_off1_inb numel1_S1 (tbl m) i = ![(0#32 + te m (nm i)).toNat, 0, 0] := by
    rw [← word_te]; rfl
  rw [h, BitVec.zero_add]

/-- The blocks that the tables choose are inside their arrays. -/
theorem Good.ok (h : Good m) : Ok m := by
  refine ⟨fun i => ⟨?_, Or.inl rfl⟩, fun i => ⟨?_, Or.inl rfl⟩, fun i => ⟨?_, Or.inl rfl⟩, fun i => ⟨?_, Or.inl rfl⟩⟩ <;>
    have hlt := h.te_lt (nm i)
  · rw [transform_1_eq]; intro a; fin_cases a <;> simp <;> omega
  · rw [transform_2_eq]; intro a; fin_cases a <;> simp <;> omega
  · rw [transform_3_eq]; intro a; fin_cases a <;> simp <;> omega
  · rw [transform_4_eq]; intro a; fin_cases a <;> simp <;> omega

/-! ## The blocks at coordinates -/

/-- The window's block at a point. -/
theorem index_1 (hO : Ok m) (t : Fin (cfgM m hO).N) : ((cfgM m hO).win 1).index t = ![0, (te m (nm (grid0.coords t))).toNat, 0, 0] := transform_1_eq m _
/-- The window's block at a point. -/
theorem index_2 (hO : Ok m) (t : Fin (cfgM m hO).N) : ((cfgM m hO).win 2).index t = ![(te m (nm (grid0.coords t))).toNat, 0, 0] := transform_2_eq m _
/-- The window's block at a point. -/
theorem index_3 (hO : Ok m) (t : Fin (cfgM m hO).N) : ((cfgM m hO).win 3).index t = ![0, (te m (nm (grid0.coords t))).toNat, 0, 0] := transform_3_eq m _
/-- The window's block at a point. -/
theorem index_4 (hO : Ok m) (t : Fin (cfgM m hO).N) : ((cfgM m hO).win 4).index t = ![(te m (nm (grid0.coords t))).toNat, 0, 0] := transform_4_eq m _

/-- The expert of a grid point. -/
def ex (h : Good m) (t : Fin grid0.N) : Fin 32 := ⟨(te m (nm (grid0.coords t))).toNat, h.te_lt _⟩

/-- The window of gate and up-projection weights holds the expert's. -/
theorem iblk_1 (h : Good m) (c : Dev nD) (t : Fin (cfgM m h.ok).N) (d : Fin 1024) (j : Fin 2048) :
    (iblk m h.ok c 1 t : S1x1x1024x2048.Idx → Elt F .f32) (ix4 0 0 d j) = V m c main_arg4 (ix4 0 (ex m h t) d j) := by
  have e := index_1 m h.ok t
  blk_ext [iblk, e, ex]

/-- The window of down-projection weights holds the expert's. -/
theorem iblk_3 (h : Good m) (c : Dev nD) (t : Fin (cfgM m h.ok).N) (d : Fin 1024) (j : Fin 1024) :
    (iblk m h.ok c 3 t : S1x1x1024x1024.Idx → Elt F .f32) (ix4 0 0 d j) = V m c main_arg6 (ix4 0 (ex m h t) d j) := by
  have e := index_3 m h.ok t
  blk_ext [iblk, e, ex]
/-- The window of their biases holds the expert's. -/
theorem iblk_2 (h : Good m) (c : Dev nD) (t : Fin (cfgM m h.ok).N) (j : Fin 2048) :
    (iblk m h.ok c 2 t : S1x1x2048.Idx → Elt F .f32) (ix3 0 0 j) = V m c main_v0 (ix3 ⟨(ex m h t).val, by omega⟩ 0 j) := by
  have e := index_2 m h.ok t
  blk_ext [iblk, e, ex]
/-- The window of their biases holds the expert's. -/
theorem iblk_4 (h : Good m) (c : Dev nD) (t : Fin (cfgM m h.ok).N) (j : Fin 1024) :
    (iblk m h.ok c 4 t : S1x1x1024.Idx → Elt F .f32) (ix3 0 0 j) = V m c main_v1 (ix3 ⟨(ex m h t).val, by omega⟩ 0 j) := by
  have e := index_4 m h.ok t
  blk_ext [iblk, e, ex]
/-- The grid has one axis. -/
theorem coords_val : ∀ t : Fin grid0.N, (grid0.coords t 0).val = t.val := by decide +kernel
/-- The window's block at a point. -/
theorem index_0 (hO : Ok m) (t : Fin (cfgM m hO).N) : ((cfgM m hO).win 0).index t = ![0, 0, t.val, 0] :=
  (by decide +kernel : ∀ t : Fin grid0.N, cc0_transform_0 (grid0.coords t) = ![0, 0, t.val, 0]) t
/-- The grid has 162 points. -/
theorem lt_N (t : Fin grid0.N) : t.val < 162 := t.isLt
/-- The window of rows holds the point's tile of rows. -/
theorem iblk_0 (hO : Ok m) (c : Dev nD) (t : Fin (cfgM m hO).N) (p a : Fin 2) (i : Fin 512) (j : Fin 256) :
    (iblk m hO c 0 t : S2x2x512x256.Idx → Elt F .bf16) (ix4 p a i j) = V m c main_arg3 (ix4 p a ⟨512 * t.val + i.val, by have := lt_N t; omega⟩ j) := by
  have e := index_0 m hO t
  blk_ext [iblk, e]

/-- Points of one expert have one block of its weights. -/
theorem iblk_1_congr (h : Good m) (c : Dev nD) (t t' : Fin (cfgM m h.ok).N) (e : ex m h t = ex m h t') :
    (iblk m h.ok c 1 t : Vec F S1x1x1024x2048 .f32) = (iblk m h.ok c 1 t' : Vec F S1x1x1024x2048 .f32) := by
  refine funext fun x : S1x1x1024x2048.Idx => ?_
  obtain ⟨d, j, rfl⟩ : ∃ d j, x = ix4 0 0 d j := ⟨x 2, x 3, by idx_vars x; obtain rfl : x0 = 0 := Subsingleton.elim _ _; obtain rfl : x1 = 0 := Subsingleton.elim _ _; rfl⟩
  exact (iblk_1 m h c t d j).trans ((congrArg (fun k => V m c main_arg4 (ix4 0 k d j)) e).trans (iblk_1 m h c t' d j).symm)
/-- Likewise for the down-projection weights. -/
theorem iblk_3_congr (h : Good m) (c : Dev nD) (t t' : Fin (cfgM m h.ok).N) (e : ex m h t = ex m h t') :
    (iblk m h.ok c 3 t : Vec F S1x1x1024x1024 .f32) = (iblk m h.ok c 3 t' : Vec F S1x1x1024x1024 .f32) := by
  refine funext fun x : S1x1x1024x1024.Idx => ?_
  obtain ⟨d, j, rfl⟩ : ∃ d j, x = ix4 0 0 d j := ⟨x 2, x 3, by idx_vars x; obtain rfl : x0 = 0 := Subsingleton.elim _ _; obtain rfl : x1 = 0 := Subsingleton.elim _ _; rfl⟩
  exact (iblk_3 m h c t d j).trans ((congrArg (fun k => V m c main_arg6 (ix4 0 k d j)) e).trans (iblk_3 m h c t' d j).symm)

/-! ## The precondition -/

section Words
open Cert.Pre_tables Cert.Pre_tables.Gen
/-- The comparison of neighbours, at a later entry and at the first. -/
theorem same_succ (v : IVec Pre_tables.S162 32) (k : Fin 161) :
    concatenate Pre_tables.S162 0 [⟨S1, broadcastInDim S1 ![] bcast_S_S1 (constantI S_ 1 0#1)⟩,
      ⟨S161, cmpi .eq (extractStridedSlice S161 ![1] v slices_S162_S161_1) (extractStridedSlice S161 ![0] v slices_S162_S161_0)⟩]
      concatenates_S1_S161_S162_d0 (ix1 ⟨k.val + 1, by omega⟩) = IntOp.cmpi .eq (v (ix1 ⟨k.val + 1, by omega⟩)) (v (ix1 ⟨k.val, by omega⟩)) := by
  pointwise
  rw [dif_neg (by omega)]
  exact congrArg₂ (IntOp.cmpi .eq) (congrArg (fun i => v (ix1 i)) (Fin.ext (by show 1 + (k.val + 1 - 1) = k.val + 1; omega)))
    (congrArg (fun i => v (ix1 i)) (Fin.ext (by show k.val + 1 - 1 = k.val; omega)))
/-- The first tile has no tile before it. -/
theorem same_zero (v : IVec Pre_tables.S162 32) :
    concatenate Pre_tables.S162 0 [⟨S1, broadcastInDim S1 ![] bcast_S_S1 (constantI S_ 1 0#1)⟩,
      ⟨S161, cmpi .eq (extractStridedSlice S161 ![1] v slices_S162_S161_1) (extractStridedSlice S161 ![0] v slices_S162_S161_0)⟩]
      concatenates_S1_S161_S162_d0 (ix1 0) = 0#1 := by
  pointwise
end Words

/-- A word that is not below zero, as a natural. -/
theorem toNat_of_sge {v : BitVec 32} (h : IntOp.cmpi .sge v 0#32 = 1#1) : v.toNat < 2 ^ 31 := by
  rw [cmpi_sge_eq, ofBool_decide_eq_one_iff] at h
  have h0 : (0#32).toInt = 0 := rfl
  rw [h0, BitVec.toInt_eq_toNat_cond] at h
  have := v.isLt
  split at h <;> omega
/-- A word below 32 in both readings. -/
theorem toNat_of_slt {v : BitVec 32} (h : IntOp.cmpi .slt v 32#32 = 1#1) (h' : v.toNat < 2 ^ 31) : v.toNat < 32 := by
  rw [cmpi_slt_eq, ofBool_decide_eq_one_iff, toInt_eq_toNat_of_lt_half h'] at h
  have h0 : (32#32).toInt = 32 := rfl
  rw [h0] at h; omega
/-- A conjunction that holds. -/
theorem andi_one {a b : BitVec 1} (h : IntOp.andi a b = 1#1) : a = 1#1 ∧ b = 1#1 := by revert a b; decide
/-- A disjunction that holds. -/
theorem ori_one {a b : BitVec 1} (h : IntOp.ori a b = 1#1) : a = 1#1 ∨ b = 1#1 := by revert a b; decide

/-- The precondition gives it. -/
theorem good_of_pre (h : ∀ c : Dev nD, Cert.Pre_tables.fn (F := F) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) = fun _ => 1#1) : Good m := by
  have h0 : ∀ n : Fin 162, IntOp.andi (IntOp.andi (IntOp.andi (IntOp.cmpi .sge (te m n) 0#32) (IntOp.cmpi .slt (te m n) 32#32)) (IntOp.cmpi .sge (tr m n) 0#32))
      (IntOp.ori (IntOp.cmpi .eq (tf m n) 1#32) (concatenate Pre_tables.S162 0 [⟨Pre_tables.S1, broadcastInDim Pre_tables.S1 ![] Pre_tables.Gen.bcast_S_S1 (constantI Pre_tables.S_ 1 0#1)⟩,
      ⟨Pre_tables.S161, cmpi .eq (extractStridedSlice Pre_tables.S161 ![1] (m ((0 : Dev nD).tc.loc main_arg0)) Pre_tables.Gen.slices_S162_S161_1) (extractStridedSlice Pre_tables.S161 ![0] (m ((0 : Dev nD).tc.loc main_arg0)) Pre_tables.Gen.slices_S162_S161_0)⟩]
      Pre_tables.Gen.concatenates_S1_S161_S162_d0 (ix1 n))) = 1#1 := fun n => congrFun (h 0) (ix1 n)
  refine ⟨fun n => ?_, fun n => ?_, fun n => ?_⟩
  · obtain ⟨h1, -⟩ := andi_one (h0 n); obtain ⟨h1, -⟩ := andi_one h1; obtain ⟨ha, hb⟩ := andi_one h1
    exact toNat_of_slt hb (toNat_of_sge ha)
  · obtain ⟨h1, -⟩ := andi_one (h0 n); exact toNat_of_sge (andi_one h1).2
  · obtain ⟨-, h1⟩ := andi_one (h0 n)
    rcases ori_one h1 with h1 | h1
    · left; rwa [cmpi_eq_eq, ofBool_decide_eq_one_iff] at h1
    right
    obtain ⟨n, hn⟩ := n
    cases n with
    | zero => exact absurd ((same_zero _).symm.trans h1) (by decide)
    | succ k =>
      have h2 := (same_succ _ ⟨k, by omega⟩).symm.trans h1
      rw [cmpi_eq_eq, ofBool_decide_eq_one_iff] at h2
      exact ⟨⟨k, by omega⟩, rfl, h2.symm⟩

end Cert.Kernel2Ideal.Mo

end
-- ==== Proof.MoIFrame.lean ====
/- The run of `Cert.Kernel2Ideal`: at every grid point the scratch holds the point's expert's weights once the body has run, so the
   tile's result is a function of the arrays and the tables alone; from it the call's result and the frame. -/
module

public import proofs.«01_k».proof.Proof.MoISpec
public import proofs.«01_k».proof.Proof.MoITab

@[expose] public section

set_option maxRecDepth 16384

noncomputable section

namespace Cert.Kernel2Ideal.Mo

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The scratch once the body has run at point `t`: its expert's weights, cast. -/
def scr0 (hO : Ok m) (c : Dev nD) (t : Fin (cfgM m hO).N) : Vec F S1024x2048 .bf16 := k0_pay1 (iblk m hO c 1 t)
/-- The second scratch after a point, likewise. -/
def scr1 (hO : Ok m) (c : Dev nD) (t : Fin (cfgM m hO).N) : Vec F S1024x1024 .bf16 := k0_pay2 (iblk m hO c 3 t)

/-- The rows of point `t`'s tile. -/
def rowsAt (hO : Ok m) (c : Dev nD) (t : Fin (cfgM m hO).N) : FVec F S512x1024 .f32 :=
  rows (word (grid0.coords t) (tbl m 2)) (iblk m hO c 0 t) (iblk m hO c 2 t) (iblk m hO c 4 t) (scr0 m hO c t) (scr1 m hO c t)

/-- What the body leaves of the result at point `t`. -/
def outAt (hO : Ok m) (c : Dev nD) (t : Fin (cfgM m hO).N) : Vec F S2x2x512x256 .bf16 :=
  if k0_cond2 (word (grid0.coords t) (tbl m 2)) = 1#1 then busy (rowsAt m hO c t) else k0_pay7

/-- Between points: the scratch holds the weights of the expert of the point before. -/
def Inv (hO : Ok m) (c : Dev nD) (n : ℕ) : sProp 𝕄 :=
  iprop((∃ e0, ∃ e1, ⌜∀ k : Fin (cfgM m hO).N, k.val + 1 = n → e0 = scr0 m hO c k ∧ e1 = scr1 m hO c k⌝
      ∗ owns (c : Thread nD τ) sc0 fullShare e0 ∗ owns (c : Thread nD τ) sc1 fullShare e1)
    ∗ (∃ r, prngReg c r) ∗ Pipeline.ΦT pre0 (tbl m) c)

/-- The proof data of the one pipeline on core `c`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ t := Inv m hO c t.val
  q _ := fullShare
  owed _ := 0

/-- The arrays as the call finds them. -/
theorem A_eq (hO : Ok m) (c : Dev nD) (w : Fin (cfgM m hO).W) : (dats m hO 0 c).A w = V m c (Pipeline.arrRef spec0 w) := by
  dsimp only [dats]

/-- What the window holds after a point: an input is kept. -/
theorem after_0 (hO : Ok m) (c : Dev nD) (t : Fin (cfgM m hO).N) : (dats m hO 0 c).after 0 t = iblk m hO c 0 t := by dsimp only [dats]; try rfl
/-- What the window holds after a point: an input is kept. -/
theorem after_1 (hO : Ok m) (c : Dev nD) (t : Fin (cfgM m hO).N) : (dats m hO 0 c).after 1 t = iblk m hO c 1 t := by dsimp only [dats]; try rfl
/-- What the window holds after a point: an input is kept. -/
theorem after_2 (hO : Ok m) (c : Dev nD) (t : Fin (cfgM m hO).N) : (dats m hO 0 c).after 2 t = iblk m hO c 2 t := by dsimp only [dats]; try rfl
/-- What the window holds after a point: an input is kept. -/
theorem after_3 (hO : Ok m) (c : Dev nD) (t : Fin (cfgM m hO).N) : (dats m hO 0 c).after 3 t = iblk m hO c 3 t := by dsimp only [dats]; try rfl
/-- What the window holds after a point: an input is kept. -/
theorem after_4 (hO : Ok m) (c : Dev nD) (t : Fin (cfgM m hO).N) : (dats m hO 0 c).after 4 t = iblk m hO c 4 t := by dsimp only [dats]; try rfl
/-- What the result's window holds after a point. -/
theorem after_5 (hO : Ok m) (c : Dev nD) (t : Fin (cfgM m hO).N) : (dats m hO 0 c).after 5 t = outAt m hO c t := by dsimp only [dats]; try rfl
/-- What the window holds before a point: its block. -/
theorem before_0 (hO : Ok m) (c : Dev nD) (t : Fin (cfgM m hO).N) (d) : (dats m hO 0 c).before 0 t d = iblk m hO c 0 t :=
  before_0_of m hO (dats m hO 0 c) (A_eq m hO c 0) (after_0 m hO c) t d
/-- What the window holds before a point: its block. -/
theorem before_1 (hO : Ok m) (c : Dev nD) (t : Fin (cfgM m hO).N) (d) : (dats m hO 0 c).before 1 t d = iblk m hO c 1 t :=
  before_1_of m hO (dats m hO 0 c) (A_eq m hO c 1) (after_1 m hO c) t d
/-- What the window holds before a point: its block. -/
theorem before_2 (hO : Ok m) (c : Dev nD) (t : Fin (cfgM m hO).N) (d) : (dats m hO 0 c).before 2 t d = iblk m hO c 2 t :=
  before_2_of m hO (dats m hO 0 c) (A_eq m hO c 2) (after_2 m hO c) t d
/-- What the window holds before a point: its block. -/
theorem before_3 (hO : Ok m) (c : Dev nD) (t : Fin (cfgM m hO).N) (d) : (dats m hO 0 c).before 3 t d = iblk m hO c 3 t :=
  before_3_of m hO (dats m hO 0 c) (A_eq m hO c 3) (after_3 m hO c) t d
/-- What the window holds before a point: its block. -/
theorem before_4 (hO : Ok m) (c : Dev nD) (t : Fin (cfgM m hO).N) (d) : (dats m hO 0 c).before 4 t d = iblk m hO c 4 t :=
  before_4_of m hO (dats m hO 0 c) (A_eq m hO c 4) (after_4 m hO c) t d

/-! ## The body, at any point -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d)))
/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t))

/-- A tile that is not marked the first finds its own expert's weights in the scratch. -/
theorem scr_before (h : Good m) (c : Dev nD) (t : Fin (cfgM m h.ok).N) (hf : ¬isFirst (word (grid0.coords t) (tbl m 1)))
    (e0 : Vec F S1024x2048 .bf16) (e1 : Vec F S1024x1024 .bf16)
    (he : ∀ k : Fin (cfgM m h.ok).N, k.val + 1 = t.val → e0 = scr0 m h.ok c k ∧ e1 = scr1 m h.ok c k) :
    e0 = scr0 m h.ok c t ∧ e1 = scr1 m h.ok c t := by
  rw [isFirst_iff, word_tf] at hf
  rcases h.tf_or (nm (grid0.coords t)) with h1 | ⟨k, hk, hte⟩
  · exact absurd h1 hf
  have ht : (nm (grid0.coords t)).val = t.val := coords_val t
  have hkv : (nm (grid0.coords (⟨k.val, k.isLt⟩ : Fin grid0.N))) = k := Fin.ext (coords_val ⟨k.val, k.isLt⟩)
  have hx : ex m h (⟨k.val, k.isLt⟩ : Fin grid0.N) = ex m h t := Fin.ext (by
    show (te m (nm (grid0.coords (⟨k.val, k.isLt⟩ : Fin grid0.N)))).toNat = (te m (nm (grid0.coords t))).toNat
    rw [hkv, hte])
  obtain ⟨a, b⟩ := he (⟨k.val, k.isLt⟩ : Fin grid0.N) (hk.trans ht)
  exact ⟨a.trans (congrArg k0_pay1 (iblk_1_congr m h c _ t hx)), b.trans (congrArg k0_pay2 (iblk_3_congr m h c _ t hx))⟩

set_option maxHeartbeats 3200000 in
/-- The body at any point. -/
theorem sound_body (h : Good m) (c : Dev nD) (t : Fin (cfgM m h.ok).N) :
    bodyPre m h.ok c t ⊢ wp frame (wpE (defs₀ (F := F)) Variants.none c none) Set.univ (bodyAt (adm m h.ok) t) (fun _ => bodyPost m h.ok c t) := by
  unfold bodyPre bodyPost bodyAt
  simp only [before_0, before_1, before_2, before_3, before_4]
  rw [show (dats m h.ok 0 c).owesAt () t.succ = (dats m h.ok 0 c).owesAt () t.castSucc from rfl,
    after_0, after_1, after_2, after_3, after_4, after_5,
    show (dats m h.ok 0 c).Φ t.castSucc = Inv m h.ok c t.val from rfl, show (dats m h.ok 0 c).Φ t.succ = Inv m h.ok c (t.val + 1) from rfl]
  unfold Inv
  rw [PhiT_eq]
  have htr : (word (grid0.coords t) (tbl m 2)).toNat < 2 ^ 31 := by rw [word_tr]; exact h.tr_nn _
  by_cases h1 : isFirst (word (grid0.coords t) (tbl m 1)) <;> by_cases h2 : k0_cond2 (word (grid0.coords t) (tbl m 2)) = 1#1
  · have h3 : ¬k0_cond3 (word (grid0.coords t) (tbl m 2)) = 1#1 := fun e => (cond2_iff _ htr).1 h2 ((cond3_iff _).1 e)
    rw [show outAt m h.ok c t = busy (rowsAt m h.ok c t) from if_pos h2]
    iintro ⟨⟨⟨%e0, %e1, %he, HS0, HS1⟩, Hg, ⟨HT0, HT1, HT2⟩⟩, Ho, ⟨%d0, H0⟩, ⟨%d1, H1⟩, ⟨%d2, H2⟩, ⟨%d3, H3⟩, ⟨%d4, H4⟩, ⟨%d5, H5⟩⟩
    iapply (stepA c (grid0.coords t) _ _ _ _ _ _ _ _ _ _ _ _ _ _ _ _ (iblk m h.ok c 0 t) (iblk m h.ok c 1 t) (iblk m h.ok c 2 t) (iblk m h.ok c 3 t) (iblk m h.ok c 4 t) e0 e1 (tbl m 0) (tbl m 1) (tbl m 2) h1 h2 h3 _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HT0]; · iexact HT0
    isplitl [HT1]; · iexact HT1
    isplitl [HT2]; · iexact HT2
    iintro ⟨H0, H1, H2, H3, H4, H5, HS0, HS1, HT0, HT1, HT2⟩
    isplitl [HS0 HS1 Hg HT0 HT1 HT2]
    · isplitl [HS0 HS1]
      · iexists (scr0 m h.ok c t); iexists (scr1 m h.ok c t)
        isplitr
        · ipureintro; intro k hk; obtain rfl : k = t := Fin.ext (Nat.succ.inj hk); exact ⟨rfl, rfl⟩
        isplitl [HS0]; · iexact HS0
        iexact HS1
      isplitl [Hg]; · iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    iexact H5
  · have h3 : k0_cond3 (word (grid0.coords t) (tbl m 2)) = 1#1 := (cond3_iff _).2 (by by_contra e; exact h2 ((cond2_iff _ htr).2 e))
    rw [show outAt m h.ok c t = k0_pay7 from if_neg h2]
    iintro ⟨⟨⟨%e0, %e1, %he, HS0, HS1⟩, Hg, ⟨HT0, HT1, HT2⟩⟩, Ho, ⟨%d0, H0⟩, ⟨%d1, H1⟩, ⟨%d2, H2⟩, ⟨%d3, H3⟩, ⟨%d4, H4⟩, ⟨%d5, H5⟩⟩
    iapply (stepB c (grid0.coords t) _ _ _ _ _ _ _ _ _ _ _ _ _ _ _ _ (iblk m h.ok c 0 t) (iblk m h.ok c 1 t) (iblk m h.ok c 2 t) (iblk m h.ok c 3 t) (iblk m h.ok c 4 t) e0 e1 (tbl m 0) (tbl m 1) (tbl m 2) h1 h2 h3 _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HT0]; · iexact HT0
    isplitl [HT1]; · iexact HT1
    isplitl [HT2]; · iexact HT2
    iintro ⟨H0, H1, H2, H3, H4, H5, HS0, HS1, HT0, HT1, HT2⟩
    isplitl [HS0 HS1 Hg HT0 HT1 HT2]
    · isplitl [HS0 HS1]
      · iexists (scr0 m h.ok c t); iexists (scr1 m h.ok c t)
        isplitr
        · ipureintro; intro k hk; obtain rfl : k = t := Fin.ext (Nat.succ.inj hk); exact ⟨rfl, rfl⟩
        isplitl [HS0]; · iexact HS0
        iexact HS1
      isplitl [Hg]; · iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    iexact H5
  · have h3 : ¬k0_cond3 (word (grid0.coords t) (tbl m 2)) = 1#1 := fun e => (cond2_iff _ htr).1 h2 ((cond3_iff _).1 e)
    rw [show outAt m h.ok c t = busy (rowsAt m h.ok c t) from if_pos h2]
    iintro ⟨⟨⟨%e0, %e1, %he, HS0, HS1⟩, Hg, ⟨HT0, HT1, HT2⟩⟩, Ho, ⟨%d0, H0⟩, ⟨%d1, H1⟩, ⟨%d2, H2⟩, ⟨%d3, H3⟩, ⟨%d4, H4⟩, ⟨%d5, H5⟩⟩
    obtain ⟨rfl, rfl⟩ := scr_before m h c t h1 e0 e1 he
    iapply (stepC c (grid0.coords t) _ _ _ _ _ _ _ _ _ _ _ _ _ _ _ _ (iblk m h.ok c 0 t) (iblk m h.ok c 1 t) (iblk m h.ok c 2 t) (iblk m h.ok c 3 t) (iblk m h.ok c 4 t) (scr0 m h.ok c t) (scr1 m h.ok c t) (tbl m 0) (tbl m 1) (tbl m 2) h1 h2 h3 _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HT0]; · iexact HT0
    isplitl [HT1]; · iexact HT1
    isplitl [HT2]; · iexact HT2
    iintro ⟨H0, H1, H2, H3, H4, H5, HS0, HS1, HT0, HT1, HT2⟩
    isplitl [HS0 HS1 Hg HT0 HT1 HT2]
    · isplitl [HS0 HS1]
      · iexists (scr0 m h.ok c t); iexists (scr1 m h.ok c t)
        isplitr
        · ipureintro; intro k hk; obtain rfl : k = t := Fin.ext (Nat.succ.inj hk); exact ⟨rfl, rfl⟩
        isplitl [HS0]; · iexact HS0
        iexact HS1
      isplitl [Hg]; · iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    iexact H5
  · have h3 : k0_cond3 (word (grid0.coords t) (tbl m 2)) = 1#1 := (cond3_iff _).2 (by by_contra e; exact h2 ((cond2_iff _ htr).2 e))
    rw [show outAt m h.ok c t = k0_pay7 from if_neg h2]
    iintro ⟨⟨⟨%e0, %e1, %he, HS0, HS1⟩, Hg, ⟨HT0, HT1, HT2⟩⟩, Ho, ⟨%d0, H0⟩, ⟨%d1, H1⟩, ⟨%d2, H2⟩, ⟨%d3, H3⟩, ⟨%d4, H4⟩, ⟨%d5, H5⟩⟩
    obtain ⟨rfl, rfl⟩ := scr_before m h c t h1 e0 e1 he
    iapply (stepD c (grid0.coords t) _ _ _ _ _ _ _ _ _ _ _ _ _ _ _ _ (iblk m h.ok c 0 t) (iblk m h.ok c 1 t) (iblk m h.ok c 2 t) (iblk m h.ok c 3 t) (iblk m h.ok c 4 t) (scr0 m h.ok c t) (scr1 m h.ok c t) (tbl m 0) (tbl m 1) (tbl m 2) h1 h2 h3 _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HT0]; · iexact HT0
    isplitl [HT1]; · iexact HT1
    isplitl [HT2]; · iexact HT2
    iintro ⟨H0, H1, H2, H3, H4, H5, HS0, HS1, HT0, HT1, HT2⟩
    isplitl [HS0 HS1 Hg HT0 HT1 HT2]
    · isplitl [HS0 HS1]
      · iexists (scr0 m h.ok c t); iexists (scr1 m h.ok c t)
        isplitr
        · ipureintro; intro k hk; obtain rfl : k = t := Fin.ext (Nat.succ.inj hk); exact ⟨rfl, rfl⟩
        isplitl [HS0]; · iexact HS0
        iexact HS1
      isplitl [Hg]; · iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt` spells it. -/
theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- The third table at a point's offset is the tile's count of rows. -/
theorem atD_tr (i : grid0.Coords) (off : Fin 1 → ℕ) (ho : off = k0_off1 i) : Pipeline.Prefetch.Contents.atD (tbl m) 2 off = tr m (nm i) := by
  subst ho
  have hb : ∀ a, k0_off1 i a + 1 ≤ (pre0.ref 2).ty.shape.size a := fun a => by
    obtain rfl : a = (0 : Fin 1) := Fin.ext (Nat.lt_one_iff.1 a.isLt)
    exact k0_off1_inb i 0
  refine (show Pipeline.Prefetch.Contents.atD (tbl m) 2 (k0_off1 i) = tbl m 2 (fun a => ⟨k0_off1 i a, hb a⟩) from dif_pos hb).trans
    (Eq.trans (congrArg (tbl m 2) (funext fun a => ?_)) (tbl_2 m (nm i)))
  obtain rfl : a = (0 : Fin 1) := Fin.ext (Nat.lt_one_iff.1 a.isLt)
  exact Fin.ext (by show k0_off1 i 0 = (nm i).val; rw [off1_eq])

/-- Every point writes the result's window. -/
theorem idle_5 (h : Good m) (t : Fin (cfgM m h.ok).N) : (cfgM m h.ok).idle 5 ((cfgM m h.ok).grid.coords t) = false := by
  have e : (cfgM m h.ok).idle 5 ((cfgM m h.ok).grid.coords t)
      = (!(k0_cond2 (tr m (nm (grid0.coords t))) == 1#1) && !(k0_cond3 (tr m (nm (grid0.coords t))) == 1#1)) :=
    congrArg₂ (fun a b => !(k0_cond2 a == 1#1) && !(k0_cond3 b == 1#1)) (atD_tr m (grid0.coords t) (k0_off2 (grid0.coords t)) rfl)
      (atD_tr m (grid0.coords t) (k0_off4 (grid0.coords t)) rfl)
  rw [e]
  by_cases hz : tr m (nm (grid0.coords t)) = 0#32
  · simp [(cond3_iff _).2 hz]
  · simp [(cond2_iff _ (h.tr_nn _)).2 hz]

/-- The body obligation of the pipeline. -/
theorem body_obligation (h : Good m) (c : Dev nD) : BodyObligation (dats (F := F) m h.ok 0 c) (defs₀ (F := F)) Variants.none () Set.univ := fun t => by
  rw [bigSep_W0, bigSep_W0, defs₀_row m h.ok]
  simp only [idle_5 m h t]
  refine triple_restated (sound_body m h c t) rfl .rfl fun _ => ?_
  unfold bodyPost
  rw [show idle0 (tbl m) 5 ((pcfg0.gridAt (tbl m)).coords t) = false from idle_5 m h t]

/-! ## The run -/

/-- What a core holds at the call gives the invariant before the first point, -/
theorem inv_in (hO : Ok m) (c : Dev nD) : iprop(Pipeline.ΦA spec0 c ∗ Pipeline.ΦT pre0 (tbl m) c) ⊢ (Inv m hO c 0 : sProp 𝕄) := by
  rw [PhiA_eq]; unfold Inv
  iintro ⟨⟨⟨⟨%e0, HS0⟩, ⟨%e1, HS1⟩⟩, Hg⟩, HT⟩
  isplitl [HS0 HS1]
  · iexists e0; iexists e1
    isplitr; · ipureintro; exact fun k hk => absurd hk (Nat.succ_ne_zero _)
    isplitl [HS0]; · iexact HS0
    iexact HS1
  isplitl [Hg]; · iexact Hg
  iexact HT
/-- and the invariant after the last gives it back. -/
theorem inv_out (hO : Ok m) (c : Dev nD) (n : ℕ) : (Inv m hO c n : sProp 𝕄) ⊢ Pipeline.ΦA spec0 c := by
  rw [PhiA_eq]; unfold Inv
  iintro ⟨⟨%e0, %e1, -, HS0, HS1⟩, Hg, -⟩
  isplitl [HS0 HS1]
  · isplitl [HS0]; · iexists e0; iexact HS0
    iexists e1; iexact HS1
  iexact Hg

set_option backward.isDefEq.respectTransparency.types false in
/-- The run: every array of the pipeline ends at what the proof data computes, every other buffer as the call found it, and
    every counter at zero. -/
theorem run_main (h : Good m) : θ_run defs (onTc (τ := τ) (main (F := F))) (s₀ m ρ) (fun r => (Pipeline.FramePost (Pipeline.pin pcfgs fun _ => adm m h.ok) (dats m h.ok) 0 (V m)) r ∧ r.2.sem = fun _ => 0) :=
  Pipeline.θ_run_frameP_track (Q' := _) pcfgs (fun _ => adm m h.ok) (dats m h.ok) (0 : Fin 1) launch0 defs₀ Variants.none m ρ main
    (hbody := fun c => (body_obligation m h c).loose) (hshare := fun c => (dats m h.ok 0 c).share_full fun _ => rfl)
    (howed := fun _ _ => rfl) (V := V m) (hmain := hmain m Variants.none) (hA := A_eq m h.ok) (hpf := V_pre m)
    (hin := fun c => inv_in m h.ok c) (hout := fun c => inv_out m h.ok c _)

/-- The frame: the program runs, its eight arguments end unchanged, and every counter is at zero. -/
theorem frame (h : Good m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r hr => ⟨fun c => frame_of m h.ok (dats m h.ok) (A_eq m h.ok) r hr.1 c, hr.2⟩) (run_main m ρ h)

end Cert.Kernel2Ideal.Mo

end
-- ==== Proof.MoMath.lean ====
module

public import Idealize.ShloMosaic.Lib.Pointwise

/-! The experts' network of one row over the extended reals, as plain sums of products, and the one law of sums that the
    kernel's order of the hidden features asks for. -/

@[expose] public section

noncomputable section
namespace Cert.Experts
open Idealize.ShloMosaic

/-- The gated unit of a gate and an up-projection, both clipped. -/
def act (g u : EReal) : EReal :=
  (min (Ideal.ofBits .f32 0x40E00000#32) (max (Ideal.ofBits .f32 0xC0E00000#32) u) + 1) * min g (Ideal.ofBits .f32 0x40E00000#32)
    * Ideal.logistic (Ideal.ofBits .f32 0x3FD9DB23#32 * min g (Ideal.ofBits .f32 0x40E00000#32))

/-- Gate and up-projection `j` of a row `x` of 1024 features. -/
def gateUp (x : Fin 1024 → EReal) (w : Fin 1024 → Fin 2048 → EReal) (b : Fin 2048 → EReal) (j : Fin 2048) : EReal :=
  (∑ d : Fin 1024, x d * w d j) + b j

/-- Feature `n` of what an expert makes of a row `x`. -/
def net (x : Fin 1024 → EReal) (w : Fin 1024 → Fin 2048 → EReal) (b : Fin 2048 → EReal) (v : Fin 1024 → Fin 1024 → EReal)
    (c : Fin 1024 → EReal) (n : Fin 1024) : EReal :=
  (∑ e : Fin 1024, act (gateUp x w b ⟨e.val, by omega⟩) (gateUp x w b ⟨1024 + e.val, by omega⟩) * v e n) + c n

/-- A sum over 1024 features is the sum of its four quarters, in the order that the kernel adds them after the bias. -/
theorem quarters (f : Fin 1024 → EReal) (b : EReal) :
    b + (∑ k : Fin 256, f ⟨k.val, by omega⟩) + (∑ k : Fin 256, f ⟨512 + k.val, by omega⟩) + (∑ k : Fin 256, f ⟨256 + k.val, by omega⟩)
      + (∑ k : Fin 256, f ⟨768 + k.val, by omega⟩) = (∑ d : Fin 1024, f d) + b := by
  have e : (∑ d : Fin 1024, f d) = ∑ q : Fin 4, ∑ k : Fin 256, f ⟨256 * q.val + k.val, by omega⟩ := by
    rw [← Fintype.sum_prod_type']
    refine (Fintype.sum_equiv (finProdFinEquiv (m := 4) (n := 256)) _ _ fun p => ?_).symm
    exact congrArg f (Fin.ext (by show 256 * p.1.val + p.2.val = p.2.val + 256 * p.1.val; omega))
  have e0 : (∑ k : Fin 256, f ⟨256 * (0 : Fin 4).val + k.val, by omega⟩) = ∑ k : Fin 256, f ⟨k.val, by omega⟩ :=
    Finset.sum_congr rfl fun k _ => congrArg f (Fin.ext (Nat.zero_add _))
  rw [e, Fin.sum_univ_four, e0]
  show _ = (∑ k : Fin 256, f ⟨k.val, by omega⟩) + (∑ k : Fin 256, f ⟨256 + k.val, by omega⟩) + (∑ k : Fin 256, f ⟨512 + k.val, by omega⟩)
    + (∑ k : Fin 256, f ⟨768 + k.val, by omega⟩) + b
  generalize (∑ k : Fin 256, f ⟨k.val, by omega⟩) = p, (∑ k : Fin 256, f ⟨256 + k.val, by omega⟩) = q,
    (∑ k : Fin 256, f ⟨512 + k.val, by omega⟩) = r, (∑ k : Fin 256, f ⟨768 + k.val, by omega⟩) = s
  ac_rfl

/-- The tile of a row. -/
def tile (n : Fin 82944) : Fin 162 := ⟨n.val / 512, by omega⟩
/-- The expert that a word names. -/
def expert (w : BitVec 32) : Fin 32 := ⟨w.toNat % 32, Nat.mod_lt _ (by decide)⟩
/-- A row of the tokens, put together from its four parts; the rows from the tile's count `w` on are zero. -/
def row (w : BitVec 32) (xs : Fin 2 → Fin 2 → Fin 82944 → Fin 256 → EReal) (n : Fin 82944) (d : Fin 1024) : EReal :=
  Scalar.select (IntOp.cmpi .slt (BitVec.ofNat 32 (n.val % 512)) w) (xs ⟨d.val / 256 % 2, by omega⟩ ⟨d.val / 512, by omega⟩ n ⟨d.val % 256, by omega⟩) 0

/-- The experts' result, by the two halves `p`, `q` that a feature lies in, its row `n` and its place `k` in the half: the network of the
    tile's expert, and zero where the tile has no rows. -/
def moe (te tr : Fin 162 → BitVec 32) (xs : Fin 2 → Fin 2 → Fin 82944 → Fin 256 → EReal) (wg : Fin 32 → Fin 1024 → Fin 2048 → EReal)
    (bg : Fin 32 → Fin 2048 → EReal) (wd : Fin 32 → Fin 1024 → Fin 1024 → EReal) (bd : Fin 32 → Fin 1024 → EReal)
    (p q : Fin 2) (n : Fin 82944) (k : Fin 256) : EReal :=
  if tr (tile n) = 0#32 then 0 else
    net (row (tr (tile n)) xs n) (wg (expert (te (tile n)))) (bg (expert (te (tile n)))) (wd (expert (te (tile n)))) (bd (expert (te (tile n))))
      ⟨512 * q.val + 256 * p.val + k.val, by omega⟩

end Cert.Experts

end
-- ==== Proof.MoTile.lean ====
module

public import proofs.«01_k».proof.Proof.MoISpec
public import proofs.«01_k».proof.Proof.MoMath
public import Idealize.ShloMosaic.Lib.Pointwise

/-! What the experts' kernel computes of one tile, index by index: the network of each row, the rows past the tile's count
    read as zero. -/

@[expose] public section

set_option maxRecDepth 16384

noncomputable section
namespace Cert.Kernel2Ideal.Mo
open Idealize.ShloMosaic Idealize.ShloMosaic.TcCoe Idealize.SL.Sem Cert.Kernel2Ideal Cert.Kernel2Ideal.Gen Cert.Experts

/-- Entry `k` of a row's block `(p, q)`, zero past the count of rows. -/
def xin (w : BitVec 32) (x0 : FVec Ideal S2x2x512x256 .bf16) (a : Fin 512) (p q : Fin 2) (k : Fin 256) : EReal :=
  Scalar.select (IntOp.cmpi .slt (BitVec.ofNat 32 a.val) w) (x0 (ix4 p q a k)) 0

/-- Feature `d` of a row: block `(p, q)` holds features `512 q + 256 p` and on. -/
def xrow (w : BitVec 32) (x0 : FVec Ideal S2x2x512x256 .bf16) (a : Fin 512) (d : Fin 1024) : EReal :=
  xin w x0 a ⟨d.val / 256 % 2, by omega⟩ ⟨d.val / 512, by omega⟩ ⟨d.val % 256, by omega⟩

/-- The first plane, low half, holds features 0 to 255. -/
theorem xrow_00 (w) (x0) (a : Fin 512) (k : Fin 256) : xrow w x0 a ⟨k.val, by omega⟩ = xin w x0 a 0 0 k := by
  unfold xrow; congr 1 <;> refine Fin.ext ?_ <;> dsimp only <;> omega

/-- The gates and up-projections over the first plane, element by element. -/
theorem gu3_at (w : BitVec 32) (x0 : FVec Ideal S2x2x512x256 .bf16) (x2 : FVec Ideal S1x1x2048 .f32) (d0 : FVec Ideal S1024x2048 .bf16)
    (a : Fin 512) (j : Fin 2048) : gu3 (F := Ideal) w x0 x2 d0 (ix2 a j)
      = x2 (ix3 0 0 j) + (∑ k : Fin 256, xin w x0 a 0 0 k * d0 (ix2 ⟨k.val, by omega⟩ j)) + (∑ k : Fin 256, xin w x0 a 0 1 k * d0 (ix2 ⟨512 + k.val, by omega⟩ j)) := by
  unfold gu3 xin
  pointwise [k0_pay9, k0_pay8]

/-- The first plane, high half, holds features 512 to 767. -/
theorem xrow_01 (w) (x0) (a : Fin 512) (k : Fin 256) : xrow w x0 a ⟨512 + k.val, by omega⟩ = xin w x0 a 0 1 k := by
  unfold xrow; congr 1 <;> refine Fin.ext ?_ <;> dsimp only <;> omega
/-- The second plane, low half, holds features 256 to 511. -/
theorem xrow_10 (w) (x0) (a : Fin 512) (k : Fin 256) : xrow w x0 a ⟨256 + k.val, by omega⟩ = xin w x0 a 1 0 k := by
  unfold xrow; congr 1 <;> refine Fin.ext ?_ <;> dsimp only <;> omega
/-- The second plane, high half, holds features 768 to 1023. -/
theorem xrow_11 (w) (x0) (a : Fin 512) (k : Fin 256) : xrow w x0 a ⟨768 + k.val, by omega⟩ = xin w x0 a 1 1 k := by
  unfold xrow; congr 1 <;> refine Fin.ext ?_ <;> dsimp only <;> omega

/-- The four products, added to the bias in the kernel's order, are the row's gate or up-projection. -/
theorem gateUp_eq (w : BitVec 32) (x0 : FVec Ideal S2x2x512x256 .bf16) (x2 : FVec Ideal S1x1x2048 .f32) (d0 : FVec Ideal S1024x2048 .bf16)
    (a : Fin 512) (j : Fin 2048) :
    x2 (ix3 0 0 j) + (∑ k : Fin 256, xin w x0 a 0 0 k * d0 (ix2 ⟨k.val, by omega⟩ j)) + (∑ k : Fin 256, xin w x0 a 0 1 k * d0 (ix2 ⟨512 + k.val, by omega⟩ j))
      + (∑ k : Fin 256, xin w x0 a 1 0 k * d0 (ix2 ⟨256 + k.val, by omega⟩ j)) + (∑ k : Fin 256, xin w x0 a 1 1 k * d0 (ix2 ⟨768 + k.val, by omega⟩ j))
      = gateUp (xrow w x0 a) (fun d j => d0 (ix2 d j)) (fun j => x2 (ix3 0 0 j)) j := by
  unfold gateUp
  rw [← quarters]
  simp only [xrow_00, xrow_01, xrow_10, xrow_11]

/-- An entry of a tile's rows. -/
theorem rows_at (w : BitVec 32) (x0 : FVec Ideal S2x2x512x256 .bf16) (x2 : FVec Ideal S1x1x2048 .f32) (x4 : FVec Ideal S1x1x1024 .f32)
    (d0 : FVec Ideal S1024x2048 .bf16) (d1 : FVec Ideal S1024x1024 .bf16) (a : Fin 512) (n : Fin 1024) :
    rows (F := Ideal) w x0 x2 x4 d0 d1 (ix2 a n)
      = net (xrow w x0 a) (fun d j => d0 (ix2 d j)) (fun j => x2 (ix3 0 0 j)) (fun e n => d1 (ix2 e n)) (fun n => x4 (ix3 0 0 n)) n := by
  unfold net act
  simp only [← gateUp_eq, ← gu3_at]
  unfold rows xin
  generalize gu3 (F := Ideal) w x0 x2 d0 = G
  pointwise [k0_pay11, k0_pay10, k0_pay8]

end Cert.Kernel2Ideal.Mo

end
-- ==== Proof.MoArr.lean ====
module

public import proofs.«01_k».proof.Proof.MoIFrame
public import proofs.«01_k».proof.Proof.MoTile
public import Idealize.ShloMosaic.Lib.Pipeline.ValueKit
public import Idealize.ShloMosaic.Lib.Pointwise
public import Idealize.ShloMosaic.Lib.Claim

/-! What the experts' kernel leaves in its result array, and its run. -/

@[expose] public section

set_option maxRecDepth 16384

noncomputable section
namespace Cert.Kernel2Ideal.Mo
open Idealize.ShloMosaic Idealize.ShloMosaic.TcCoe Idealize.SL.Sem Cert.Kernel2Ideal Cert.Kernel2Ideal.Gen Cert.Experts
open Idealize.ShloMosaic.Pipeline (Dat)

/-! ## A tile's block -/

/-- The quarter stored in the first plane's low half. -/
theorem pay3_at (Y : FVec Ideal S512x1024 .f32) (a : Fin 512) (k : Fin 256) :
    k0_pay3 (F := Ideal) (truncf .bf16 (extractStridedSlice S512x256 ![0, 0] Y slices_S512x1024_o0_0_S512x256) bitsLt_bf16_f32) (ix4 0 0 a k) = Y (ix2 a ⟨k.val, by omega⟩) := by
  pointwise [k0_pay3]
/-- The quarter stored in the first plane's high half. -/
theorem pay4_at (Y : FVec Ideal S512x1024 .f32) (a : Fin 512) (k : Fin 256) : k0_pay4 (F := Ideal) Y (ix4 0 0 a k) = Y (ix2 a ⟨512 + k.val, by omega⟩) := by
  pointwise [k0_pay4]
/-- The quarter stored in the second plane's low half. -/
theorem pay5_at (Y : FVec Ideal S512x1024 .f32) (a : Fin 512) (k : Fin 256) : k0_pay5 (F := Ideal) Y (ix4 0 0 a k) = Y (ix2 a ⟨256 + k.val, by omega⟩) := by
  pointwise [k0_pay5]
/-- The quarter stored in the second plane's high half. -/
theorem pay6_at (Y : FVec Ideal S512x1024 .f32) (a : Fin 512) (k : Fin 256) : k0_pay6 (F := Ideal) Y (ix4 0 0 a k) = Y (ix2 a ⟨768 + k.val, by omega⟩) := by
  pointwise [k0_pay6]
/-- An idle tile stores zeros. -/
theorem pay7_at (y : S2x2x512x256.Idx) : k0_pay7 (F := Ideal) y = 0 := by
  idx_vars y
  pointwise [k0_pay7]
/-- The scratch takes the gate and up-projection weights as they are. -/
theorem pay1_at (x : FVec Ideal S1x1x1024x2048 .f32) (d : Fin 1024) (j : Fin 2048) : k0_pay1 (F := Ideal) x (ix2 d j) = x (ix4 0 0 d j) := by
  pointwise [k0_pay1]
/-- The scratch takes the down-projection weights as they are. -/
theorem pay2_at (x : FVec Ideal S1x1x1024x1024 .f32) (d j : Fin 1024) : k0_pay2 (F := Ideal) x (ix2 d j) = x (ix4 0 0 d j) := by
  pointwise [k0_pay2]

/-- A quarter's place in the block. -/
theorem quarter_emb (u v : ℕ) (p q : Fin 2) (hp : p.val = u) (hq : q.val = v) (h) (a : Fin 512) (k : Fin 256) :
    (Rect.unit (s := S2x2x512x256) ![u, v, 0, 0] ![1, 1, 512, 256] h).emb (ix4 0 0 a k) = ix4 p q a k := by
  refine Rect.emb_eq_of_coords _ _ _ fun x => ?_
  match x with
  | ⟨0, _⟩ => show p.val = u + 1 * 0; omega
  | ⟨1, _⟩ => show q.val = v + 1 * 0; omega
  | ⟨2, _⟩ => show a.val = 0 + 1 * a.val; omega
  | ⟨3, _⟩ => show k.val = 0 + 1 * k.val; omega

/-- The block that the four stores leave. -/
theorem busy_at (Y : FVec Ideal S512x1024 .f32) (p q : Fin 2) (a : Fin 512) (k : Fin 256) :
    busy (F := Ideal) Y (ix4 p q a k) = Y (ix2 a ⟨512 * q.val + 256 * p.val + k.val, by omega⟩) := by
  unfold busy pieces
  by_cases hp : p = 1
  · subst hp
    by_cases hq : q = 1
    · subst hq
      refine ((congrArg _ (quarter_emb 1 1 1 1 rfl rfl _ a k).symm).trans (View.canon_cons_emb _ _ _ _)).trans ((pay6_at Y a k).trans (congrArg (fun n => Y (ix2 a n)) (Fin.ext ?_)))
      show 768 + k.val = 512 * 1 + 256 * 1 + k.val; omega
    · obtain rfl : q = 0 := by omega
      rw [View.canon_cons_of_not_mem _ _ (Rect.not_mem_set_of_axis _ _ 1 1 1 rfl rfl rfl (Or.inl (by show (0 : ℕ) < 1; omega)))]
      refine ((congrArg _ (quarter_emb 1 0 1 0 rfl rfl _ a k).symm).trans (View.canon_cons_emb _ _ _ _)).trans ((pay5_at Y a k).trans (congrArg (fun n => Y (ix2 a n)) (Fin.ext ?_)))
      show 256 + k.val = 512 * 0 + 256 * 1 + k.val; omega
  · obtain rfl : p = 0 := by omega
    rw [View.canon_cons_of_not_mem _ _ (Rect.not_mem_set_of_axis _ _ 0 1 1 rfl rfl rfl (Or.inl (by show (0 : ℕ) < 1; omega))),
      View.canon_cons_of_not_mem _ _ (Rect.not_mem_set_of_axis _ _ 0 1 1 rfl rfl rfl (Or.inl (by show (0 : ℕ) < 1; omega)))]
    by_cases hq : q = 1
    · subst hq
      refine ((congrArg _ (quarter_emb 0 1 0 1 rfl rfl _ a k).symm).trans (View.canon_cons_emb _ _ _ _)).trans ((pay4_at Y a k).trans (congrArg (fun n => Y (ix2 a n)) (Fin.ext ?_)))
      show 512 + k.val = 512 * 1 + 256 * 0 + k.val; omega
    · obtain rfl : q = 0 := by omega
      rw [View.canon_cons_of_not_mem _ _ (Rect.not_mem_set_of_axis _ _ 1 1 1 rfl rfl rfl (Or.inl (by show (0 : ℕ) < 1; omega)))]
      refine ((congrArg _ (quarter_emb 0 0 0 0 rfl rfl _ a k).symm).trans (View.canon_cons_emb _ _ _ _)).trans ((pay3_at Y a k).trans (congrArg (fun n => Y (ix2 a n)) (Fin.ext ?_)))
      show k.val = 512 * 0 + 256 * 0 + k.val; omega

variable (m : (ℓ : Loc nD τ sig) → Buf (Elt Ideal) ℓ)

/-! ## The arrays -/

/-- The first bias, as the host hands it on. -/
theorem entry_v0 (c : Dev nD) (e : Fin 32) (j : Fin 2048) :
    V m c main_v0 (ix3 ⟨e.val, by omega⟩ 0 j) = m ((c : Thread nD τ).loc main_arg5) (ix3 0 e j) := by
  simp only [V, hostOps0, List.flatten_cons, List.flatten_nil, List.append_nil, List.cons_append, List.nil_append]
  entry_read
  pointwise
  exact congrArg _ (congrArg₂ (fun a b => ix3 a b j) (Fin.ext (Nat.div_eq_of_lt e.isLt)) (Fin.ext (Nat.mod_eq_of_lt e.isLt)))
/-- The second bias, as the host hands it on. -/
theorem entry_v1 (c : Dev nD) (e : Fin 32) (j : Fin 1024) :
    V m c main_v1 (ix3 ⟨e.val, by omega⟩ 0 j) = m ((c : Thread nD τ).loc main_arg7) (ix3 0 e j) := by
  simp only [V, hostOps0, List.flatten_cons, List.flatten_nil, List.append_nil, List.cons_append, List.nil_append]
  entry_read
  pointwise
  exact congrArg _ (congrArg₂ (fun a b => ix3 a b j) (Fin.ext (Nat.div_eq_of_lt e.isLt)) (Fin.ext (Nat.mod_eq_of_lt e.isLt)))

/-- The experts' result of the arrays at the launch. -/
def res (c : Dev nD) (i : S2x2x82944x256.Idx) : EReal :=
  moe (te m) (tr m) (fun p q n k => m ((c : Thread nD τ).loc main_arg3) (ix4 p q n k))
    (fun e d j => m ((c : Thread nD τ).loc main_arg4) (ix4 0 e d j)) (fun e j => m ((c : Thread nD τ).loc main_arg5) (ix3 0 e j))
    (fun e d j => m ((c : Thread nD τ).loc main_arg6) (ix4 0 e d j)) (fun e j => m ((c : Thread nD τ).loc main_arg7) (ix3 0 e j))
    (i 0) (i 1) (i 2) (i 3)

/-- The row of the array that a tile's row is. -/
def rw_ (t : Fin grid0.N) (a : Fin 512) : Fin 82944 := ⟨512 * t.val + a.val, by have := lt_N t; omega⟩

/-- The tile of a row of a tile. -/
theorem tile_rw (t : Fin grid0.N) (a : Fin 512) : tile (rw_ t a) = nm (grid0.coords t) := by
  refine Fin.ext ?_
  show (512 * t.val + a.val) / 512 = (grid0.coords t 0).val
  rw [coords_val]; omega

/-- The expert that the table names. -/
theorem expert_ex (h : Good m) (t : Fin grid0.N) : expert (te m (nm (grid0.coords t))) = ex m h t := by
  refine Fin.ext ?_
  exact Nat.mod_eq_of_lt (h.te_lt _)

/-- A tile's block, element by element. -/
theorem outAt_at (h : Good m) (c : Dev nD) (t : Fin (cfgM m h.ok).N) (p q : Fin 2) (a : Fin 512) (k : Fin 256) :
    (outAt m h.ok c t : S2x2x512x256.Idx → EReal) (ix4 p q a k) = res m c (ix4 p q (rw_ t a) k) := by
  have hn : tile (rw_ t a) = nm (grid0.coords t) := tile_rw t a
  have htr : (word (grid0.coords t) (tbl m 2)).toNat < 2 ^ 31 := by rw [word_tr]; exact h.tr_nn _
  unfold outAt res moe
  show _ = ite (tr m (tile (rw_ t a)) = 0#32) _ _
  rw [hn]
  by_cases h0 : tr m (nm (grid0.coords t)) = 0#32
  · rw [if_pos h0, if_neg (fun e => (cond2_iff _ htr).1 e ((word_tr m _).trans h0))]
    exact pay7_at _
  · rw [if_neg h0, if_pos ((cond2_iff _ htr).2 fun e => h0 ((word_tr m _).symm.trans e))]
    refine (busy_at _ p q a k).trans ((rows_at _ _ _ _ _ _ a _).trans ?_)
    have hx : xrow (word (grid0.coords t) (tbl m 2)) (iblk m h.ok c 0 t) a
        = row (tr m (nm (grid0.coords t))) (fun p q n k => m ((c : Thread nD τ).loc main_arg3) (ix4 p q n k)) (rw_ t a) := by
      funext d
      unfold xrow xin row
      rw [word_tr]
      have e1 : BitVec.ofNat 32 ((rw_ t a).val % 512) = BitVec.ofNat 32 a.val := congrArg _ (by show (512 * t.val + a.val) % 512 = a.val; omega)
      rw [e1]
      refine congrArg (fun z => Scalar.select (IntOp.cmpi .slt (BitVec.ofNat 32 a.val) (tr m (nm (grid0.coords t)))) z (0 : EReal)) ?_
      exact (iblk_0 m h.ok c t _ _ a _).trans (congrFun (V_of_ne m c main_arg3 (by decide) (by decide)) _)
    have hw : (fun (d : Fin 1024) (j : Fin 2048) => scr0 m h.ok c t (ix2 d j)) = fun d j => m ((c : Thread nD τ).loc main_arg4) (ix4 0 (ex m h t) d j) := by
      funext d j
      unfold scr0
      exact (pay1_at _ d j).trans ((iblk_1 m h c t d j).trans (congrFun (V_of_ne m c main_arg4 (by decide) (by decide)) _))
    have hv : (fun (d : Fin 1024) (j : Fin 1024) => scr1 m h.ok c t (ix2 d j)) = fun d j => m ((c : Thread nD τ).loc main_arg6) (ix4 0 (ex m h t) d j) := by
      funext d j
      unfold scr1
      exact (pay2_at _ d j).trans ((iblk_3 m h c t d j).trans (congrFun (V_of_ne m c main_arg6 (by decide) (by decide)) _))
    have hb : (fun j : Fin 2048 => (iblk m h.ok c 2 t : S1x1x2048.Idx → EReal) (ix3 0 0 j)) = fun j => m ((c : Thread nD τ).loc main_arg5) (ix3 0 (ex m h t) j) := by
      funext j
      exact (iblk_2 m h c t j).trans (entry_v0 m c _ j)
    have hc : (fun j : Fin 1024 => (iblk m h.ok c 4 t : S1x1x1024.Idx → EReal) (ix3 0 0 j)) = fun j => m ((c : Thread nD τ).loc main_arg7) (ix3 0 (ex m h t) j) := by
      funext j
      exact (iblk_4 m h c t j).trans (entry_v1 m c _ j)
    rw [hx, hw, hv]
    refine (congrArg₂ (fun b z => net _ _ b _ z _) hb hc).trans ?_
    rw [← expert_ex m h t, ← hn]
    rfl

/-! ## The result array -/

/-- Every tile writes its block back. -/
theorem flush_5 (hO : Ok m) (t : Fin (cfgM m hO).N) : ((cfgM m hO).win 5).flush t = true :=
  (by decide +kernel : ∀ t : Fin grid0.N, Pipeline.Window.flushOf grid0 true cc0_transform_5 t = true) t

/-- The result's block at a point. -/
theorem index_5 (hO : Ok m) (t : Fin (cfgM m hO).N) : ((cfgM m hO).win 5).index t = ![0, 0, t.val, 0] :=
  (by decide +kernel : ∀ t : Fin grid0.N, cc0_transform_5 (grid0.coords t) = ![0, 0, t.val, 0]) t

/-- The result array after the run. -/
theorem final (h : Good m) (c : Dev nD) : (dats m h.ok 0 c).arrAt 5 (cfgM m h.ok).N = (res m c : FVec Ideal S2x2x82944x256 .bf16) := by
  have e : ∀ (t : Fin (cfgM m h.ok).N) (p q : Fin 2) (a : Fin 512) (k : Fin 256), (((cfgM m h.ok).win 5).blk t).view.emb (ix4 p q a k) = ix4 p q (rw_ t a) k := by
    intro t p q a k
    have e := index_5 m h.ok t
    unfold rw_
    blk_ext [e]
  refine (dats m h.ok 0 c).arrAt_eq_of_emb 5 (res m c : FVec Ideal S2x2x82944x256 .bf16) (fun t hf y => ?_) fun i => ?_
  · blk_simp
    rw [after_5]
    revert y
    show ∀ y : S2x2x512x256.Idx, _
    intro y
    idx_vars y
    rw [e]
    exact outAt_at m h c t _ _ _ _
  · revert i
    show ∀ i : S2x2x82944x256.Idx, _
    intro i
    idx_vars i
    have hn : rw_ ⟨i2.val / 512, by show _ < 162; omega⟩ ⟨i2.val % 512, by omega⟩ = i2 := by
      refine Fin.ext ?_
      show 512 * (i2.val / 512) + i2.val % 512 = i2.val
      omega
    refine ⟨⟨i2.val / 512, by show _ < 162; omega⟩, flush_5 m h.ok _, ?_⟩
    exact ((e ⟨i2.val / 512, by show _ < 162; omega⟩ i0 i1 ⟨i2.val % 512, by omega⟩ i3).trans (congrArg (fun n => ix4 i0 i1 n i3) hn)) ▸ View.emb_mem_set _ _

/-- The kernel's run: its result array, and the arrays it takes as they were. -/
theorem run_res (ρ : Dev nD → PrngReg) (h : Good m) : θ_run defs (onTc (τ := τ) (main (F := Ideal))) ⟨m, fun _ => 0, ρ⟩ (fun r => ∀ c : Dev nD,
      r.2.mem ((c.tc : Thread nD τ).loc main_v2) = (res m c : FVec Ideal S2x2x82944x256 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r hr c => ⟨((hr.1 c).1 5).trans (final m h c), frame_of m h.ok (dats m h.ok) (A_eq m h.ok) r hr.1 c⟩) (run_main m ρ h)

end Cert.Kernel2Ideal.Mo

end
-- ==== Proof.MoGather.lean ====
module

public import Idealize.ShloMosaic.Lib.Pointwise
public import Idealize.ShloMosaic.Lib.Routing.Ops

/-! A gather of whole matrices, read at an index. -/

@[expose] public section

noncomputable section
namespace Cert.Experts
open Idealize.ShloMosaic

variable {α : Type}

/-- The dimension numbers of `x[idx]` for matrices `x : [N, A, B]` and an index column `idx : [R, 1]`. -/
abbrev matDims (N A B R : Nat) (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- Element `(r, a, b)` is that of the matrix that index `r` names, held within the array. -/
theorem gather_mat {N A B R w : Nat} (hN : 0 < N) (wf) (x : (⟨3, ![N, A, B]⟩ : Shape).Idx → α) (idx : IVec ⟨2, ![R, 1]⟩ w)
    (r : Fin R) (a : Fin A) (b : Fin B) :
    Host.gather (matDims N A B R wf) x idx (ix3 r a b) = x (ix3 ⟨min (idx (ix2 r 0)).toInt.toNat (N - 1), by omega⟩ a b) := by
  unfold Host.gather
  congr 1
  funext z
  refine Fin.ext ?_
  show (matDims N A B R wf).start (ix3 r a b) idx z + (matDims N A B R wf).batchCoord (ix3 r a b) z + (matDims N A B R wf).offCoord (ix3 r a b) z = _
  rw [GatherDims.batchCoord_eq_zero _ _ _ List.not_mem_nil]
  match z with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 3) ∈ (matDims N A B R wf).startIndexMap from List.mem_singleton.mpr rfl)]
    have hsi : (matDims N A B R wf).siIdx (ix3 r a b) ⟨List.idxOf (⟨0, by decide⟩ : Fin 3) (matDims N A B R wf).startIndexMap,
        List.idxOf_lt_length_iff.2 (List.mem_singleton.mpr rfl)⟩ = ix2 r 0 := by
      funext y; refine Fin.ext ?_
      match y with
      | ⟨0, _⟩ => rfl
      | ⟨1, _⟩ => rfl
    rw [hsi]
    rfl
  | ⟨1, _⟩ =>
    unfold GatherDims.start
    rw [dif_neg (fun h => Nat.succ_ne_zero _ (congrArg Fin.val (List.mem_singleton.mp h)))]
    simp only [Nat.zero_add]
    rfl
  | ⟨2, _⟩ =>
    unfold GatherDims.start
    rw [dif_neg (fun h => Nat.succ_ne_zero _ (congrArg Fin.val (List.mem_singleton.mp h)))]
    simp only [Nat.zero_add]
    rfl

/-- The dimension numbers of `x[idx]` for rows `x : [N, A]` and an index column `idx : [R, 1]`. -/
abbrev rowDims (N A R : Nat) (wf : GatherDims.WF ⟨2, ![N, A]⟩ ⟨2, ![R, 1]⟩ ⟨2, ![R, A]⟩ [1] [0] [] [0] [] 1 ![1, A]) :
    GatherDims ⟨2, ![N, A]⟩ ⟨2, ![R, 1]⟩ ⟨2, ![R, A]⟩ where
  offsetDims := [1]
  collapsedSliceDims := [0]
  operandBatchingDims := []
  startIndicesBatchingDims := []
  startIndexMap := [0]
  indexVectorDim := 1
  sliceSizes := ![1, A]
  wf := wf

/-- Element `(r, a)` is that of the row that index `r` names, held within the array. -/
theorem gather_vec {N A R w : Nat} (hN : 0 < N) (wf) (x : (⟨2, ![N, A]⟩ : Shape).Idx → α) (idx : IVec ⟨2, ![R, 1]⟩ w)
    (r : Fin R) (a : Fin A) :
    Host.gather (rowDims N A R wf) x idx (ix2 r a) = x (ix2 ⟨min (idx (ix2 r 0)).toInt.toNat (N - 1), by omega⟩ a) := by
  unfold Host.gather
  congr 1
  funext z
  refine Fin.ext ?_
  show (rowDims N A R wf).start (ix2 r a) idx z + (rowDims N A R wf).batchCoord (ix2 r a) z + (rowDims N A R wf).offCoord (ix2 r a) z = _
  rw [GatherDims.batchCoord_eq_zero _ _ _ List.not_mem_nil]
  match z with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowDims N A R wf).startIndexMap from List.mem_singleton.mpr rfl)]
    have hsi : (rowDims N A R wf).siIdx (ix2 r a) ⟨List.idxOf (⟨0, by decide⟩ : Fin 2) (rowDims N A R wf).startIndexMap,
        List.idxOf_lt_length_iff.2 (List.mem_singleton.mpr rfl)⟩ = ix2 r 0 := by
      funext y; refine Fin.ext ?_
      match y with
      | ⟨0, _⟩ => rfl
      | ⟨1, _⟩ => rfl
    rw [hsi]
    rfl
  | ⟨1, _⟩ =>
    unfold GatherDims.start
    rw [dif_neg (fun h => Nat.succ_ne_zero _ (congrArg Fin.val (List.mem_singleton.mp h)))]
    simp only [Nat.zero_add]
    rfl

end Cert.Experts

end
-- ==== Proof.MoRef.lean ====
module

public import proofs.«01_k».proof.Proof.Gen.Reference2Ideal
public import proofs.«01_k».proof.Proof.MoMath
public import proofs.«01_k».proof.Proof.MoGather
public import Idealize.ShloMosaic.Lib.Pointwise
public import Idealize.ShloMosaic.Lib.StackMember
public import Idealize.ShloMosaic.Lib.WordCmp

/-! What the experts' reference computes, element by element. -/

@[expose] public section

set_option maxRecDepth 16384

noncomputable section
namespace Cert.Reference2Ideal.Mo
open Idealize.ShloMosaic Idealize.ShloMosaic.TcCoe Idealize.SL.Sem Cert.Reference2Ideal Cert.Reference2Ideal.Gen Cert.Experts
open Idealize.ShloMosaic.WordCmp

variable (a0 : IVec S162 32) (a2 : IVec S162 32) (a3 : FVec Ideal S2x2x82944x256 .bf16) (a4 : FVec Ideal S2x32x1024x2048 .f32)
  (a5 : FVec Ideal S2x32x2048 .f32) (a6 : FVec Ideal S2x32x1024x1024 .f32) (a7 : FVec Ideal S2x32x1024 .f32)

/-! ## The index of the gathers -/

/-- The experts as indices; one below zero would count from the end. -/
def at_ : IVec S162x1 32 :=
  broadcastInDim S162x1 ![0] bcast_S162_S162x1_0 (select (cmpi .slt a0 (broadcastInDim S162 ![] bcast_S_S162 (constantI S_ 32 0#32)))
    (addi a0 (broadcastInDim S162 ![] bcast_S_S162 (constantI S_ 32 32#32))) a0)

/-- An expert within range is its own index. -/
theorem at_at (t : Fin 162) (h : (a0 (ix1 t)).toNat < 32) : at_ a0 (ix2 t 0) = a0 (ix1 t) := by
  unfold at_
  have e : at_ a0 (ix2 t 0) = Scalar.select (IntOp.cmpi .slt (a0 (ix1 t)) 0#32) (IntOp.addi (a0 (ix1 t)) 32#32) (a0 (ix1 t)) := by
    unfold at_
    pointwise
  refine e.trans ?_
  have : IntOp.cmpi .slt (a0 (ix1 t)) 0#32 = 0#1 := by
    rw [cmpi_slt_eq, decide_eq_false (by rw [toInt_eq_toNat_of_lt_half (by omega)]; show ¬ ((_ : ℕ) : ℤ) < 0; omega)]
    rfl
  rw [this]
  rfl

/-- Its position, once clamped to the table, is the expert. -/
theorem clamp_at (t : Fin 162) (h : (a0 (ix1 t)).toNat < 32) (hp : min (at_ a0 (ix2 t 0)).toInt.toNat (32 - 1) < 32) :
    (⟨min (at_ a0 (ix2 t 0)).toInt.toNat (32 - 1), hp⟩ : Fin 32) = expert (a0 (ix1 t)) := by
  refine Fin.ext ?_
  show min (at_ a0 (ix2 t 0)).toInt.toNat (32 - 1) = (a0 (ix1 t)).toNat % 32
  rw [at_at a0 t h, toInt_eq_toNat_of_lt_half (by omega), Nat.mod_eq_of_lt h]
  omega

/-! ## The arrays gathered -/

/-- Each tile's gate and up-projection weights. -/
def W1 : FVec Ideal S162x1024x2048 .f32 :=
  Host.gather gather_S32x1024x2048_S162x1_S162x1024x2048_12_0_n_n_0_1_110242048 (shapeCast S32x1024x2048 (extractStridedSlice S1x32x1024x2048 ![0, 0, 0, 0] a4 slices_S2x32x1024x2048_S1x32x1024x2048_0_0_0_0) shapeCasts_S1x32x1024x2048_S32x1024x2048) (at_ a0)
/-- Their biases. -/
def B1 : FVec Ideal S162x2048 .f32 :=
  Host.gather gather_S32x2048_S162x1_S162x2048_1_0_n_n_0_1_12048 (shapeCast S32x2048 (extractStridedSlice S1x32x2048 ![0, 0, 0] a5 slices_S2x32x2048_S1x32x2048_0_0_0) shapeCasts_S1x32x2048_S32x2048) (at_ a0)
/-- Each tile's down-projection weights. -/
def W2 : FVec Ideal S162x1024x1024 .f32 :=
  Host.gather gather_S32x1024x1024_S162x1_S162x1024x1024_12_0_n_n_0_1_110241024 (shapeCast S32x1024x1024 (extractStridedSlice S1x32x1024x1024 ![0, 0, 0, 0] a6 slices_S2x32x1024x1024_S1x32x1024x1024_0_0_0_0) shapeCasts_S1x32x1024x1024_S32x1024x1024) (at_ a0)
/-- Their biases. -/
def B2 : FVec Ideal S162x1024 .f32 :=
  Host.gather gather_S32x1024_S162x1_S162x1024_1_0_n_n_0_1_11024 (shapeCast S32x1024 (extractStridedSlice S1x32x1024 ![0, 0, 0] a7 slices_S2x32x1024_S1x32x1024_0_0_0) shapeCasts_S1x32x1024_S32x1024) (at_ a0)

/-- The first layer's weights, by expert. -/
theorem lay4 (e : Fin 32) (d : Fin 1024) (j : Fin 2048) : shapeCast S32x1024x2048 (extractStridedSlice S1x32x1024x2048 ![0, 0, 0, 0] a4 slices_S2x32x1024x2048_S1x32x1024x2048_0_0_0_0) shapeCasts_S1x32x1024x2048_S32x1024x2048 (ix3 e d j) = a4 (ix4 0 e d j) := by
  pointwise
/-- The first layer's biases, by expert. -/
theorem lay5 (e : Fin 32) (j : Fin 2048) : shapeCast S32x2048 (extractStridedSlice S1x32x2048 ![0, 0, 0] a5 slices_S2x32x2048_S1x32x2048_0_0_0) shapeCasts_S1x32x2048_S32x2048 (ix2 e j) = a5 (ix3 0 e j) := by
  pointwise
/-- The first layer's weights down, by expert. -/
theorem lay6 (e : Fin 32) (d : Fin 1024) (j : Fin 1024) : shapeCast S32x1024x1024 (extractStridedSlice S1x32x1024x1024 ![0, 0, 0, 0] a6 slices_S2x32x1024x1024_S1x32x1024x1024_0_0_0_0) shapeCasts_S1x32x1024x1024_S32x1024x1024 (ix3 e d j) = a6 (ix4 0 e d j) := by
  pointwise
/-- The first layer's biases down, by expert. -/
theorem lay7 (e : Fin 32) (j : Fin 1024) : shapeCast S32x1024 (extractStridedSlice S1x32x1024 ![0, 0, 0] a7 slices_S2x32x1024_S1x32x1024_0_0_0) shapeCasts_S1x32x1024_S32x1024 (ix2 e j) = a7 (ix3 0 e j) := by
  pointwise

/-- A tile's weights are its expert's. -/
theorem W1_at (t : Fin 162) (h : (a0 (ix1 t)).toNat < 32) (d : Fin 1024) (j : Fin 2048) : W1 a0 a4 (ix3 t d j) = a4 (ix4 0 (expert (a0 (ix1 t))) d j) := by
  show Host.gather gather_S32x1024x2048_S162x1_S162x1024x2048_12_0_n_n_0_1_110242048 (shapeCast S32x1024x2048 (extractStridedSlice S1x32x1024x2048 ![0, 0, 0, 0] a4 slices_S2x32x1024x2048_S1x32x1024x2048_0_0_0_0) shapeCasts_S1x32x1024x2048_S32x1024x2048) (at_ a0) (ix3 t d j) = _
  refine (gather_mat (by decide) gather_S32x1024x2048_S162x1_S162x1024x2048_12_0_n_n_0_1_110242048_wf _ _ t d j).trans ?_
  rw [clamp_at a0 t h]
  exact lay4 a4 _ d j
/-- A tile's biases are its expert's. -/
theorem B1_at (t : Fin 162) (h : (a0 (ix1 t)).toNat < 32) (j : Fin 2048) : B1 a0 a5 (ix2 t j) = a5 (ix3 0 (expert (a0 (ix1 t))) j) := by
  refine (gather_vec (by decide) gather_S32x2048_S162x1_S162x2048_1_0_n_n_0_1_12048_wf _ _ t j).trans ?_
  rw [clamp_at a0 t h]
  exact lay5 a5 _ j
/-- A tile's weights down are its expert's. -/
theorem W2_at (t : Fin 162) (h : (a0 (ix1 t)).toNat < 32) (d : Fin 1024) (j : Fin 1024) : W2 a0 a6 (ix3 t d j) = a6 (ix4 0 (expert (a0 (ix1 t))) d j) := by
  show Host.gather gather_S32x1024x1024_S162x1_S162x1024x1024_12_0_n_n_0_1_110241024 (shapeCast S32x1024x1024 (extractStridedSlice S1x32x1024x1024 ![0, 0, 0, 0] a6 slices_S2x32x1024x1024_S1x32x1024x1024_0_0_0_0) shapeCasts_S1x32x1024x1024_S32x1024x1024) (at_ a0) (ix3 t d j) = _
  refine (gather_mat (by decide) gather_S32x1024x1024_S162x1_S162x1024x1024_12_0_n_n_0_1_110241024_wf _ _ t d j).trans ?_
  rw [clamp_at a0 t h]
  exact lay6 a6 _ d j
/-- A tile's biases down are its expert's. -/
theorem B2_at (t : Fin 162) (h : (a0 (ix1 t)).toNat < 32) (j : Fin 1024) : B2 a0 a7 (ix2 t j) = a7 (ix3 0 (expert (a0 (ix1 t))) j) := by
  refine (gather_vec (by decide) gather_S32x1024_S162x1_S162x1024_1_0_n_n_0_1_11024_wf _ _ t j).trans ?_
  rw [clamp_at a0 t h]
  exact lay7 a7 _ j

/-! ## The rows -/

/-- The rows of the tiles, those past a tile's count zero. -/
def X : FVec Ideal S162x512x1024 .f32 :=
  extf .f32 (select (broadcastInDim S162x512x1024 ![0, 1, 2] bcast_S162x512x1_S162x512x1024_0_1_2 (cmpi .slt (iotaInDim S162x512x1 32 1)
      (broadcastInDim S162x512x1 ![0, 1, 2] bcast_S162x1x1_S162x512x1_0_1_2 (broadcastInDim S162x1x1 ![0] bcast_S162_S162x1x1_0 a2))))
    (shapeCast S162x512x1024 (transpose S82944x2x2x256 [2, 1, 0, 3] a3 transposes_S2x2x82944x256_S82944x2x2x256_2_1_0_3) shapeCasts_S82944x2x2x256_S162x512x1024)
    (broadcastInDim S162x512x1024 ![] bcast_S_S162x512x1024 (sitofp .bf16 (constantI S_ 32 0#32)))) bitsLt_bf16_f32

/-- A row of a tile, feature by feature. -/
theorem X_at (t : Fin 162) (a : Fin 512) (d : Fin 1024) :
    X a2 a3 (ix3 t a d) = row (a2 (ix1 t)) (fun p q n k => a3 (ix4 p q n k)) ⟨512 * t.val + a.val, by omega⟩ d := by
  unfold X row
  pointwise
  have e1 : BitVec.ofNat 32 ((512 * t.val + a.val) % 512) = BitVec.ofNat 32 a.val := congrArg _ (by omega)
  have e2 : (⟨t.val * 512 + a.val, by omega⟩ : Fin 82944) = ⟨512 * t.val + a.val, by omega⟩ := Fin.ext (by show t.val * 512 + a.val = 512 * t.val + a.val; omega)
  have e3 : FloatOps.sitofp (F := Ideal) .bf16 (0#32) = (0 : EReal) := by
    show ((((0#32 : BitVec 32).toInt : ℝ)) : EReal) = 0
    simp
  rw [e1, e2, e3]

/-- Gates and up-projections. -/
def GU (x : FVec Ideal S162x512x1024 .f32) (w : FVec Ideal S162x1024x2048 .f32) (b : FVec Ideal S162x2048 .f32) : FVec Ideal S162x512x2048 .f32 :=
  addf (Host.dotGeneral dot_S162x512x1024_S162x1024x2048_S162x512x2048_2_1_1_2_0_0 none x w)
    (broadcastInDim S162x512x2048 ![0, 1, 2] bcast_S162x1x2048_S162x512x2048_0_1_2 (broadcastInDim S162x1x2048 ![0, 2] bcast_S162x2048_S162x1x2048_0_2 b))

/-- Gates and up-projections, element by element. -/
theorem GU_at (x : FVec Ideal S162x512x1024 .f32) (w : FVec Ideal S162x1024x2048 .f32) (b : FVec Ideal S162x2048 .f32) (t : Fin 162) (a : Fin 512) (j : Fin 2048) :
    GU x w b (ix3 t a j) = gateUp (fun d => x (ix3 t a d)) (fun d j => w (ix3 t d j)) (fun j => b (ix2 t j)) j := by
  unfold GU gateUp
  pointwise

/-- The hidden features of gates and up-projections. -/
def HID (g : FVec Ideal S162x512x2048 .f32) : FVec Ideal S162x512x1024 .f32 :=
  have gate : FVec Ideal S162x512x1024 .f32 := minimumf (extractStridedSlice S162x512x1024 ![0, 0, 0] g slices_S162x512x2048_S162x512x1024_0_0_0) (broadcastInDim S162x512x1024 ![] bcast_S_S162x512x1024 (constant S_ .f32 0x40E00000#32))
  mulf (mulf (addf (minimumf (broadcastInDim S162x512x1024 ![] bcast_S_S162x512x1024 (id (constant S_ .f32 0x40E00000#32)))
      (maximumf (broadcastInDim S162x512x1024 ![] bcast_S_S162x512x1024 (id (constant S_ .f32 0xC0E00000#32))) (extractStridedSlice S162x512x1024 ![0, 0, 1024] g slices_S162x512x2048_S162x512x1024_0_0_1024)))
      (broadcastInDim S162x512x1024 ![] bcast_S_S162x512x1024 (constant S_ .f32 0x3F800000#32))) gate)
    (Host.divf (broadcastInDim S162x512x1024 ![] bcast_S_S162x512x1024 (constant S_ .f32 0x3F800000#32))
      (addf (broadcastInDim S162x512x1024 ![] bcast_S_S162x512x1024 (constant S_ .f32 0x3F800000#32))
        (Host.exp (Host.negf (mulf (broadcastInDim S162x512x1024 ![] bcast_S_S162x512x1024 (constant S_ .f32 0x3FD9DB23#32)) gate)))))

/-- The hidden features, element by element. -/
theorem HID_at (g : FVec Ideal S162x512x2048 .f32) (t : Fin 162) (a : Fin 512) (e : Fin 1024) :
    HID g (ix3 t a e) = act (g (ix3 t a ⟨e.val, by omega⟩)) (g (ix3 t a ⟨1024 + e.val, by omega⟩)) := by
  unfold HID act
  pointwise
  rfl

/-- The tiles' results. -/
def Y (h : FVec Ideal S162x512x1024 .f32) (w : FVec Ideal S162x1024x1024 .f32) (b : FVec Ideal S162x1024 .f32) : FVec Ideal S162x512x1024 .bf16 :=
  truncf .bf16 (select (broadcastInDim S162x512x1024 ![0, 1, 2] bcast_S162x1x1_S162x512x1024_0_1_2 (broadcastInDim S162x1x1 ![0] bcast_S162_S162x1x1_0 (cmpi .sgt a2 (broadcastInDim S162 ![] bcast_S_S162 (constantI S_ 32 0#32)))))
    (addf (Host.dotGeneral dot_S162x512x1024_S162x1024x1024_S162x512x1024_2_1_1_2_0_0 none h w)
      (broadcastInDim S162x512x1024 ![0, 1, 2] bcast_S162x1x1024_S162x512x1024_0_1_2 (broadcastInDim S162x1x1024 ![0, 2] bcast_S162x1024_S162x1x1024_0_2 b)))
    (broadcastInDim S162x512x1024 ![] bcast_S_S162x512x1024 (id (constant S_ .f32 0x00000000#32)))) bitsLt_bf16_f32

/-- A tile's result, element by element. -/
theorem Y_at (h : FVec Ideal S162x512x1024 .f32) (w : FVec Ideal S162x1024x1024 .f32) (b : FVec Ideal S162x1024 .f32) (t : Fin 162) (a : Fin 512) (n : Fin 1024) :
    Y a2 h w b (ix3 t a n) = Scalar.select (IntOp.cmpi .sgt (a2 (ix1 t)) 0#32) ((∑ e : Fin 1024, h (ix3 t a e) * w (ix3 t e n)) + b (ix2 t n)) 0 := by
  unfold Y
  pointwise
  rw [show (id (constant (F := Ideal) S_ .f32 0x00000000#32) ix0 : EReal) = 0 from by show constant (F := Ideal) S_ .f32 0x00000000#32 ix0 = 0; pointwise]

/-- The result: the tiles' results, laid out as the rows are. -/
def OUT (y : FVec Ideal S162x512x1024 .bf16) : FVec Ideal S2x2x82944x256 .bf16 :=
  transpose S2x2x82944x256 [2, 1, 0, 3] (shapeCast S82944x2x2x256 y shapeCasts_S162x512x1024_S82944x2x2x256) transposes_S82944x2x2x256_S2x2x82944x256_2_1_0_3

/-- Where the result keeps a row of a tile. -/
theorem OUT_at (y : FVec Ideal S162x512x1024 .bf16) (p q : Fin 2) (n : Fin 82944) (k : Fin 256) :
    OUT y (ix4 p q n k) = y (ix3 (tile n) ⟨n.val % 512, by omega⟩ ⟨512 * q.val + 256 * p.val + k.val, by omega⟩) := by
  unfold OUT tile
  pointwise
  exact congrArg (fun d => y (ix3 _ _ d)) (Fin.ext (by show q.val * 512 + p.val * 256 + k.val = 512 * q.val + 256 * p.val + k.val; omega))

/-- The result of the whole. -/
def ALL : FVec Ideal S2x2x82944x256 .bf16 := OUT (Y a2 (HID (GU (X a2 a3) (W1 a0 a4) (B1 a0 a5))) (W2 a0 a6) (B2 a0 a7))

/-- A count that is not negative is positive or zero. -/
theorem pos_iff (w : BitVec 32) (h : w.toNat < 2 ^ 31) : IntOp.cmpi .sgt w 0#32 = if w = 0#32 then 0#1 else 1#1 := by
  rw [cmpi_sgt_eq, toInt_eq_toNat_of_lt_half h]
  by_cases hw : w = 0#32
  · subst hw; rfl
  · rw [if_neg hw, decide_eq_true (by
      have : w.toNat ≠ 0 := fun e => hw (BitVec.eq_of_toNat_eq e)
      show (0 : ℤ) < ((w.toNat : ℕ) : ℤ); omega)]
    rfl

/-- The result, element by element. -/
theorem ALL_at (he : ∀ t, (a0 (ix1 t)).toNat < 32) (hr : ∀ t, (a2 (ix1 t)).toNat < 2 ^ 31) (p q : Fin 2) (n : Fin 82944) (k : Fin 256) :
    ALL a0 a2 a3 a4 a5 a6 a7 (ix4 p q n k) = moe (fun t => a0 (ix1 t)) (fun t => a2 (ix1 t)) (fun p q n k => a3 (ix4 p q n k))
      (fun e d j => a4 (ix4 0 e d j)) (fun e j => a5 (ix3 0 e j)) (fun e d j => a6 (ix4 0 e d j)) (fun e j => a7 (ix3 0 e j)) p q n k := by
  unfold ALL moe
  rw [OUT_at, Y_at, pos_iff _ (hr _)]
  by_cases h0 : a2 (ix1 (tile n)) = 0#32
  · rw [if_pos h0, if_pos h0]; rfl
  rw [if_neg h0, if_neg h0]
  have hn : (⟨512 * (tile n).val + n.val % 512, by have := n.isLt; unfold tile; dsimp only; omega⟩ : Fin 82944) = n :=
    Fin.ext (by show 512 * (n.val / 512) + n.val % 512 = n.val; omega)
  have hx : (fun d => X a2 a3 (ix3 (tile n) ⟨n.val % 512, by omega⟩ d)) = row (a2 (ix1 (tile n))) (fun p q n k => a3 (ix4 p q n k)) n := by
    funext d
    exact (X_at a2 a3 (tile n) ⟨n.val % 512, by omega⟩ d).trans (congrArg (fun n => row _ _ n d) hn)
  simp only [HID_at, GU_at, hx, W1_at _ _ _ (he _), B1_at _ _ _ (he _), W2_at _ _ _ (he _), B2_at _ _ _ (he _)]
  rfl

end Cert.Reference2Ideal.Mo

end
-- ==== Proof.MoClaim.lean ====
module

public import proofs.«01_k».proof.Defs
public import proofs.«01_k».proof.Proof.MoArr
public import proofs.«01_k».proof.Proof.MoKFrame
public import proofs.«01_k».proof.Proof.MoRef
public import Idealize.ShloMosaic.Adequacy
public import Idealize.ShloMosaic.Init

/-! The claims about the experts' call. -/

@[expose] public section

set_option maxRecDepth 16384

noncomputable section
namespace Cert.Proof
open Idealize.ShloMosaic Idealize.ShloMosaic.TcCoe Idealize.SL.Sem Cert.Experts

/-- The experts' kernel over words: it ends without fault, its arguments and counters as they were. -/
theorem frame_kernel2 : Cert.quiescent_Kernel2 (hKernel2 := Cert.Kernel2.Gen.facts) (hPre_tables := Cert.Pre_tables.Gen.facts) := fun m ρ h =>
  Cert.Kernel2.Mo.frame m ρ (Cert.Kernel2.Mo.good_of_pre m h)

/-- The experts' kernel over the extended reals: likewise. -/
theorem frame_ideal2 : Cert.quiescent_Kernel2Ideal (hKernel2Ideal := Cert.Kernel2Ideal.Gen.facts) (hPre_tables := Cert.Pre_tables.Gen.facts) := fun m ρ h =>
  Cert.Kernel2Ideal.Mo.frame m ρ (Cert.Kernel2Ideal.Mo.good_of_pre m h)

set_option maxHeartbeats 4000000 in
/-- The reference's run: its result array, and the arrays it takes as they were. -/
theorem run_reference2 (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r => ∀ c : Dev Cert.Reference2Ideal.nD,
      r.2.mem ((c.tc : Thread Cert.Reference2Ideal.nD Cert.Reference2Ideal.τ).loc Cert.Reference2Ideal.main_v75)
        = Cert.Reference2Ideal.Mo.ALL (m (c.tc.loc Cert.Reference2Ideal.main_arg0)) (m (c.tc.loc Cert.Reference2Ideal.main_arg2)) (m (c.tc.loc Cert.Reference2Ideal.main_arg3)) (m (c.tc.loc Cert.Reference2Ideal.main_arg4)) (m (c.tc.loc Cert.Reference2Ideal.main_arg5)) (m (c.tc.loc Cert.Reference2Ideal.main_arg6)) (m (c.tc.loc Cert.Reference2Ideal.main_arg7))
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)) := by
  hlo_run
  all_goals rfl

/-- The experts' reference over the extended reals: likewise. -/
theorem frame_reference2 : Cert.quiescent_Reference2Ideal (hReference2Ideal := Cert.Reference2Ideal.Gen.facts) := fun m ρ _ =>
  (θ_run _ _ _).mono (fun r h => ⟨fun c => (h c).2, sem_eq_zero_of_no_sems (by decide) r.2⟩) (run_reference2 m ρ)

/-- The same where the precondition holds. -/
theorem frame_reference2_pre : Cert.quiescent_Reference2Ideal_pre_tables (hReference2Ideal := Cert.Reference2Ideal.Gen.facts) (hPre_tables := Cert.Pre_tables.Gen.facts) :=
  fun m ρ _ => frame_reference2 m ρ trivial

/-- Kernel and reference of the experts leave the same array over the extended reals. -/
theorem values2 : Cert.algebraic_Kernel2Ideal_Reference2Ideal (hKernel2Ideal := Cert.Kernel2Ideal.Gen.facts) (hReference2Ideal := Cert.Reference2Ideal.Gen.facts) (hPre_tables := Cert.Pre_tables.Gen.facts) := by
  intro m ρ m' ρ' hp hag
  have hg := Cert.Kernel2Ideal.Mo.good_of_pre m hp
  refine ⟨fun c => (Cert.Kernel2Ideal.Mo.res m c : FVec Ideal Cert.Kernel2Ideal.S2x2x82944x256 .bf16), Cert.Kernel2Ideal.Mo.run_res m ρ hg, ?_⟩
  refine (θ_run _ _ _).mono (fun r h c => ⟨(h c).1.trans ?_, (h c).2⟩) (run_reference2 m' ρ')
  obtain rfl : c = 0 := Subsingleton.elim _ _
  obtain ⟨e0, e1, e2, e3, e4, e5, e6, e7⟩ := hag 0
  rw [e0, e2, e3, e4, e5, e6, e7]
  refine funext fun i : Cert.Kernel2Ideal.S2x2x82944x256.Idx => ?_
  idx_vars i
  exact Cert.Reference2Ideal.Mo.ALL_at _ _ _ _ _ _ _ hg.te_lt hg.tr_nn i0 i1 i2 i3

end Cert.Proof

end
-- ==== Proof.InSpec.lean ====
module

public import proofs.«01_k».proof.Proof.RgScalar

/-! The input projections as numbers: one sum of products for a token and a column of the weight matrix, and the functions
    that the layer applies to it. -/

@[expose] public section

noncomputable section

namespace Cert.Inproj

open Idealize.ShloMosaic Cert.RgLru

/-- The projection of a token to a column. -/
def proj (x : Fin 4 → Fin 4096 → Fin 1024 → EReal) (w : Fin 1024 → Fin 6664 → EReal) (b : Fin 4) (n : Fin 4096) (j : Fin 6664) : EReal :=
  ∑ d : Fin 1024, x b n d * w d j

/-- The logarithm of the logistic. -/
def logSig (z : EReal) : EReal := -softplus (-z)

/-- The gelu, in its form with `tanh`. -/
def gelu (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * z * z)))))

/-- The kernel's spelling of the logarithm of the logistic. -/
theorem logSig_min (z : EReal) : min z 0 - Ideal.log1p (Ideal.exp (0 - max z (-z))) = logSig z := by
  unfold logSig softplus
  have h : 0 ≤ Ideal.log1p (Ideal.exp (-max z (-z))) := log1p_nonneg (exp_nonneg _)
  have hb : max (-z) 0 ≠ ⊥ := (lt_of_lt_of_le EReal.bot_lt_zero (le_max_right _ _)).ne'
  have hl : Ideal.log1p (Ideal.exp (-max z (-z))) ≠ ⊥ := (lt_of_lt_of_le EReal.bot_lt_zero h).ne'
  have hm : -max (-z) 0 = min z 0 := by
    rcases le_total z 0 with hz | hz
    · rw [min_eq_left hz, max_eq_left (EReal.neg_nonneg.mpr hz), neg_neg]
    · rw [min_eq_right hz, max_eq_right (EReal.neg_le_zero.mpr hz), neg_zero]
  rw [zero_sub, neg_neg, max_comm (-z) z, EReal.neg_add (Or.inl hb) (Or.inr hl), hm]

/-- The sequence of a row of the flattened tokens. -/
def seqOf (n : Fin 16384) : Fin 4 := ⟨n.val / 4096, by omega⟩
/-- The position in its sequence of a row of the flattened tokens. -/
def posOf (n : Fin 16384) : Fin 4096 := ⟨n.val % 4096, by omega⟩

section results
variable (x : Fin 4 → Fin 4096 → Fin 1024 → EReal) (w : Fin 1024 → Fin 6664 → EReal) (bf : Fin 8 → EReal)

/-- The queries, scaled. -/
def qF (n : Fin 16384) (j : Fin 512) : EReal := proj x w (seqOf n) (posOf n) ⟨j.val, by omega⟩ * Ideal.ofBits .f32 0x3E000000#32
/-- The keys. -/
def kF (b : Fin 4) (n : Fin 4096) (j : Fin 512) : EReal := proj x w b n ⟨512 + j.val, by omega⟩
/-- The values. -/
def vF (b : Fin 4) (n : Fin 4096) (j : Fin 512) : EReal := proj x w b n ⟨1024 + j.val, by omega⟩
/-- The logarithms of the forget gates. -/
def lfF (b : Fin 4) (n : Fin 4096) (h : Fin 8) : EReal := logSig (proj x w b n ⟨1536 + h.val, by omega⟩ + bf h)
/-- The gated linear unit. -/
def uF (n : Fin 16384) (j : Fin 512) : EReal :=
  proj x w (seqOf n) (posOf n) ⟨1544 + j.val, by omega⟩ * Ideal.logistic (proj x w (seqOf n) (posOf n) ⟨2056 + j.val, by omega⟩)
/-- The recurrent branch's input. -/
def rgF (n : Fin 16384) (j : Fin 512) : EReal := proj x w (seqOf n) (posOf n) ⟨2568 + j.val, by omega⟩
/-- The recurrent branch's gate. -/
def ggF (n : Fin 16384) (j : Fin 512) : EReal := gelu (proj x w (seqOf n) (posOf n) ⟨3080 + j.val, by omega⟩)
/-- The gates of the three branches. -/
def gtF (n : Fin 16384) (j : Fin 3072) : EReal := Ideal.logistic (proj x w (seqOf n) (posOf n) ⟨3592 + j.val, by omega⟩)

end results

end Cert.Inproj

end
-- ==== Proof.InBlocks.lean ====
module

public import proofs.«01_k».proof.Proof.Gen.Kernel3Ideal.Frame
public import proofs.«01_k».proof.Proof.InSpec
public import Idealize.ShloMosaic.Lib.Pipeline.ValueKit
public import Idealize.ShloMosaic.Lib.Pointwise
public import Idealize.ShloMosaic.Lib.Claim

/-! What each operand of the projection kernel holds at a grid point, as elements of the arrays the program takes. -/

@[expose] public section

set_option maxRecDepth 16384

noncomputable section
namespace Cert.Kernel3Ideal.Tile
open Idealize.ShloMosaic Idealize.ShloMosaic.TcCoe Idealize.SL.Sem Cert.Kernel3Ideal Cert.Kernel3Ideal.Gen
variable (m : (ℓ : Loc nD τ sig) → Buf (Elt Ideal) ℓ)

/-- Which block each operand's window names at a grid point. -/
theorem idx : ∀ t : Fin cfg0.N, win0_0.index t = ![t.val, 0] ∧ win0_1.index t = ![0, 0] ∧ win0_2.index t = ![0, 0] ∧
    win0_3.index t = ![0, 0] ∧ win0_4.index t = ![0, 0] ∧ win0_5.index t = ![0, 0] ∧ win0_6.index t = ![0, 0] ∧
    win0_7.index t = ![0, 0] ∧ win0_8.index t = ![0, 0] ∧ win0_9.index t = ![0, 0] :=
  (by decide +kernel : ∀ t : Fin grid0.N, _)

/-- Which block each result's window names at a grid point. -/
theorem odx : ∀ t : Fin cfg0.N, win0_10.index t = ![t.val, 0] ∧ win0_11.index t = ![t.val, 0] ∧
    win0_13.index t = ![0, t.val / 16, 0, t.val % 16] ∧ win0_14.index t = ![0, t.val / 16, 0, t.val % 16] ∧
    win0_15.index t = ![t.val / 16, 0, t.val % 16] ∧ win0_16.index t = ![t.val, 0] ∧ win0_17.index t = ![0, t.val / 16, 0, t.val % 16] ∧
    win0_18.index t = ![t.val, 0] ∧ win0_19.index t = ![t.val, 0] ∧ win0_20.index t = ![t.val, 0] ∧ win0_21.index t = ![t.val, 0] :=
  (by decide +kernel : ∀ t : Fin grid0.N, _)

/-- The grid has sixty-four points. -/
theorem lt_N (t : Fin cfg0.N) : t.val < 64 := t.isLt

/-- The sequence a grid point works on. -/
def bt (t : Fin cfg0.N) : Fin 4 := ⟨t.val / 16, by have := lt_N t; omega⟩
/-- The position in its sequence of a row of a grid point's tile. -/
def pl (t : Fin cfg0.N) (i : Fin 256) : Fin 4096 := ⟨256 * (t.val % 16) + i.val, by omega⟩
/-- The row of the flattened token array. -/
def rw_ (t : Fin cfg0.N) (i : Fin 256) : Fin 16384 := ⟨256 * t.val + i.val, by have := lt_N t; omega⟩

/-- The tokens. -/
abbrev X (c : Dev nD) (b : Fin 4) (n : Fin 4096) (d : Fin 1024) : EReal := m ((c : Thread nD τ).loc main_arg0) (ix3 b n d)
/-- The weights. -/
abbrev W (c : Dev nD) (d : Fin 1024) (j : Fin 6664) : EReal := m ((c : Thread nD τ).loc main_arg1) (ix2 d j)
/-- The bias of the forget gates. -/
abbrev B (c : Dev nD) (h : Fin 8) : EReal := m ((c : Thread nD τ).loc main_arg2) (ix1 h)

/-- What the host has left in this operand of the kernel. -/
theorem entry18 (c : Dev nD) (n : Fin 16384) (d : Fin 1024) :
    V m c main_v18 (ix2 n d) = X m c ⟨n.val / 4096, by omega⟩ ⟨n.val % 4096, by omega⟩ d := by
  simp only [V, hostOps0, hostOps0_1, hostOps0_2, List.flatten_cons, List.flatten_nil, List.append_nil, List.cons_append, List.nil_append]
  entry_read
  pointwise
/-- What the host has left in this operand of the kernel. -/
theorem entry2 (c : Dev nD) (d : Fin 1024) (j : Fin 1024) : V m c main_v2 (ix2 d j) = W m c d ⟨j.val, by omega⟩ := by
  simp only [V, hostOps0, hostOps0_1, hostOps0_2, List.flatten_cons, List.flatten_nil, List.append_nil, List.cons_append, List.nil_append]
  entry_read
  pointwise
/-- What the host has left in this operand of the kernel. -/
theorem entry5 (c : Dev nD) (j : Fin 1536) (d : Fin 1024) : V m c main_v5 (ix2 j d) = W m c d ⟨j.val, by omega⟩ := by
  simp only [V, hostOps0, hostOps0_1, hostOps0_2, List.flatten_cons, List.flatten_nil, List.append_nil, List.cons_append, List.nil_append]
  entry_read
  pointwise

/-- Padding columns behind keeps the columns of the array. -/
theorem pad_cols (v : FVec Ideal S1024x8 .f32) (z : FVec Ideal S_ .f32) (d : Fin 1024) (j : Fin 8) :
    pad S1024x128 ![0, 0] ![0, 120] ![0, 0] v z pads_S1024x8_S1024x128_000_01200 h_S_ (ix2 d ⟨j.val, by omega⟩) = v (ix2 d j) := by
  pointwise
/-- A slice of eight columns of the weights. -/
theorem cols8 (w : FVec Ideal S1024x6664 .f32) (d : Fin 1024) (j : Fin 8) :
    extractStridedSlice S1024x8 ![0, 1536] w slices_S1024x6664_S1024x8_0_1536 (ix2 d j) = w (ix2 d ⟨1536 + j.val, by omega⟩) := by
  pointwise

/-- What the host has left in this operand of the kernel. -/
theorem entry7 (c : Dev nD) (d : Fin 1024) (j : Fin 8) : V m c main_v7 (ix2 d ⟨j.val, by omega⟩) = W m c d ⟨1536 + j.val, by omega⟩ := by
  simp only [V, hostOps0, hostOps0_1, hostOps0_2, List.flatten_cons, List.flatten_nil, List.append_nil, List.cons_append, List.nil_append]
  entry_read
  exact (pad_cols _ _ d j).trans (cols8 _ d j)
/-- What the host has left in this operand of the kernel. -/
theorem entry9 (c : Dev nD) (j : Fin 8) (d : Fin 1024) : V m c main_v9 (ix2 j d) = W m c d ⟨1536 + j.val, by omega⟩ := by
  simp only [V, hostOps0, hostOps0_1, hostOps0_2, List.flatten_cons, List.flatten_nil, List.append_nil, List.cons_append, List.nil_append]
  entry_read
  pointwise
/-- What the host has left in this operand of the kernel. -/
theorem entry10 (c : Dev nD) (j : Fin 8) : V m c main_v10 (ix2 0 j) = B m c j := by
  simp only [V, hostOps0, hostOps0_1, hostOps0_2, List.flatten_cons, List.flatten_nil, List.append_nil, List.cons_append, List.nil_append]
  entry_read
  pointwise
/-- What the host has left in this operand of the kernel. -/
theorem entry11 (c : Dev nD) (j : Fin 8) : V m c main_v11 (ix2 j 0) = B m c j := by
  simp only [V, hostOps0, hostOps0_1, hostOps0_2, List.flatten_cons, List.flatten_nil, List.append_nil, List.cons_append, List.nil_append]
  entry_read
  pointwise
/-- What the host has left in this operand of the kernel. -/
theorem entry13 (c : Dev nD) (d : Fin 1024) (j : Fin 1024) : V m c main_v13 (ix2 d j) = W m c d ⟨1544 + j.val, by omega⟩ := by
  simp only [V, hostOps0, hostOps0_1, hostOps0_2, List.flatten_cons, List.flatten_nil, List.append_nil, List.cons_append, List.nil_append]
  entry_read
  pointwise
/-- What the host has left in this operand of the kernel. -/
theorem entry15 (c : Dev nD) (d : Fin 1024) (j : Fin 1024) : V m c main_v15 (ix2 d j) = W m c d ⟨2568 + j.val, by omega⟩ := by
  simp only [V, hostOps0, hostOps0_1, hostOps0_2, List.flatten_cons, List.flatten_nil, List.append_nil, List.cons_append, List.nil_append]
  entry_read
  pointwise
/-- What the host has left in this operand of the kernel. -/
theorem entry17 (c : Dev nD) (d : Fin 1024) (j : Fin 3072) : V m c main_v17 (ix2 d j) = W m c d ⟨3592 + j.val, by omega⟩ := by
  simp only [V, hostOps0, hostOps0_1, hostOps0_2, List.flatten_cons, List.flatten_nil, List.append_nil, List.cons_append, List.nil_append]
  entry_read
  pointwise

/-- What the kernel reads of the tokens at a grid point. -/
theorem read0 (c : Dev nD) (t : Fin cfg0.N) (i : Fin 256) (d : Fin 1024) : iblk m c 0 t (ix2 i d) = X m c (bt t) (pl t i) d := by
  have ht := lt_N t
  have e : (bt t, pl t i) = (⟨(rw_ t i).val / 4096, by have := (rw_ t i).isLt; omega⟩, ⟨(rw_ t i).val % 4096, by omega⟩) := by
    refine Prod.ext (Fin.ext ?_) (Fin.ext ?_)
    · show t.val / 16 = (256 * t.val + i.val) / 4096; omega
    · show 256 * (t.val % 16) + i.val = (256 * t.val + i.val) % 4096; omega
  rw [(Prod.mk.inj e).1, (Prod.mk.inj e).2, ← entry18 m c (rw_ t i) d]
  unfold rw_
  blk_ext [iblk, idx t]
/-- What the kernel reads of the weights of queries and keys. -/
theorem read1 (c : Dev nD) (t : Fin cfg0.N) (d : Fin 1024) (j : Fin 1024) : iblk m c 1 t (ix2 d j) = W m c d ⟨j.val, by omega⟩ := by
  rw [← entry2 m c d j]
  blk_ext [iblk, idx t]
/-- What the kernel reads of the transposed weights of queries, keys and values. -/
theorem read2 (c : Dev nD) (t : Fin cfg0.N) (j : Fin 1536) (d : Fin 1024) : iblk m c 2 t (ix2 j d) = W m c d ⟨j.val, by omega⟩ := by
  rw [← entry5 m c j d]
  blk_ext [iblk, idx t]
/-- What the kernel reads of the weights of the forget gates. -/
theorem read3 (c : Dev nD) (t : Fin cfg0.N) (d : Fin 1024) (j : Fin 8) : iblk m c 3 t (ix2 d ⟨j.val, by omega⟩) = W m c d ⟨1536 + j.val, by omega⟩ := by
  rw [← entry7 m c d j]
  blk_ext [iblk, idx t]
/-- What the kernel reads of the transposed weights of the forget gates. -/
theorem read4 (c : Dev nD) (t : Fin cfg0.N) (j : Fin 8) (d : Fin 1024) : iblk m c 4 t (ix2 j d) = W m c d ⟨1536 + j.val, by omega⟩ := by
  rw [← entry9 m c j d]
  blk_ext [iblk, idx t]
/-- What the kernel reads of the bias, as a row. -/
theorem read5 (c : Dev nD) (t : Fin cfg0.N) (j : Fin 8) : iblk m c 5 t (ix2 0 j) = B m c j := by
  rw [← entry10 m c j]
  blk_ext [iblk, idx t]
/-- What the kernel reads of the bias, as a column. -/
theorem read6 (c : Dev nD) (t : Fin cfg0.N) (j : Fin 8) : iblk m c 6 t (ix2 j 0) = B m c j := by
  rw [← entry11 m c j]
  blk_ext [iblk, idx t]
/-- What the kernel reads of the weights of the gated unit. -/
theorem read7 (c : Dev nD) (t : Fin cfg0.N) (d : Fin 1024) (j : Fin 1024) : iblk m c 7 t (ix2 d j) = W m c d ⟨1544 + j.val, by omega⟩ := by
  rw [← entry13 m c d j]
  blk_ext [iblk, idx t]
/-- What the kernel reads of the weights of the recurrent branch. -/
theorem read8 (c : Dev nD) (t : Fin cfg0.N) (d : Fin 1024) (j : Fin 1024) : iblk m c 8 t (ix2 d j) = W m c d ⟨2568 + j.val, by omega⟩ := by
  rw [← entry15 m c d j]
  blk_ext [iblk, idx t]
/-- What the kernel reads of the weights of the branch gates. -/
theorem read9 (c : Dev nD) (t : Fin cfg0.N) (d : Fin 1024) (j : Fin 3072) : iblk m c 9 t (ix2 d j) = W m c d ⟨3592 + j.val, by omega⟩ := by
  rw [← entry17 m c d j]
  blk_ext [iblk, idx t]

end Cert.Kernel3Ideal.Tile

end
-- ==== Proof.InTile.lean ====
module

public import proofs.«01_k».proof.Proof.Gen.Kernel3Ideal.Frame
public import proofs.«01_k».proof.Proof.InSpec
public import Idealize.ShloMosaic.Lib.Pointwise

/-! What the projection kernel computes of one tile of tokens: each stored value, index by index, as sums of products of the
    operands. -/

@[expose] public section

set_option maxRecDepth 16384

noncomputable section
namespace Cert.Kernel3Ideal.Tile
open Idealize.ShloMosaic Idealize.ShloMosaic.TcCoe Idealize.SL.Sem Cert.Kernel3Ideal Cert.Kernel3Ideal.Gen Cert.Inproj

/-- Queries: scaled. -/
theorem pay4_at (x : FVec Ideal S256x1024 .f32) (w : FVec Ideal S1024x1024 .bf16) (i : Fin 256) (j : Fin 512) :
    k0_pay4 (F := Ideal) x w (ix2 i j) = (∑ d : Fin 1024, x (ix2 i d) * w (ix2 d ⟨j.val, by omega⟩)) * Ideal.ofBits .f32 0x3E000000#32 := by
  pointwise [k0_pay4, k0_pay3, k0_pay2]
/-- Keys. -/
theorem pay5_at (x : FVec Ideal S256x1024 .f32) (w : FVec Ideal S1024x1024 .bf16) (i : Fin 256) (j : Fin 512) :
    k0_pay5 (F := Ideal) x w (ix2 i j) = ∑ d : Fin 1024, x (ix2 i d) * w (ix2 d ⟨512 + j.val, by omega⟩) := by
  pointwise [k0_pay5, k0_pay3, k0_pay2]
/-- Keys by time. -/
theorem pay7_at (x : FVec Ideal S256x1024 .f32) (w : FVec Ideal S1536x1024 .bf16) (j : Fin 512) (i : Fin 256) :
    k0_pay7 (F := Ideal) x w (ix4 0 0 j i) = ∑ d : Fin 1024, w (ix2 ⟨512 + j.val, by omega⟩ d) * x (ix2 i d) := by
  pointwise [k0_pay7, k0_pay6, k0_pay2]
/-- Values by time. -/
theorem pay9_at (x : FVec Ideal S256x1024 .f32) (w : FVec Ideal S1536x1024 .bf16) (j : Fin 512) (i : Fin 256) :
    k0_pay9 (F := Ideal) x w (ix4 0 0 j i) = ∑ d : Fin 1024, w (ix2 ⟨1024 + j.val, by omega⟩ d) * x (ix2 i d) := by
  pointwise [k0_pay9, k0_pay8, k0_pay6, k0_pay2]
/-- Values by time, rounded. -/
theorem pay10_at (x : FVec Ideal S256x1024 .f32) (w : FVec Ideal S1536x1024 .bf16) (j : Fin 512) (i : Fin 256) :
    k0_pay10 (F := Ideal) x w (ix3 0 j i) = ∑ d : Fin 1024, w (ix2 ⟨1024 + j.val, by omega⟩ d) * x (ix2 i d) := by
  pointwise [k0_pay10, k0_pay8, k0_pay6, k0_pay2]
/-- The logarithms of the forget gates. -/
theorem pay25_at (x : FVec Ideal S256x1024 .f32) (w : FVec Ideal S1024x128 .bf16) (b : FVec Ideal S1x8 .f32) (i : Fin 256) (h : Fin 8) :
    k0_pay25 (F := Ideal) (k0_pay23 (k0_pay2 x) w b) (k0_pay24 (k0_pay2 x) w b) (ix2 i h) = logSig ((∑ d : Fin 1024, x (ix2 i d) * w (ix2 d ⟨h.val, by omega⟩)) + b (ix2 0 h)) := by
  rw [← logSig_min]
  pointwise [k0_pay25, k0_pay24, k0_pay23, k0_pay2]
  rfl
/-- The logarithms of the forget gates, by time. -/
theorem pay26_at (x : FVec Ideal S256x1024 .f32) (w : FVec Ideal S8x1024 .bf16) (b : FVec Ideal S8x1 .f32) (h : Fin 8) (i : Fin 256) :
    k0_pay26 (F := Ideal) (k0_pay2 x) w b (ix4 0 0 h i) = logSig ((∑ d : Fin 1024, w (ix2 h d) * x (ix2 i d)) + b (ix2 h 0)) := by
  rw [← logSig_min]
  pointwise [k0_pay26, k0_pay2]
  rfl
/-- The gated linear unit. -/
theorem pay27_at (x : FVec Ideal S256x1024 .f32) (w : FVec Ideal S1024x1024 .bf16) (i : Fin 256) (j : Fin 512) :
    k0_pay27 (F := Ideal) (k0_pay2 x) w (ix2 i j) = (∑ d : Fin 1024, x (ix2 i d) * w (ix2 d ⟨j.val, by omega⟩))
      * Ideal.logistic (∑ d : Fin 1024, x (ix2 i d) * w (ix2 d ⟨512 + j.val, by omega⟩)) := by
  pointwise [k0_pay27, k0_pay2]
/-- The recurrent branch's input. -/
theorem pay30_at (x : FVec Ideal S256x1024 .f32) (w : FVec Ideal S1024x1024 .bf16) (i : Fin 256) (j : Fin 512) :
    k0_pay30 (F := Ideal) (k0_pay2 x) (k0_pay28 w) (constant S256x1024 .f32 0x00000000#32) (ix2 i j) = ∑ d : Fin 1024, x (ix2 i d) * w (ix2 d ⟨j.val, by omega⟩) := by
  pointwise [k0_pay30, k0_pay29, k0_pay28, k0_pay2]
/-- The recurrent branch's gate. -/
theorem pay31_at (x : FVec Ideal S256x1024 .f32) (w : FVec Ideal S1024x1024 .bf16) (i : Fin 256) (j : Fin 512) :
    k0_pay31 (F := Ideal) (k0_pay2 x) (k0_pay28 w) (constant S256x1024 .f32 0x00000000#32) (ix2 i j) = gelu (∑ d : Fin 1024, x (ix2 i d) * w (ix2 d ⟨512 + j.val, by omega⟩)) := by
  have e : k0_pay29 (F := Ideal) (k0_pay2 x) (k0_pay28 w) (constant S256x1024 .f32 0x00000000#32) (ix2 i ⟨512 + j.val, by omega⟩) = ∑ d : Fin 1024, x (ix2 i d) * w (ix2 d ⟨512 + j.val, by omega⟩) := by
    pointwise [k0_pay29, k0_pay28, k0_pay2]
  rw [← e]
  unfold k0_pay31 gelu
  generalize k0_pay29 (F := Ideal) (k0_pay2 x) (k0_pay28 w) (constant S256x1024 .f32 0x00000000#32) = Z
  rw [mul_assoc (Z _) (Z _) (Z _)]
  pointwise
/-- The gates of the branches, for a third of the columns. -/
theorem pay32_at (x : FVec Ideal S256x1024 .f32) (w : FVec Ideal S1024x1024 .bf16) (i : Fin 256) (j : Fin 1024) :
    k0_pay32 (F := Ideal) (k0_pay2 x) w (ix2 i j) = Ideal.logistic (∑ d : Fin 1024, x (ix2 i d) * w (ix2 d j)) := by
  pointwise [k0_pay32, k0_pay2]
/-- The second branch's gates of a tile. -/
theorem pay33_at (x : FVec Ideal S256x1024 .f32) (w : FVec Ideal S1024x1024 .bf16) (i : Fin 256) (j : Fin 1024) :
    k0_pay33 (F := Ideal) (k0_pay2 x) w (ix2 i j) = Ideal.logistic (∑ d : Fin 1024, x (ix2 i d) * w (ix2 d j)) := pay32_at x w i j
/-- The third branch's gates of a tile. -/
theorem pay1_at (x : FVec Ideal S256x1024 .f32) (w : FVec Ideal S1024x1024 .bf16) (i : Fin 256) (j : Fin 1024) :
    k0_pay1 (F := Ideal) (k0_pay34 (k0_pay2 x) w) (ix2 i j) = Ideal.logistic (∑ d : Fin 1024, x (ix2 i d) * w (ix2 d j)) := pay32_at x w i j

end Cert.Kernel3Ideal.Tile

end
-- ==== Proof.InFold.lean ====
module

public import proofs.«01_k».proof.Proof.InBlocks
public import proofs.«01_k».proof.Proof.InTile
public import proofs.«01_k».proof.Proof.Gen.Kernel3Ideal.Value

/-! What the projection kernel's result arrays hold after the run. -/

@[expose] public section

set_option maxRecDepth 16384

noncomputable section
namespace Cert.Kernel3Ideal.Tile
open Idealize.ShloMosaic Idealize.ShloMosaic.TcCoe Idealize.SL.Sem Cert.Kernel3Ideal Cert.Kernel3Ideal.Gen Cert.Inproj
open Idealize.ShloMosaic.Pipeline (Dat)
variable (m : (ℓ : Loc nD τ sig) → Buf (Elt Ideal) ℓ)

/-- The sequence that a tile's row belongs to. -/
theorem seq_rw (t : Fin cfg0.N) (i : Fin 256) : seqOf (rw_ t i) = bt t := by
  refine Fin.ext ?_
  show (256 * t.val + i.val) / 4096 = t.val / 16
  omega

/-- The position of a tile's row within its sequence. -/
theorem pos_rw (t : Fin cfg0.N) (i : Fin 256) : posOf (rw_ t i) = pl t i := by
  refine Fin.ext ?_
  show (256 * t.val + i.val) % 4096 = 256 * (t.val % 16) + i.val
  omega

/-- A row of the tile times a column of weights is the token's projection. -/
theorem sum_xw (c : Dev nD) (t : Fin cfg0.N) (i : Fin 256) (j : Fin 6664) {x w : Fin 1024 → EReal} (hx : ∀ d, x d = X m c (bt t) (pl t i) d)
    (h : ∀ d, w d = W m c d j) : ∑ d : Fin 1024, x d * w d = proj (X m c) (W m c) (bt t) (pl t i) j :=
  Finset.sum_congr rfl fun d _ => congrArg₂ (· * ·) (hx d) (h d)

/-- The same with the factors the other way round. -/
theorem sum_wx (c : Dev nD) (t : Fin cfg0.N) (i : Fin 256) (j : Fin 6664) {x w : Fin 1024 → EReal} (hx : ∀ d, x d = X m c (bt t) (pl t i) d)
    (h : ∀ d, w d = W m c d j) : ∑ d : Fin 1024, w d * x d = proj (X m c) (W m c) (bt t) (pl t i) j :=
  (Finset.sum_congr rfl fun _ _ => mul_comm _ _).trans (sum_xw m c t i j hx h)

/-- A block of three groups of columns, as three stores leave it. -/
theorem cols_canon (P0 P1 P2 : FVec Ideal S256x1024 .bf16) (h0 h1 h2) (i : Fin 256) (j : Fin 3072) :
    View.canon (Val := Elt Ideal)
      [(⟨Rect.unit (s := S256x3072) ![0, 2048] ![256, 1024] h2, P2⟩ : View.Piece (Elt Ideal) S256x3072 .bf16),
        ⟨Rect.unit (s := S256x3072) ![0, 1024] ![256, 1024] h1, P1⟩, ⟨Rect.unit (s := S256x3072) ![0, 0] ![256, 1024] h0, P0⟩] (ix2 i j)
      = (if j.val < 1024 then P0 else if j.val < 2048 then P1 else P2) (ix2 i ⟨j.val % 1024, Nat.mod_lt _ (by decide)⟩) := by
  by_cases ha : j.val < 1024
  · rw [if_pos ha, View.canon_cons_of_not_mem _ _ (Rect.not_mem_set_of_axis _ _ 1 2048 1024 rfl rfl rfl (Or.inl (by show j.val < 2048; omega))),
      View.canon_cons_of_not_mem _ _ (Rect.not_mem_set_of_axis _ _ 1 1024 1024 rfl rfl rfl (Or.inl (by show j.val < 1024; omega)))]
    have he : (Rect.unit (s := S256x3072) ![0, 0] ![256, 1024] h0).emb (ix2 i ⟨j.val % 1024, Nat.mod_lt _ (by decide)⟩) = ix2 i j := by
      refine Rect.emb_eq_of_coords _ _ _ fun a => ?_
      match a with
      | ⟨0, _⟩ => show i.val = 0 + 1 * i.val; omega
      | ⟨1, _⟩ => show j.val = 0 + 1 * (j.val % 1024); omega
    exact (congrArg _ he.symm).trans (View.canon_cons_emb _ _ _ _)
  · by_cases hb : j.val < 2048
    · rw [if_neg ha, if_pos hb, View.canon_cons_of_not_mem _ _ (Rect.not_mem_set_of_axis _ _ 1 2048 1024 rfl rfl rfl (Or.inl (by show j.val < 2048; omega)))]
      have he : (Rect.unit (s := S256x3072) ![0, 1024] ![256, 1024] h1).emb (ix2 i ⟨j.val % 1024, Nat.mod_lt _ (by decide)⟩) = ix2 i j := by
        refine Rect.emb_eq_of_coords _ _ _ fun a => ?_
        match a with
        | ⟨0, _⟩ => show i.val = 0 + 1 * i.val; omega
        | ⟨1, _⟩ => show j.val = 1024 + 1 * (j.val % 1024); omega
      exact (congrArg _ he.symm).trans (View.canon_cons_emb _ _ _ _)
    · rw [if_neg ha, if_neg hb]
      have he : (Rect.unit (s := S256x3072) ![0, 2048] ![256, 1024] h2).emb (ix2 i ⟨j.val % 1024, Nat.mod_lt _ (by decide)⟩) = ix2 i j := by
        refine Rect.emb_eq_of_coords _ _ _ fun a => ?_
        match a with
        | ⟨0, _⟩ => show i.val = 0 + 1 * i.val; omega
        | ⟨1, _⟩ => show j.val = 2048 + 1 * (j.val % 1024); have := j.isLt; omega
      exact (congrArg _ he.symm).trans (View.canon_cons_emb _ _ _ _)

/-- A group of columns of the weights, as a load reads it. -/
theorem ld_cols (w : FVec Ideal S1024x3072 .bf16) (o : ℕ) (h) (d j : Fin 1024) (hj : o + j.val < 3072) :
    View.ld (Val := Elt Ideal) (e' := .bf16) (S := S1024x3072) w (Rect.unit (s := S1024x3072) ![0, o] ![1024, 1024] h) (ix2 d j) = w (ix2 d ⟨o + j.val, hj⟩) := by
  refine View.ld_unit_apply_of (Val := Elt Ideal) (e := .bf16) w _ _ h _ _ fun a => ?_
  match a with
  | ⟨0, _⟩ => show d.val = 0 + d.val; omega
  | ⟨1, _⟩ => show o + j.val = o + j.val; rfl

/-- The queries after the run. -/
theorem final10 (c : Dev nD) : (dats m 0 c).arrAt 10 cfg0.N = (fun i => qF (X m c) (W m c) (i 0) (i 1) : FVec Ideal S16384x512 .bf16) := by
  refine (dats m 0 c).arrAt_eq_of_covers 10 (fun i => qF (X m c) (W m c) (i 0) (i 1) : FVec Ideal S16384x512 .bf16) (by decide +kernel) fun t hf y => ?_
  have ht := lt_N t
  blk_simp
  rw [after0_10]
  idx_vars y
  have e : ((View.whole main_v19_0).slice (win0_10.rect t)).emb (ix2 y0 y1) = ix2 (rw_ t y0) y1 := by
    unfold rw_
    blk_ext [odx t]
  rw [e]
  unfold out0_10
  rw [View.canon_cons_unit_lit _ _ _ (by decide), View.ld_unit_lit _ _ (by decide), View.ld_unit_lit _ _ (by decide)]
  refine (pay4_at _ _ y0 y1).trans ?_
  show _ = proj _ _ (seqOf (rw_ t y0)) (posOf (rw_ t y0)) _ * _
  rw [seq_rw, pos_rw]
  exact congrArg (· * _) (sum_xw m c t y0 _ (fun d => read0 m c t y0 d) fun d => read1 m c t d _)

/-- The keys after the run. -/
theorem final11 (c : Dev nD) : (dats m 0 c).arrAt 11 cfg0.N = (fun i => kF (X m c) (W m c) (seqOf (i 0)) (posOf (i 0)) (i 1) : FVec Ideal S16384x512 .bf16) := by
  refine (dats m 0 c).arrAt_eq_of_covers 11 (fun i => kF (X m c) (W m c) (seqOf (i 0)) (posOf (i 0)) (i 1) : FVec Ideal S16384x512 .bf16) (by decide +kernel) fun t hf y => ?_
  have ht := lt_N t
  blk_simp
  rw [after0_11]
  idx_vars y
  have e : ((View.whole main_v19_1).slice (win0_11.rect t)).emb (ix2 y0 y1) = ix2 (rw_ t y0) y1 := by
    unfold rw_
    blk_ext [odx t]
  rw [e]
  unfold out0_11
  rw [View.canon_cons_unit_lit _ _ _ (by decide), View.ld_unit_lit _ _ (by decide), View.ld_unit_lit _ _ (by decide)]
  refine (pay5_at _ _ y0 y1).trans ?_
  show _ = proj _ _ (seqOf (rw_ t y0)) (posOf (rw_ t y0)) _
  rw [seq_rw, pos_rw]
  exact sum_xw m c t y0 _ (fun d => read0 m c t y0 d) fun d => read1 m c t d _

/-- The logarithms of the forget gates after the run. -/
theorem final16 (c : Dev nD) : (dats m 0 c).arrAt 16 cfg0.N = (fun i => lfF (X m c) (W m c) (B m c) (seqOf (i 0)) (posOf (i 0)) (i 1) : FVec Ideal S16384x8 .f32) := by
  refine (dats m 0 c).arrAt_eq_of_covers 16 (fun i => lfF (X m c) (W m c) (B m c) (seqOf (i 0)) (posOf (i 0)) (i 1) : FVec Ideal S16384x8 .f32) (by decide +kernel) fun t hf y => ?_
  have ht := lt_N t
  blk_simp
  rw [after0_16]
  idx_vars y
  have e : ((View.whole main_v19_6).slice (win0_16.rect t)).emb (ix2 y0 y1) = ix2 (rw_ t y0) y1 := by
    unfold rw_
    blk_ext [odx t]
  rw [e]
  unfold out0_16 k0_pay35
  rw [View.canon_cons_unit_lit _ _ _ (by decide), View.ld_unit_lit _ _ (by decide), View.ld_unit_lit _ _ (by decide), View.ld_unit_lit _ _ (by decide)]
  refine (pay25_at _ _ _ y0 y1).trans ?_
  show _ = logSig (proj _ _ (seqOf (rw_ t y0)) (posOf (rw_ t y0)) _ + _)
  rw [seq_rw, pos_rw]
  exact congrArg logSig (congrArg₂ (· + ·) (sum_xw m c t y0 _ (fun d => read0 m c t y0 d) fun d => read3 m c t d _) (read5 m c t y1))

/-- The gated linear unit after the run. -/
theorem final18 (c : Dev nD) : (dats m 0 c).arrAt 18 cfg0.N = (fun i => uF (X m c) (W m c) (i 0) (i 1) : FVec Ideal S16384x512 .f32) := by
  refine (dats m 0 c).arrAt_eq_of_covers 18 (fun i => uF (X m c) (W m c) (i 0) (i 1) : FVec Ideal S16384x512 .f32) (by decide +kernel) fun t hf y => ?_
  have ht := lt_N t
  blk_simp
  rw [after0_18]
  idx_vars y
  have e : ((View.whole main_v19_8).slice (win0_18.rect t)).emb (ix2 y0 y1) = ix2 (rw_ t y0) y1 := by
    unfold rw_
    blk_ext [odx t]
  rw [e]
  unfold out0_18 k0_pay35
  rw [View.canon_cons_unit_lit _ _ _ (by decide), View.ld_unit_lit _ _ (by decide), View.ld_unit_lit _ _ (by decide)]
  refine (pay27_at _ _ y0 y1).trans ?_
  show _ = proj _ _ (seqOf (rw_ t y0)) (posOf (rw_ t y0)) _ * Ideal.logistic (proj _ _ (seqOf (rw_ t y0)) (posOf (rw_ t y0)) _)
  rw [seq_rw, pos_rw]
  refine congrArg₂ (fun a b => a * Ideal.logistic b) (sum_xw m c t y0 _ (fun d => read0 m c t y0 d) fun d => read7 m c t d _)
    (sum_xw m c t y0 _ (fun d => read0 m c t y0 d) fun d => (read7 m c t d _).trans ?_)
  exact congrArg (W m c d) (Fin.ext (by show 1544 + (512 + y1.val) = 2056 + y1.val; omega))

/-- The recurrent branch's input after the run. -/
theorem final19 (c : Dev nD) : (dats m 0 c).arrAt 19 cfg0.N = (fun i => rgF (X m c) (W m c) (i 0) (i 1) : FVec Ideal S16384x512 .f32) := by
  refine (dats m 0 c).arrAt_eq_of_covers 19 (fun i => rgF (X m c) (W m c) (i 0) (i 1) : FVec Ideal S16384x512 .f32) (by decide +kernel) fun t hf y => ?_
  have ht := lt_N t
  blk_simp
  rw [after0_19]
  idx_vars y
  have e : ((View.whole main_v19_9).slice (win0_19.rect t)).emb (ix2 y0 y1) = ix2 (rw_ t y0) y1 := by
    unfold rw_
    blk_ext [odx t]
  rw [e]
  unfold out0_19 k0_pay40 k0_pay39 k0_pay35
  rw [View.canon_cons_unit_lit _ _ _ (by decide), View.ld_unit_lit _ _ (by decide), View.ld_unit_lit _ _ (by decide)]
  refine (pay30_at _ _ y0 y1).trans ?_
  show _ = proj _ _ (seqOf (rw_ t y0)) (posOf (rw_ t y0)) _
  rw [seq_rw, pos_rw]
  exact sum_xw m c t y0 _ (fun d => read0 m c t y0 d) fun d => read8 m c t d _

/-- The recurrent branch's gate after the run. -/
theorem final20 (c : Dev nD) : (dats m 0 c).arrAt 20 cfg0.N = (fun i => ggF (X m c) (W m c) (i 0) (i 1) : FVec Ideal S16384x512 .bf16) := by
  refine (dats m 0 c).arrAt_eq_of_covers 20 (fun i => ggF (X m c) (W m c) (i 0) (i 1) : FVec Ideal S16384x512 .bf16) (by decide +kernel) fun t hf y => ?_
  have ht := lt_N t
  blk_simp
  rw [after0_20]
  idx_vars y
  have e : ((View.whole main_v19_10).slice (win0_20.rect t)).emb (ix2 y0 y1) = ix2 (rw_ t y0) y1 := by
    unfold rw_
    blk_ext [odx t]
  rw [e]
  unfold out0_20 k0_pay40 k0_pay39 k0_pay35
  rw [View.canon_cons_unit_lit _ _ _ (by decide), View.ld_unit_lit _ _ (by decide), View.ld_unit_lit _ _ (by decide)]
  refine (pay31_at _ _ y0 y1).trans ?_
  show _ = gelu (proj _ _ (seqOf (rw_ t y0)) (posOf (rw_ t y0)) _)
  rw [seq_rw, pos_rw]
  refine congrArg gelu (sum_xw m c t y0 _ (fun d => read0 m c t y0 d) fun d => (read8 m c t d _).trans ?_)
  exact congrArg (W m c d) (Fin.ext (by show 2568 + (512 + y1.val) = 3080 + y1.val; omega))

/-- The gates of the branches after the run. -/
theorem final21 (c : Dev nD) : (dats m 0 c).arrAt 21 cfg0.N = (fun i => gtF (X m c) (W m c) (i 0) (i 1) : FVec Ideal S16384x3072 .bf16) := by
  refine (dats m 0 c).arrAt_eq_of_covers 21 (fun i => gtF (X m c) (W m c) (i 0) (i 1) : FVec Ideal S16384x3072 .bf16) (by decide +kernel) fun t hf y => ?_
  have ht := lt_N t
  blk_simp
  rw [after0_21]
  idx_vars y
  have e : ((View.whole main_v19_11).slice (win0_21.rect t)).emb (ix2 y0 y1) = ix2 (rw_ t y0) y1 := by
    unfold rw_
    blk_ext [odx t]
  rw [e]
  unfold out0_21 k0_pay35
  rw [View.ld_unit_lit _ _ (by decide)]
  refine (cols_canon _ _ _ _ _ _ y0 y1).trans ?_
  show _ = Ideal.logistic (proj _ _ (seqOf (rw_ t y0)) (posOf (rw_ t y0)) _)
  rw [seq_rw, pos_rw]
  have h1 := y1.isLt
  by_cases ha : y1.val < 1024
  · rw [if_pos ha]
    refine (pay32_at _ _ y0 _).trans (congrArg Ideal.logistic (sum_xw m c t y0 _ (fun d => read0 m c t y0 d) fun d => ?_))
    refine (ld_cols _ 0 _ d _ (by show 0 + y1.val % 1024 < 3072; omega)).trans ((read9 m c t d _).trans ?_)
    exact congrArg (W m c d) (Fin.ext (by show 3592 + (0 + y1.val % 1024) = 3592 + y1.val; omega))
  · by_cases hb : y1.val < 2048
    · rw [if_neg ha, if_pos hb]
      refine (pay33_at _ _ y0 _).trans (congrArg Ideal.logistic (sum_xw m c t y0 _ (fun d => read0 m c t y0 d) fun d => ?_))
      refine (ld_cols _ 1024 _ d _ (by show 1024 + y1.val % 1024 < 3072; omega)).trans ((read9 m c t d _).trans ?_)
      exact congrArg (W m c d) (Fin.ext (by show 3592 + (1024 + y1.val % 1024) = 3592 + y1.val; omega))
    · rw [if_neg ha, if_neg hb]
      refine (pay1_at _ _ y0 _).trans (congrArg Ideal.logistic (sum_xw m c t y0 _ (fun d => read0 m c t y0 d) fun d => ?_))
      refine (ld_cols _ 2048 _ d _ (by show 2048 + y1.val % 1024 < 3072; omega)).trans ((read9 m c t d _).trans ?_)
      exact congrArg (W m c d) (Fin.ext (by show 3592 + (2048 + y1.val % 1024) = 3592 + y1.val; omega))

/-- The keys by time after the run. -/
theorem final13 (c : Dev nD) : (dats m 0 c).arrAt 13 cfg0.N = (fun i => kF (X m c) (W m c) (i 1) (i 3) (i 2) : FVec Ideal S1x4x512x4096 .f32) := by
  refine (dats m 0 c).arrAt_eq_of_covers 13 (fun i => kF (X m c) (W m c) (i 1) (i 3) (i 2) : FVec Ideal S1x4x512x4096 .f32) (by decide +kernel) fun t hf y => ?_
  have ht := lt_N t
  blk_simp
  rw [after0_13]
  idx_vars y
  obtain rfl : y0 = 0 := Subsingleton.elim _ _
  obtain rfl : y1 = 0 := Subsingleton.elim _ _
  have e : ((View.whole main_v19_3).slice (win0_13.rect t)).emb (ix4 0 0 y2 y3) = ix4 0 (bt t) y2 (pl t y3) := by
    unfold bt pl
    blk_ext [odx t]
  rw [e]
  unfold out0_13
  rw [View.canon_cons_unit_lit _ _ _ (by decide), View.ld_unit_lit _ _ (by decide), View.ld_unit_lit _ _ (by decide)]
  refine (pay7_at _ _ y2 y3).trans ?_
  exact sum_wx m c t y3 _ (fun d => read0 m c t y3 d) fun d => read2 m c t _ d

/-- The values by time after the run. -/
theorem final14 (c : Dev nD) : (dats m 0 c).arrAt 14 cfg0.N = (fun i => vF (X m c) (W m c) (i 1) (i 3) (i 2) : FVec Ideal S1x4x512x4096 .f32) := by
  refine (dats m 0 c).arrAt_eq_of_covers 14 (fun i => vF (X m c) (W m c) (i 1) (i 3) (i 2) : FVec Ideal S1x4x512x4096 .f32) (by decide +kernel) fun t hf y => ?_
  have ht := lt_N t
  blk_simp
  rw [after0_14]
  idx_vars y
  obtain rfl : y0 = 0 := Subsingleton.elim _ _
  obtain rfl : y1 = 0 := Subsingleton.elim _ _
  have e : ((View.whole main_v19_4).slice (win0_14.rect t)).emb (ix4 0 0 y2 y3) = ix4 0 (bt t) y2 (pl t y3) := by
    unfold bt pl
    blk_ext [odx t]
  rw [e]
  unfold out0_14
  rw [View.canon_cons_unit_lit _ _ _ (by decide), View.ld_unit_lit _ _ (by decide), View.ld_unit_lit _ _ (by decide)]
  refine (pay9_at _ _ y2 y3).trans ?_
  exact sum_wx m c t y3 _ (fun d => read0 m c t y3 d) fun d => read2 m c t _ d

/-- The values by time, rounded, after the run. -/
theorem final15 (c : Dev nD) : (dats m 0 c).arrAt 15 cfg0.N = (fun i => vF (X m c) (W m c) (i 0) (i 2) (i 1) : FVec Ideal S4x512x4096 .bf16) := by
  refine (dats m 0 c).arrAt_eq_of_covers 15 (fun i => vF (X m c) (W m c) (i 0) (i 2) (i 1) : FVec Ideal S4x512x4096 .bf16) (by decide +kernel) fun t hf y => ?_
  have ht := lt_N t
  blk_simp
  rw [after0_15]
  idx_vars y
  obtain rfl : y0 = 0 := Subsingleton.elim _ _
  have e : ((View.whole main_v19_5).slice (win0_15.rect t)).emb (ix3 0 y1 y2) = ix3 (bt t) y1 (pl t y2) := by
    unfold bt pl
    blk_ext [odx t]
  rw [e]
  unfold out0_15
  rw [View.canon_cons_unit_lit _ _ _ (by decide), View.ld_unit_lit _ _ (by decide), View.ld_unit_lit _ _ (by decide)]
  refine (pay10_at _ _ y1 y2).trans ?_
  exact sum_wx m c t y2 _ (fun d => read0 m c t y2 d) fun d => read2 m c t _ d

/-- The logarithms of the forget gates by time after the run. -/
theorem final17 (c : Dev nD) : (dats m 0 c).arrAt 17 cfg0.N = (fun i => lfF (X m c) (W m c) (B m c) (i 1) (i 3) (i 2) : FVec Ideal S1x4x8x4096 .f32) := by
  refine (dats m 0 c).arrAt_eq_of_covers 17 (fun i => lfF (X m c) (W m c) (B m c) (i 1) (i 3) (i 2) : FVec Ideal S1x4x8x4096 .f32) (by decide +kernel) fun t hf y => ?_
  have ht := lt_N t
  blk_simp
  rw [after0_17]
  idx_vars y
  obtain rfl : y0 = 0 := Subsingleton.elim _ _
  obtain rfl : y1 = 0 := Subsingleton.elim _ _
  have e : ((View.whole main_v19_7).slice (win0_17.rect t)).emb (ix4 0 0 y2 y3) = ix4 0 (bt t) y2 (pl t y3) := by
    unfold bt pl
    blk_ext [odx t]
  rw [e]
  unfold out0_17 k0_pay35
  rw [View.canon_cons_unit_lit _ _ _ (by decide), View.ld_unit_lit _ _ (by decide), View.ld_unit_lit _ _ (by decide), View.ld_unit_lit _ _ (by decide)]
  refine (pay26_at _ _ _ y2 y3).trans ?_
  exact congrArg logSig (congrArg₂ (· + ·) (sum_wx m c t y3 _ (fun d => read0 m c t y3 d) fun d => read4 m c t _ d) (read6 m c t y2))

end Cert.Kernel3Ideal.Tile

end
-- ==== Proof.InRef.lean ====
module

public import proofs.«01_k».proof.Proof.Gen.Reference3Ideal.Run
public import proofs.«01_k».proof.Proof.InSpec
public import Idealize.ShloMosaic.Lib.Pointwise

/-! What the projections' reference leaves in its result arrays, index by index. -/

@[expose] public section

set_option maxRecDepth 16384

noncomputable section
namespace Cert.Reference3Ideal.After
open Idealize.ShloMosaic Idealize.ShloMosaic.TcCoe Idealize.SL.Sem Cert.Reference3Ideal Cert.Reference3Ideal.Gen Cert.Inproj Cert.RgLru

variable (a0 : FVec Ideal S4x4096x1024 .f32) (a1 : FVec Ideal S1024x6664 .f32) (a2 : FVec Ideal S8 .f32)

/-- The tokens. -/
abbrev X (b : Fin 4) (n : Fin 4096) (d : Fin 1024) : EReal := a0 (ix3 b n d)
/-- The weights. -/
abbrev W (d : Fin 1024) (j : Fin 6664) : EReal := a1 (ix2 d j)
/-- The bias of the forget gates. -/
abbrev B (h : Fin 8) : EReal := a2 (ix1 h)

/-- All the projections. -/
def Z : FVec Ideal S4x4096x6664 .f32 := Host.dotGeneral dot_S4x4096x1024_S1024x6664_S4x4096x6664_2_0_01_1_n_n none a0 a1

/-- An entry of the product of all projections. -/
theorem Z_at (b : Fin 4) (n : Fin 4096) (j : Fin 6664) : Z a0 a1 (ix3 b n j) = proj (X a0) (W a1) b n j := by
  unfold proj Z
  pointwise

/-- The logarithms of the forget gates. -/
def LF (z : FVec Ideal S4x4096x6664 .f32) : FVec Ideal S4x4096x8 .f32 :=
  have s := Host.negf (addf (extractStridedSlice S4x4096x8 ![0, 0, 1536] z slices_S4x4096x6664_S4x4096x8_0_0_1536) (broadcastInDim S4x4096x8 ![0, 1, 2] bcast_S1x1x8_S4x4096x8_0_1_2 (broadcastInDim S1x1x8 ![2] bcast_S8_S1x1x8_2 a2)))
  have o := broadcastInDim S4x4096x8 ![] bcast_S_S4x4096x8 (constant (F := Ideal) S_ .f32 0x00000000#32)
  Host.negf (select (cmpf .une (subf s o) (subf s o)) (addf s o) (addf (maximumf s o) (Host.log1p (Host.exp (Host.negf (Host.absf (subf s o)))))))

/-- An entry of the forget gates' logarithms. -/
theorem LF_at (z : FVec Ideal S4x4096x6664 .f32) (b : Fin 4) (n : Fin 4096) (h : Fin 8) :
    LF a2 z (ix3 b n h) = logSig (z (ix3 b n ⟨1536 + h.val, by omega⟩) + B a2 h) := by
  unfold LF logSig softplus
  pointwise
  rw [if_neg (fun h => h rfl)]
  rfl

/-- The first result: the queries. -/
theorem q_at (z : FVec Ideal S4x4096x6664 .f32) (n : Fin 16384) (j : Fin 512) :
    truncf (F := Ideal) .bf16 (shapeCast S16384x512 (mulf (shapeCast S4x4096x8x64 (extractStridedSlice S4x4096x512 ![0, 0, 0] z slices_S4x4096x6664_S4x4096x512_0_0_0) shapeCasts_S4x4096x512_S4x4096x8x64) (broadcastInDim S4x4096x8x64 ![] bcast_S_S4x4096x8x64 (constant S_ .f32 0x3E000000#32))) shapeCasts_S4x4096x8x64_S16384x512) bitsLt_bf16_f32 (ix2 n j)
      = z (ix3 (seqOf n) (posOf n) ⟨j.val, by omega⟩) * Ideal.ofBits .f32 0x3E000000#32 := by
  unfold seqOf posOf
  pointwise
/-- The second result: the keys. -/
theorem k_at (z : FVec Ideal S4x4096x6664 .f32) (n : Fin 16384) (j : Fin 512) :
    truncf (F := Ideal) .bf16 (shapeCast S16384x512 (extractStridedSlice S4x4096x512 ![0, 0, 512] z slices_S4x4096x6664_S4x4096x512_0_0_512) shapeCasts_S4x4096x512_S16384x512) bitsLt_bf16_f32 (ix2 n j)
      = z (ix3 (seqOf n) (posOf n) ⟨512 + j.val, by omega⟩) := by
  unfold seqOf posOf
  pointwise
/-- An array by time, with one layer. -/
theorem time_at (k : FVec Ideal S4x4096x512 .f32) (b : Fin 4) (j : Fin 512) (n : Fin 4096) :
    broadcastInDim S1x4x512x4096 ![1, 2, 3] bcast_S4x512x4096_S1x4x512x4096_1_2_3 (transpose S4x512x4096 [0, 2, 1] k transposes_S4x4096x512_S4x512x4096_0_2_1) (ix4 0 b j n)
      = k (ix3 b n j) := by
  pointwise
/-- The same for the forget gates. -/
theorem time8_at (k : FVec Ideal S4x4096x8 .f32) (b : Fin 4) (j : Fin 8) (n : Fin 4096) :
    broadcastInDim S1x4x8x4096 ![1, 2, 3] bcast_S4x8x4096_S1x4x8x4096_1_2_3 (transpose S4x8x4096 [0, 2, 1] k transposes_S4x4096x8_S4x8x4096_0_2_1) (ix4 0 b j n)
      = k (ix3 b n j) := by
  pointwise
/-- A slice of the projections that holds the keys. -/
theorem kz_at (z : FVec Ideal S4x4096x6664 .f32) (b : Fin 4) (n : Fin 4096) (j : Fin 512) :
    extractStridedSlice S4x4096x512 ![0, 0, 512] z slices_S4x4096x6664_S4x4096x512_0_0_512 (ix3 b n j) = z (ix3 b n ⟨512 + j.val, by omega⟩) := by
  pointwise
/-- A slice of the projections that holds the values. -/
theorem vz_at (z : FVec Ideal S4x4096x6664 .f32) (b : Fin 4) (n : Fin 4096) (j : Fin 512) :
    extractStridedSlice S4x4096x512 ![0, 0, 1024] z slices_S4x4096x6664_S4x4096x512_0_0_1024 (ix3 b n j) = z (ix3 b n ⟨1024 + j.val, by omega⟩) := by
  pointwise
/-- The values by time, rounded. -/
theorem vt_at (z : FVec Ideal S4x4096x6664 .f32) (b : Fin 4) (n : Fin 4096) (j : Fin 512) :
    truncf (F := Ideal) .bf16 (transpose S4x512x4096 [0, 2, 1] (extractStridedSlice S4x4096x512 ![0, 0, 1024] z slices_S4x4096x6664_S4x4096x512_0_0_1024) transposes_S4x4096x512_S4x512x4096_0_2_1) bitsLt_bf16_f32 (ix3 b j n)
      = z (ix3 b n ⟨1024 + j.val, by omega⟩) := by
  pointwise
/-- The forget gates by rows. -/
theorem flat8_at (k : FVec Ideal S4x4096x8 .f32) (n : Fin 16384) (h : Fin 8) :
    shapeCast S16384x8 k shapeCasts_S4x4096x8_S16384x8 (ix2 n h) = k (ix3 (seqOf n) (posOf n) h) := by
  unfold seqOf posOf
  pointwise
/-- The gated linear unit. -/
theorem u_at (z : FVec Ideal S4x4096x6664 .f32) (n : Fin 16384) (j : Fin 512) :
    shapeCast S16384x512 (mulf (extractStridedSlice S4x4096x512 ![0, 0, 0] (extractStridedSlice S4x4096x1024 ![0, 0, 1544] z slices_S4x4096x6664_S4x4096x1024_0_0_1544) slices_S4x4096x1024_S4x4096x512_0_0_0) (Host.divf (broadcastInDim S4x4096x512 ![] bcast_S_S4x4096x512 (constant (F := Ideal) S_ .f32 0x3F800000#32)) (addf (broadcastInDim S4x4096x512 ![] bcast_S_S4x4096x512 (constant S_ .f32 0x3F800000#32)) (Host.exp (Host.negf (extractStridedSlice S4x4096x512 ![0, 0, 512] (extractStridedSlice S4x4096x1024 ![0, 0, 1544] z slices_S4x4096x6664_S4x4096x1024_0_0_1544) slices_S4x4096x1024_S4x4096x512_0_0_512)))))) shapeCasts_S4x4096x512_S16384x512 (ix2 n j)
      = z (ix3 (seqOf n) (posOf n) ⟨1544 + j.val, by omega⟩) * Ideal.logistic (z (ix3 (seqOf n) (posOf n) ⟨2056 + j.val, by omega⟩)) := by
  unfold seqOf posOf
  have e : (⟨2056 + j.val, by omega⟩ : Fin 6664) = ⟨1544 + (512 + j.val), by omega⟩ := Fin.ext (by show 2056 + j.val = 1544 + (512 + j.val); omega)
  rw [e]
  pointwise
  rfl
/-- The recurrent branch's input. -/
theorem rg_at (z : FVec Ideal S4x4096x6664 .f32) (n : Fin 16384) (j : Fin 512) :
    shapeCast S16384x512 (extractStridedSlice S4x4096x512 ![0, 0, 2568] z slices_S4x4096x6664_S4x4096x512_0_0_2568) shapeCasts_S4x4096x512_S16384x512 (ix2 n j)
      = z (ix3 (seqOf n) (posOf n) ⟨2568 + j.val, by omega⟩) := by
  unfold seqOf posOf
  pointwise
/-- The recurrent branch's gate, of its columns. -/
theorem gg_at (y : FVec Ideal S4x4096x512 .f32) (n : Fin 16384) (j : Fin 512) :
    truncf (F := Ideal) .bf16 (shapeCast S16384x512 (mulf y (mulf (broadcastInDim S4x4096x512 ![] bcast_S_S4x4096x512 (constant S_ .f32 0x3F000000#32)) (addf (broadcastInDim S4x4096x512 ![] bcast_S_S4x4096x512 (constant S_ .f32 0x3F800000#32)) (Host.tanh (mulf (broadcastInDim S4x4096x512 ![] bcast_S_S4x4096x512 (constant S_ .f32 0x3F4C422A#32)) (addf y (mulf (broadcastInDim S4x4096x512 ![] bcast_S_S4x4096x512 (constant S_ .f32 0x3D372713#32)) (mulf (mulf y y) y)))))))) shapeCasts_S4x4096x512_S16384x512) bitsLt_bf16_f32 (ix2 n j)
      = gelu (y (ix3 (seqOf n) (posOf n) j)) := by
  unfold seqOf posOf gelu
  pointwise
/-- The slice of the projections that holds the recurrent branch's gate. -/
theorem gz_at (z : FVec Ideal S4x4096x6664 .f32) (b : Fin 4) (n : Fin 4096) (j : Fin 512) :
    extractStridedSlice S4x4096x512 ![0, 0, 3080] z slices_S4x4096x6664_S4x4096x512_0_0_3080 (ix3 b n j) = z (ix3 b n ⟨3080 + j.val, by omega⟩) := by
  pointwise
/-- The gates of the branches. -/
theorem gt_at (z : FVec Ideal S4x4096x6664 .f32) (n : Fin 16384) (j : Fin 3072) :
    truncf (F := Ideal) .bf16 (shapeCast S16384x3072 (Host.divf (broadcastInDim S4x4096x3x1024 ![] bcast_S_S4x4096x3x1024 (constant S_ .f32 0x3F800000#32)) (addf (broadcastInDim S4x4096x3x1024 ![] bcast_S_S4x4096x3x1024 (constant S_ .f32 0x3F800000#32)) (Host.exp (Host.negf (shapeCast S4x4096x3x1024 (extractStridedSlice S4x4096x3072 ![0, 0, 3592] z slices_S4x4096x6664_S4x4096x3072_0_0_3592) shapeCasts_S4x4096x3072_S4x4096x3x1024))))) shapeCasts_S4x4096x3x1024_S16384x3072) bitsLt_bf16_f32 (ix2 n j)
      = Ideal.logistic (z (ix3 (seqOf n) (posOf n) ⟨3592 + j.val, by omega⟩)) := by
  unfold seqOf posOf
  pointwise
  rfl

/-- The queries. -/
theorem q_arr : truncf (F := Ideal) .bf16 (shapeCast S16384x512 (mulf (shapeCast S4x4096x8x64 (extractStridedSlice S4x4096x512 ![0, 0, 0] (Z a0 a1) slices_S4x4096x6664_S4x4096x512_0_0_0) shapeCasts_S4x4096x512_S4x4096x8x64) (broadcastInDim S4x4096x8x64 ![] bcast_S_S4x4096x8x64 (constant S_ .f32 0x3E000000#32))) shapeCasts_S4x4096x8x64_S16384x512) bitsLt_bf16_f32
      = (fun i => qF (X a0) (W a1) (i 0) (i 1) : FVec Ideal S16384x512 .bf16) := by
  funext i
  idx_vars i
  exact (q_at _ i0 i1).trans (congrArg (· * _) (Z_at a0 a1 _ _ _))

/-- The keys. -/
theorem k_arr : truncf (F := Ideal) .bf16 (shapeCast S16384x512 (extractStridedSlice S4x4096x512 ![0, 0, 512] (Z a0 a1) slices_S4x4096x6664_S4x4096x512_0_0_512) shapeCasts_S4x4096x512_S16384x512) bitsLt_bf16_f32
      = (fun i => kF (X a0) (W a1) (seqOf (i 0)) (posOf (i 0)) (i 1) : FVec Ideal S16384x512 .bf16) := by
  funext i
  idx_vars i
  exact (k_at _ i0 i1).trans (Z_at a0 a1 _ _ _)

/-- The keys by time. -/
theorem kt_arr : broadcastInDim S1x4x512x4096 ![1, 2, 3] bcast_S4x512x4096_S1x4x512x4096_1_2_3 (transpose S4x512x4096 [0, 2, 1] (extractStridedSlice S4x4096x512 ![0, 0, 512] (Z a0 a1) slices_S4x4096x6664_S4x4096x512_0_0_512) transposes_S4x4096x512_S4x512x4096_0_2_1)
      = (fun i => kF (X a0) (W a1) (i 1) (i 3) (i 2) : FVec Ideal S1x4x512x4096 .f32) := by
  funext i
  idx_vars i
  obtain rfl : i0 = 0 := Subsingleton.elim _ _
  exact (time_at _ i1 i2 i3).trans ((kz_at _ i1 i3 i2).trans (Z_at a0 a1 _ _ _))

/-- The values by time. -/
theorem vt_arr : broadcastInDim S1x4x512x4096 ![1, 2, 3] bcast_S4x512x4096_S1x4x512x4096_1_2_3 (transpose S4x512x4096 [0, 2, 1] (extractStridedSlice S4x4096x512 ![0, 0, 1024] (Z a0 a1) slices_S4x4096x6664_S4x4096x512_0_0_1024) transposes_S4x4096x512_S4x512x4096_0_2_1)
      = (fun i => vF (X a0) (W a1) (i 1) (i 3) (i 2) : FVec Ideal S1x4x512x4096 .f32) := by
  funext i
  idx_vars i
  obtain rfl : i0 = 0 := Subsingleton.elim _ _
  exact (time_at _ i1 i2 i3).trans ((vz_at _ i1 i3 i2).trans (Z_at a0 a1 _ _ _))

/-- The values by time, rounded. -/
theorem vb_arr : truncf (F := Ideal) .bf16 (transpose S4x512x4096 [0, 2, 1] (extractStridedSlice S4x4096x512 ![0, 0, 1024] (Z a0 a1) slices_S4x4096x6664_S4x4096x512_0_0_1024) transposes_S4x4096x512_S4x512x4096_0_2_1) bitsLt_bf16_f32
      = (fun i => vF (X a0) (W a1) (i 0) (i 2) (i 1) : FVec Ideal S4x512x4096 .bf16) := by
  funext i
  idx_vars i
  exact (vt_at _ i0 i2 i1).trans (Z_at a0 a1 _ _ _)

/-- The logarithms of the forget gates. -/
theorem lf_arr : shapeCast S16384x8 (LF a2 (Z a0 a1)) shapeCasts_S4x4096x8_S16384x8
      = (fun i => lfF (X a0) (W a1) (B a2) (seqOf (i 0)) (posOf (i 0)) (i 1) : FVec Ideal S16384x8 .f32) := by
  funext i
  idx_vars i
  exact (flat8_at _ i0 i1).trans ((LF_at a2 _ _ _ _).trans (congrArg (fun a => logSig (a + _)) (Z_at a0 a1 _ _ _)))

/-- The logarithms of the forget gates by time. -/
theorem lft_arr : broadcastInDim S1x4x8x4096 ![1, 2, 3] bcast_S4x8x4096_S1x4x8x4096_1_2_3 (transpose S4x8x4096 [0, 2, 1] (LF a2 (Z a0 a1)) transposes_S4x4096x8_S4x8x4096_0_2_1)
      = (fun i => lfF (X a0) (W a1) (B a2) (i 1) (i 3) (i 2) : FVec Ideal S1x4x8x4096 .f32) := by
  funext i
  idx_vars i
  obtain rfl : i0 = 0 := Subsingleton.elim _ _
  exact (time8_at _ i1 i2 i3).trans ((LF_at a2 _ _ _ _).trans (congrArg (fun a => logSig (a + _)) (Z_at a0 a1 _ _ _)))

/-- The gated linear unit. -/
theorem u_arr : shapeCast S16384x512 (mulf (extractStridedSlice S4x4096x512 ![0, 0, 0] (extractStridedSlice S4x4096x1024 ![0, 0, 1544] (Z a0 a1) slices_S4x4096x6664_S4x4096x1024_0_0_1544) slices_S4x4096x1024_S4x4096x512_0_0_0) (Host.divf (broadcastInDim S4x4096x512 ![] bcast_S_S4x4096x512 (constant (F := Ideal) S_ .f32 0x3F800000#32)) (addf (broadcastInDim S4x4096x512 ![] bcast_S_S4x4096x512 (constant S_ .f32 0x3F800000#32)) (Host.exp (Host.negf (extractStridedSlice S4x4096x512 ![0, 0, 512] (extractStridedSlice S4x4096x1024 ![0, 0, 1544] (Z a0 a1) slices_S4x4096x6664_S4x4096x1024_0_0_1544) slices_S4x4096x1024_S4x4096x512_0_0_512)))))) shapeCasts_S4x4096x512_S16384x512
      = (fun i => uF (X a0) (W a1) (i 0) (i 1) : FVec Ideal S16384x512 .f32) := by
  funext i
  idx_vars i
  exact (u_at _ i0 i1).trans (congrArg₂ (fun a b => a * Ideal.logistic b) (Z_at a0 a1 _ _ _) (Z_at a0 a1 _ _ _))

/-- The recurrent branch's input. -/
theorem rg_arr : shapeCast S16384x512 (extractStridedSlice S4x4096x512 ![0, 0, 2568] (Z a0 a1) slices_S4x4096x6664_S4x4096x512_0_0_2568) shapeCasts_S4x4096x512_S16384x512
      = (fun i => rgF (X a0) (W a1) (i 0) (i 1) : FVec Ideal S16384x512 .f32) := by
  funext i
  idx_vars i
  exact (rg_at _ i0 i1).trans (Z_at a0 a1 _ _ _)

/-- The recurrent branch's gate, of an array that holds its columns. -/
theorem gg_arr (y : FVec Ideal S4x4096x512 .f32) (hy : ∀ b n (j : Fin 512), y (ix3 b n j) = proj (X a0) (W a1) b n ⟨3080 + j.val, by omega⟩) :
    truncf (F := Ideal) .bf16 (shapeCast S16384x512 (mulf y (mulf (broadcastInDim S4x4096x512 ![] bcast_S_S4x4096x512 (constant S_ .f32 0x3F000000#32)) (addf (broadcastInDim S4x4096x512 ![] bcast_S_S4x4096x512 (constant S_ .f32 0x3F800000#32)) (Host.tanh (mulf (broadcastInDim S4x4096x512 ![] bcast_S_S4x4096x512 (constant S_ .f32 0x3F4C422A#32)) (addf y (mulf (broadcastInDim S4x4096x512 ![] bcast_S_S4x4096x512 (constant S_ .f32 0x3D372713#32)) (mulf (mulf y y) y)))))))) shapeCasts_S4x4096x512_S16384x512) bitsLt_bf16_f32
      = (fun i => ggF (X a0) (W a1) (i 0) (i 1) : FVec Ideal S16384x512 .bf16) := by
  funext i
  idx_vars i
  exact (gg_at _ i0 i1).trans (congrArg gelu (hy _ _ _))

/-- The gates of the branches. -/
theorem gt_arr : truncf (F := Ideal) .bf16 (shapeCast S16384x3072 (Host.divf (broadcastInDim S4x4096x3x1024 ![] bcast_S_S4x4096x3x1024 (constant S_ .f32 0x3F800000#32)) (addf (broadcastInDim S4x4096x3x1024 ![] bcast_S_S4x4096x3x1024 (constant S_ .f32 0x3F800000#32)) (Host.exp (Host.negf (shapeCast S4x4096x3x1024 (extractStridedSlice S4x4096x3072 ![0, 0, 3592] (Z a0 a1) slices_S4x4096x6664_S4x4096x3072_0_0_3592) shapeCasts_S4x4096x3072_S4x4096x3x1024))))) shapeCasts_S4x4096x3x1024_S16384x3072) bitsLt_bf16_f32
      = (fun i => gtF (X a0) (W a1) (i 0) (i 1) : FVec Ideal S16384x3072 .bf16) := by
  funext i
  idx_vars i
  exact (gt_at _ i0 i1).trans (congrArg Ideal.logistic (Z_at a0 a1 _ _ _))

end Cert.Reference3Ideal.After

end
-- ==== Proof.lean ====
module

public import proofs.«01_k».proof.Proof.Gen.KernelIdeal.Value
public import proofs.«01_k».proof.Proof.Gen.ReferenceIdeal.Run
public import proofs.«01_k».proof.Proof.Gen.ReferenceIdeal.Step
public import proofs.«01_k».proof.Defs
public import proofs.«01_k».proof.Proof.RgFold
public import proofs.«01_k».proof.Proof.RgLoop
public import proofs.«01_k».proof.Proof.RgRef
public import proofs.«01_k».proof.Proof.MoClaim
public import proofs.«01_k».proof.Proof.InFold
public import proofs.«01_k».proof.Proof.InRef
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.RgLru

/-- The kernel over words: it ends without fault, its arguments and counters as they were. -/
theorem frame_kernel : Cert.quiescent_Kernel (hKernel := Cert.Kernel.Gen.facts) := fun m ρ _ => Cert.Kernel.Gen.frame m ρ

/-- The kernel over the extended reals: likewise. -/
theorem frame_ideal : Cert.quiescent_KernelIdeal (hKernelIdeal := Cert.KernelIdeal.Gen.facts) := fun m ρ _ => Cert.KernelIdeal.Gen.frame m ρ

/-- The reference over the extended reals: likewise. -/
theorem frame_reference : Cert.quiescent_ReferenceIdeal (hReferenceIdeal := Cert.ReferenceIdeal.Gen.facts) := fun m ρ _ =>
  (θ_run _ _ _).mono (fun r h => ⟨fun c => (h c).2.2, sem_eq_zero_of_no_sems (by decide) r.2⟩) (ReferenceIdeal.Value.run m ρ)

section rows
open Cert.ReferenceIdeal (S4x4096x512 S4x3x512 S4x512 S512 S8x64x64)
variable (a0 : FVec Ideal S4x4096x512 .f32) (a1 : FVec Ideal S4x4096x512 .bf16) (a2 : FVec Ideal S4x3x512 .f32) (a3 a4 : FVec Ideal S4x512 .f32)
  (a5 : FVec Ideal S512 .f32) (a6 : FVec Ideal S8x64x64 .f32) (a7 : FVec Ideal S512 .f32) (a8 : FVec Ideal S8x64x64 .f32) (a9 a10 : FVec Ideal S512 .f32)

/-- The run of a channel over the reference's decays and inputs is its run over the layer's formulas. -/
theorem run_eq (b : Fin 4) (k : Fin 512) (n : ℕ) (hn : n ≤ 4096) (h : EReal) :
    aff (ReferenceIdeal.Loop.col (ReferenceIdeal.Step.A_main_v71 (F := Ideal) a0 a2 a4 a5 a6 a7 a8 a9 a10) b k)
        (ReferenceIdeal.Loop.col (ReferenceIdeal.Step.A_main_v72 (F := Ideal) a0 a2 a4 a5 a6 a7 a8 a9 a10) b k) 0 n h
      = aff (fun n => Ideal.exp (ReferenceIdeal.Before.la a0 a2 a4 a5 a6 a7 a10 b ⟨n % 4096, Nat.mod_lt _ (by decide)⟩ k))
        (fun n => scaleOf (ReferenceIdeal.Before.la a0 a2 a4 a5 a6 a7 a10 b ⟨n % 4096, Nat.mod_lt _ (by decide)⟩ k)
          * (gate (fun h i j => a8 (ix3 h i j)) (fun c => a9 (ix1 c)) (ReferenceIdeal.Before.cv a0 a2 a4 a5 b ⟨n % 4096, Nat.mod_lt _ (by decide)⟩) k
            * ReferenceIdeal.Before.cv a0 a2 a4 a5 b ⟨n % 4096, Nat.mod_lt _ (by decide)⟩ k)) 0 n h := by
  refine aff_congr (fun p _ hp => ?_) (fun p _ hp => ?_) h
  all_goals
    have hp' : p < 4096 := by omega
    have e : (⟨p % 4096, Nat.mod_lt _ (by decide)⟩ : Fin 4096) = ⟨p, hp'⟩ := Fin.ext (Nat.mod_eq_of_lt hp')
    rw [e]
    unfold ReferenceIdeal.Loop.col
    rw [dif_pos hp']
  · exact ReferenceIdeal.Before.decay_at a0 a2 a4 a5 a6 a7 a8 a9 a10 _ b k
  · exact ReferenceIdeal.Before.input_at a0 a2 a4 a5 a6 a7 a8 a9 a10 _ b k

end rows

/-- Kernel and reference leave the same arrays over the extended reals. -/
theorem values : Cert.algebraic_KernelIdeal_ReferenceIdeal (hKernelIdeal := Cert.KernelIdeal.Gen.facts) (hReferenceIdeal := Cert.ReferenceIdeal.Gen.facts) := by
  intro m ρ m' ρ' _ hag
  refine ⟨fun c => KernelIdeal.Tile.rowsK m c, fun c => KernelIdeal.Tile.lastK m c,
    (θ_run _ _ _).mono (fun _ h c => ⟨(h c).1.trans (KernelIdeal.Tile.final12 m c), (h c).2.1.trans (KernelIdeal.Tile.final13 m c), (h c).2.2⟩)
      (KernelIdeal.Value.run_blocks m ρ),
    (θ_run _ _ _).mono (fun _ h c => ⟨(h c).1.trans ?_, (h c).2.1.trans ?_, (h c).2.2⟩) (ReferenceIdeal.Loop.runR m' ρ')⟩
  · obtain ⟨e0, e1, e2, e3, e4, e5, e6, e7, e8, e9, e10⟩ := hag c
    funext i
    unfold ReferenceIdeal.Loop.outRows ReferenceIdeal.Loop.decays ReferenceIdeal.Loop.inputs ReferenceIdeal.Loop.start
    rw [e0, e1, e2, e3, e4, e5, e6, e7, e8, e9, e10]
    exact congrArg (· * _) (run_eq _ _ _ _ _ _ _ _ _ (i 0) (i 2) _ (by have : (i 1).val < 4096 := (i 1).isLt; omega) _)
  · obtain ⟨e0, e1, e2, e3, e4, e5, e6, e7, e8, e9, e10⟩ := hag c
    funext i
    unfold ReferenceIdeal.Loop.outLast ReferenceIdeal.Loop.decays ReferenceIdeal.Loop.inputs ReferenceIdeal.Loop.start
    rw [e0, e2, e3, e4, e5, e6, e7, e8, e9, e10]
    exact run_eq _ _ _ _ _ _ _ _ _ (i 0) (i 2) _ (le_refl _) _

/-- The projections over words: they end without fault, their arguments and counters as they were. -/
theorem frame_kernel3 : Cert.quiescent_Kernel3 (hKernel3 := Cert.Kernel3.Gen.facts) := fun m ρ _ => Cert.Kernel3.Gen.frame m ρ

/-- The projections over the extended reals: likewise. -/
theorem frame_ideal3 : Cert.quiescent_Kernel3Ideal (hKernel3Ideal := Cert.Kernel3Ideal.Gen.facts) := fun m ρ _ => Cert.Kernel3Ideal.Gen.frame m ρ

/-- The projections' reference over the extended reals: likewise. -/
theorem frame_reference3 : Cert.quiescent_Reference3Ideal (hReference3Ideal := Cert.Reference3Ideal.Gen.facts) := fun m ρ _ =>
  (θ_run _ _ _).mono (fun r h => ⟨fun c => (h c).2.2.2.2.2.2.2.2.2.2.2, sem_eq_zero_of_no_sems (by decide) r.2⟩) (Reference3Ideal.Value.run m ρ)

section projections
open Kernel3Ideal.Tile Cert.Inproj

set_option maxHeartbeats 2000000 in
/-- The projection kernel and its reference leave the same arrays over the extended reals. -/
theorem values3 : Cert.algebraic_Kernel3Ideal_Reference3Ideal (hKernel3Ideal := Cert.Kernel3Ideal.Gen.facts) (hReference3Ideal := Cert.Reference3Ideal.Gen.facts) := by
  intro m ρ m' ρ' _ hag
  refine ⟨fun c => fun i => qF (X m c) (W m c) (i 0) (i 1), fun c => fun i => kF (X m c) (W m c) (seqOf (i 0)) (posOf (i 0)) (i 1),
    fun c => fun i => kF (X m c) (W m c) (i 1) (i 3) (i 2), fun c => fun i => vF (X m c) (W m c) (i 1) (i 3) (i 2),
    fun c => fun i => vF (X m c) (W m c) (i 0) (i 2) (i 1), fun c => fun i => lfF (X m c) (W m c) (B m c) (seqOf (i 0)) (posOf (i 0)) (i 1),
    fun c => fun i => lfF (X m c) (W m c) (B m c) (i 1) (i 3) (i 2), fun c => fun i => uF (X m c) (W m c) (i 0) (i 1),
    fun c => fun i => rgF (X m c) (W m c) (i 0) (i 1), fun c => fun i => ggF (X m c) (W m c) (i 0) (i 1),
    fun c => fun i => gtF (X m c) (W m c) (i 0) (i 1),
    (θ_run _ _ _).mono (fun _ h c => ?_) (Kernel3Ideal.Value.run_blocks m ρ),
    (θ_run _ _ _).mono (fun _ h c => ?_) (Reference3Ideal.Value.run m' ρ')⟩
  · obtain ⟨h0, h1, _, h2, h3, h4, h5, h6, h7, h8, h9, h10, hs⟩ := h c
    exact ⟨h0.trans (final10 m c), h1.trans (final11 m c), h2.trans (final13 m c), h3.trans (final14 m c), h4.trans (final15 m c),
      h5.trans (final16 m c), h6.trans (final17 m c), h7.trans (final18 m c), h8.trans (final19 m c), h9.trans (final20 m c),
      h10.trans (final21 m c), hs⟩
  · obtain ⟨h0, h1, h2, h3, h4, h5, h6, h7, h8, h9, h10, hs⟩ := h c
    obtain ⟨e0, e1, e2⟩ := hag c
    rw [e0, e1] at h0 h1 h2 h3 h4 h7 h8 h9 h10
    rw [e0, e1, e2] at h5 h6
    exact ⟨h0.trans (Reference3Ideal.After.q_arr _ _), h1.trans (Reference3Ideal.After.k_arr _ _), h2.trans (Reference3Ideal.After.kt_arr _ _),
      h3.trans (Reference3Ideal.After.vt_arr _ _), h4.trans (Reference3Ideal.After.vb_arr _ _), h5.trans (Reference3Ideal.After.lf_arr _ _ _),
      h6.trans (Reference3Ideal.After.lft_arr _ _ _), h7.trans (Reference3Ideal.After.u_arr _ _), h8.trans (Reference3Ideal.After.rg_arr _ _),
      h9.trans (Reference3Ideal.After.gg_arr _ _ _ fun b n j => (Reference3Ideal.After.gz_at _ b n j).trans (Reference3Ideal.After.Z_at _ _ _ _ _)), h10.trans (Reference3Ideal.After.gt_arr _ _), hs⟩

end projections

/-- The whole claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_tables.Gen.facts,
  frame_kernel, frame_ideal, frame_reference, frame_kernel2, frame_ideal2, frame_reference2, frame_reference2_pre,
  frame_kernel3, frame_ideal3, frame_reference3, trivial, values, trivial, values2, trivial, values3⟩

end Cert.Proof

end
